-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39_0)) (v1 : (c : Dev Cert.KernelIdeal.nD) → Buf (Elt Ideal) ((c.tc : Thread Cert.KernelIdeal.nD Cert.KernelIdeal.τ).loc Cert.KernelIdeal.main_v39_1)) (v2 : (c : Dev Cert.KernelIdeal.nD) → Buf (Elt Ideal) ((c.tc : Thread Cert.KernelIdeal.nD Cert.KernelIdeal.τ).loc Cert.KernelIdeal.main_v39_2)) (v3 : (c : Dev Cert.KernelIdeal.nD) → Buf (Elt Ideal) ((c.tc : Thread Cert.KernelIdeal.nD Cert.KernelIdeal.τ).loc Cert.KernelIdeal.main_v39_3)) (v4 : (c : Dev Cert.KernelIdeal.nD) → Buf (Elt Ideal) ((c.tc : Thread Cert.KernelIdeal.nD Cert.KernelIdeal.τ).loc Cert.KernelIdeal.main_v39_4)) (v5 : (c : Dev Cert.KernelIdeal.nD) → Buf (Elt Ideal) ((c.tc : Thread Cert.KernelIdeal.nD Cert.KernelIdeal.τ).loc Cert.KernelIdeal.main_v39_5)) (v6 : (c : Dev Cert.KernelIdeal.nD) → Buf (Elt Ideal) ((c.tc : Thread Cert.KernelIdeal.nD Cert.KernelIdeal.τ).loc Cert.KernelIdeal.main_v39_6)) (v7 : (c : Dev Cert.KernelIdeal.nD) → Buf (Elt Ideal) ((c.tc : Thread Cert.KernelIdeal.nD Cert.KernelIdeal.τ).loc Cert.KernelIdeal.main_v39_7)) (v8 : (c : Dev Cert.KernelIdeal.nD) → Buf (Elt Ideal) ((c.tc : Thread Cert.KernelIdeal.nD Cert.KernelIdeal.τ).loc Cert.KernelIdeal.main_v39_8)) (v9 : (c : Dev Cert.KernelIdeal.nD) → Buf (Elt Ideal) ((c.tc : Thread Cert.KernelIdeal.nD Cert.KernelIdeal.τ).loc Cert.KernelIdeal.main_v39_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39_0) = v0 c
          ∧ r.2.mem ((c.tc : Thread Cert.KernelIdeal.nD Cert.KernelIdeal.τ).loc Cert.KernelIdeal.main_v39_1) = v1 c
          ∧ r.2.mem ((c.tc : Thread Cert.KernelIdeal.nD Cert.KernelIdeal.τ).loc Cert.KernelIdeal.main_v39_2) = v2 c
          ∧ r.2.mem ((c.tc : Thread Cert.KernelIdeal.nD Cert.KernelIdeal.τ).loc Cert.KernelIdeal.main_v39_3) = v3 c
          ∧ r.2.mem ((c.tc : Thread Cert.KernelIdeal.nD Cert.KernelIdeal.τ).loc Cert.KernelIdeal.main_v39_4) = v4 c
          ∧ r.2.mem ((c.tc : Thread Cert.KernelIdeal.nD Cert.KernelIdeal.τ).loc Cert.KernelIdeal.main_v39_5) = v5 c
          ∧ r.2.mem ((c.tc : Thread Cert.KernelIdeal.nD Cert.KernelIdeal.τ).loc Cert.KernelIdeal.main_v39_6) = v6 c
          ∧ r.2.mem ((c.tc : Thread Cert.KernelIdeal.nD Cert.KernelIdeal.τ).loc Cert.KernelIdeal.main_v39_7) = v7 c
          ∧ r.2.mem ((c.tc : Thread Cert.KernelIdeal.nD Cert.KernelIdeal.τ).loc Cert.KernelIdeal.main_v39_8) = v8 c
          ∧ r.2.mem ((c.tc : Thread Cert.KernelIdeal.nD Cert.KernelIdeal.τ).loc Cert.KernelIdeal.main_v39_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v107) = v1 c
          ∧ r.2.mem ((c.tc : Thread Cert.ReferenceIdeal.nD Cert.ReferenceIdeal.τ).loc Cert.ReferenceIdeal.main_v106) = v2 c
          ∧ r.2.mem ((c.tc : Thread Cert.ReferenceIdeal.nD Cert.ReferenceIdeal.τ).loc Cert.ReferenceIdeal.main_v99) = v3 c
          ∧ r.2.mem ((c.tc : Thread Cert.ReferenceIdeal.nD Cert.ReferenceIdeal.τ).loc Cert.ReferenceIdeal.main_v95) = v4 c
          ∧ r.2.mem ((c.tc : Thread Cert.ReferenceIdeal.nD Cert.ReferenceIdeal.τ).loc Cert.ReferenceIdeal.main_v109) = v5 c
          ∧ r.2.mem ((c.tc : Thread Cert.ReferenceIdeal.nD Cert.ReferenceIdeal.τ).loc Cert.ReferenceIdeal.main_v101) = v6 c
          ∧ r.2.mem ((c.tc : Thread Cert.ReferenceIdeal.nD Cert.ReferenceIdeal.τ).loc Cert.ReferenceIdeal.main_v97) = v7 c
          ∧ r.2.mem ((c.tc : Thread Cert.ReferenceIdeal.nD Cert.ReferenceIdeal.τ).loc Cert.ReferenceIdeal.main_v77) = v8 c
          ∧ r.2.mem ((c.tc : Thread Cert.ReferenceIdeal.nD Cert.ReferenceIdeal.τ).loc Cert.ReferenceIdeal.main_v59) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_v27) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v15) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Pre_finite.lean ====
abbrev S8192x512 : Shape := ⟨2, ![8192, 512]⟩
abbrev S8192x7680 : Shape := ⟨2, ![8192, 7680]⟩
abbrev S512x1024 : Shape := ⟨2, ![512, 1024]⟩
abbrev S1024x1024 : Shape := ⟨2, ![1024, 1024]⟩
abbrev S1x1024 : Shape := ⟨2, ![1, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  bcast_S_S8192x7680 : S_.BroadcastsInDim S8192x7680 (![] : Fin 0 → Fin S8192x7680.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S8192x1024 : S_.BroadcastsInDim S8192x1024 (![] : Fin 0 → Fin S8192x1024.rank)

variable [Facts]

def fn_part1 {F : FTy → Type} [FloatOps F] (main_arg6 : FVec F S512x1024 .f32) (main_arg7 : FVec F S1024x1024 .f32) (main_arg8 : FVec F S1x1024 .f32) (main_arg9 : FVec F S8192x1024 .f32) (main_v2 : IVec S8192x512 1) (main_v5 : IVec S8192x512 1) (main_v8 : IVec S8192x512 1) (main_v11 : IVec S8192x7680 1) (main_v14 : IVec S512x1024 1) (main_v17 : IVec S512x1024 1) : IVec S8192x512 1 × IVec S8192x512 1 × IVec S8192x512 1 × IVec S8192x7680 1 × IVec S512x1024 1 × IVec S512x1024 1 × IVec S512x1024 1 × IVec S1024x1024 1 × IVec S1x1024 1 × IVec S8192x1024 1 :=
  let main_v18 : FVec F S512x1024 .f32 := Host.absf main_arg6
  let main_cst_5 : FVec F S_ .f32 := constant S_ .f32 0x7F800000#32
  let main_v19 : FVec F S512x1024 .f32 := broadcastInDim S512x1024 ![] bcast_S_S512x1024 main_cst_5
  let main_v20 : IVec S512x1024 1 := cmpf .olt main_v18 main_v19
  let main_v21 : FVec F S1024x1024 .f32 := Host.absf main_arg7
  let main_cst_6 : FVec F S_ .f32 := constant S_ .f32 0x7F800000#32
  let main_v22 : FVec F S1024x1024 .f32 := broadcastInDim S1024x1024 ![] bcast_S_S1024x1024 main_cst_6
  let main_v23 : IVec S1024x1024 1 := cmpf .olt main_v21 main_v22
  let main_v24 : FVec F S1x1024 .f32 := Host.absf main_arg8
  let main_cst_7 : FVec F S_ .f32 := constant S_ .f32 0x7F800000#32
  let main_v25 : FVec F S1x1024 .f32 := broadcastInDim S1x1024 ![] bcast_S_S1x1024 main_cst_7
  let main_v26 : IVec S1x1024 1 := cmpf .olt main_v24 main_v25
  let main_v27 : FVec F S8192x1024 .f32 := Host.absf main_arg9
  let main_cst_8 : FVec F S_ .f32 := constant S_ .f32 0x7F800000#32
  let main_v28 : FVec F S8192x1024 .f32 := broadcastInDim S8192x1024 ![] bcast_S_S8192x1024 main_cst_8
  let main_v29 : IVec S8192x1024 1 := cmpf .olt main_v27 main_v28
  (main_v2, main_v5, main_v8, main_v11, main_v14, main_v17, main_v20, main_v23, main_v26, main_v29)

def fn {F : FTy → Type} [FloatOps F] (main_arg0 : FVec F S8192x512 .bf16) (main_arg1 : FVec F S8192x512 .bf16) (main_arg2 : FVec F S8192x512 .bf16) (main_arg3 : FVec F S8192x7680 .bf16) (main_arg4 : FVec F S512x1024 .f32) (main_arg5 : FVec F S512x1024 .f32) (main_arg6 : FVec F S512x1024 .f32) (main_arg7 : FVec F S1024x1024 .f32) (main_arg8 : FVec F S1x1024 .f32) (main_arg9 : FVec F S8192x1024 .f32) : IVec S8192x512 1 × IVec S8192x512 1 × IVec S8192x512 1 × IVec S8192x7680 1 × IVec S512x1024 1 × IVec S512x1024 1 × IVec S512x1024 1 × IVec S1024x1024 1 × IVec S1x1024 1 × IVec S8192x1024 1 :=
  let main_v0 : FVec F S8192x512 .bf16 := Host.absf main_arg0
  let main_cst : FVec F S_ .bf16 := constant S_ .bf16 0x7F80#16
  let main_v1 : FVec F S8192x512 .bf16 := broadcastInDim S8192x512 ![] bcast_S_S8192x512 main_cst
  let main_v2 : IVec S8192x512 1 := cmpf .olt main_v0 main_v1
  let main_v3 : FVec F S8192x512 .bf16 := Host.absf main_arg1
  let main_cst_0 : FVec F S_ .bf16 := constant S_ .bf16 0x7F80#16
  let main_v4 : FVec F S8192x512 .bf16 := broadcastInDim S8192x512 ![] bcast_S_S8192x512 main_cst_0
  let main_v5 : IVec S8192x512 1 := cmpf .olt main_v3 main_v4
  let main_v6 : FVec F S8192x512 .bf16 := Host.absf main_arg2
  let main_cst_1 : FVec F S_ .bf16 := constant S_ .bf16 0x7F80#16
  let main_v7 : FVec F S8192x512 .bf16 := broadcastInDim S8192x512 ![] bcast_S_S8192x512 main_cst_1
  let main_v8 : IVec S8192x512 1 := cmpf .olt main_v6 main_v7
  let main_v9 : FVec F S8192x7680 .bf16 := Host.absf main_arg3
  let main_cst_2 : FVec F S_ .bf16 := constant S_ .bf16 0x7F80#16
  let main_v10 : FVec F S8192x7680 .bf16 := broadcastInDim S8192x7680 ![] bcast_S_S8192x7680 main_cst_2
  let main_v11 : IVec S8192x7680 1 := cmpf .olt main_v9 main_v10
  let main_v12 : FVec F S512x1024 .f32 := Host.absf main_arg4
  let main_cst_3 : FVec F S_ .f32 := constant S_ .f32 0x7F800000#32
  let main_v13 : FVec F S512x1024 .f32 := broadcastInDim S512x1024 ![] bcast_S_S512x1024 main_cst_3
  let main_v14 : IVec S512x1024 1 := cmpf .olt main_v12 main_v13
  let main_v15 : FVec F S512x1024 .f32 := Host.absf main_arg5
  let main_cst_4 : FVec F S_ .f32 := constant S_ .f32 0x7F800000#32
  let main_v16 : FVec F S512x1024 .f32 := broadcastInDim S512x1024 ![] bcast_S_S512x1024 main_cst_4
  let main_v17 : IVec S512x1024 1 := cmpf .olt main_v15 main_v16
  fn_part1 (F := F) main_arg6 main_arg7 main_arg8 main_arg9 main_v2 main_v5 main_v8 main_v11 main_v14 main_v17
-- ==== Kernel.lean ====
abbrev S8192x512 : Shape := ⟨2, ![8192, 512]⟩
abbrev S8192x7680 : Shape := ⟨2, ![8192, 7680]⟩
abbrev S512x1024 : Shape := ⟨2, ![512, 1024]⟩
abbrev S1024x1024 : Shape := ⟨2, ![1024, 1024]⟩
abbrev S1x1024 : Shape := ⟨2, ![1, 1024]⟩
abbrev S8192x1024 : Shape := ⟨2, ![8192, 1024]⟩
abbrev S_ : Shape := ⟨0, ![]⟩
abbrev S8192x3072 : Shape := ⟨2, ![8192, 3072]⟩
abbrev S8192x3x1024 : Shape := ⟨3, ![8192, 3, 1024]⟩
abbrev S8192x1x1024 : Shape := ⟨3, ![8192, 1, 1024]⟩
abbrev S256x512 : Shape := ⟨2, ![256, 512]⟩
abbrev S256x1536 : Shape := ⟨2, ![256, 1536]⟩
abbrev S256x1024 : Shape := ⟨2, ![256, 1024]⟩
abbrev S256x3072 : Shape := ⟨2, ![256, 3072]⟩
abbrev S256 : Shape := ⟨1, ![256]⟩
abbrev S256x1 : Shape := ⟨2, ![256, 1]⟩
abbrev S1024 : Shape := ⟨1, ![1024]⟩

abbrev nBuf : Space → Nat
  | .hbm => 69
  | .vmem => 42
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x7680, .bf16⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1x1024, .f32⟩
  | .hbm, ⟨9, _⟩ => ⟨S8192x1024, .f32⟩
  | .hbm, ⟨10, _⟩ => ⟨S512x1024, .bf16⟩
  | .hbm, ⟨11, _⟩ => ⟨S512x1024, .bf16⟩
  | .hbm, ⟨12, _⟩ => ⟨S512x1024, .bf16⟩
  | .hbm, ⟨13, _⟩ => ⟨S1024x1024, .bf16⟩
  | .hbm, ⟨14, _⟩ => ⟨S8192x512, .f32⟩
  | .hbm, ⟨15, _⟩ => ⟨S8192x1024, .f32⟩
  | .hbm, ⟨16, _⟩ => ⟨S8192x512, .f32⟩
  | .hbm, ⟨17, _⟩ => ⟨S8192x512, .bf16⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S_, .f32⟩
  | .hbm, ⟨22, _⟩ => ⟨S8192x512, .f32⟩
  | .hbm, ⟨23, _⟩ => ⟨S8192x512, .f32⟩
  | .hbm, ⟨24, _⟩ => ⟨S_, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S8192x1024, .f32⟩
  | .hbm, ⟨30, _⟩ => ⟨S8192x512, .f32⟩
  | .hbm, ⟨31, _⟩ => ⟨S8192x1024, .f32⟩
  | .hbm, ⟨32, _⟩ => ⟨S8192x3072, .bf16⟩
  | .hbm, ⟨33, _⟩ => ⟨S8192x3072, .f32⟩
  | .hbm, ⟨34, _⟩ => ⟨S8192x3072, .f32⟩
  | .hbm, ⟨35, _⟩ => ⟨S8192x3072, .f32⟩
  | .hbm, ⟨36, _⟩ => ⟨S_, .f32⟩
  | .hbm, ⟨37, _⟩ => ⟨S8192x3072, .f32⟩
  | .hbm, ⟨38, _⟩ => ⟨S8192x3072, .f32⟩
  | .hbm, ⟨39, _⟩ => ⟨S_, .f32⟩
  | .hbm, ⟨40, _⟩ => ⟨S8192x3072, .f32⟩
  | .hbm, ⟨41, _⟩ => ⟨S8192x3072, .f32⟩
  | .hbm, ⟨42, _⟩ => ⟨S8192x3x1024, .f32⟩
  | .hbm, ⟨43, _⟩ => ⟨S8192x1x1024, .f32⟩
  | .hbm, ⟨44, _⟩ => ⟨S8192x1024, .f32⟩
  | .hbm, ⟨45, _⟩ => ⟨S8192x1024, .f32⟩
  | .hbm, ⟨46, _⟩ => ⟨S8192x1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .bf16⟩
  | .hbm, ⟨56, _⟩ => ⟨S8192x1024, .bf16⟩
  | .hbm, ⟨57, _⟩ => ⟨S8192x1024, .bf16⟩
  | .hbm, ⟨58, _⟩ => ⟨S8192x1024, .bf16⟩
  | .hbm, ⟨59, _⟩ => ⟨S8192x512, .bf16⟩
  | .hbm, ⟨60, _⟩ => ⟨S8192x512, .bf16⟩
  | .hbm, ⟨61, _⟩ => ⟨S8192x512, .bf16⟩
  | .hbm, ⟨62, _⟩ => ⟨S8192x512, .bf16⟩
  | .hbm, ⟨63, _⟩ => ⟨S8192x3072, .bf16⟩
  | .hbm, ⟨64, _⟩ => ⟨S512x1024, .f32⟩
  | .hbm, ⟨65, _⟩ => ⟨S512x1024, .f32⟩
  | .hbm, ⟨66, _⟩ => ⟨S512x1024, .f32⟩
  | .hbm, ⟨67, _⟩ => ⟨S1024x1024, .f32⟩
  | .hbm, ⟨68, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x1536, .bf16⟩
  | .local _ .vmem, ⟨9, _⟩ => ⟨S256x1536, .bf16⟩
  | .local _ .vmem, ⟨10, _⟩ => ⟨S256x1536, .bf16⟩
  | .local _ .vmem, ⟨11, _⟩ => ⟨S256x1536, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x512, .bf16⟩
  | .local _ .vmem, ⟨28, _⟩ => ⟨S256x512, .bf16⟩
  | .local _ .vmem, ⟨29, _⟩ => ⟨S256x512, .bf16⟩
  | .local _ .vmem, ⟨30, _⟩ => ⟨S256x512, .bf16⟩
  | .local _ .vmem, ⟨31, _⟩ => ⟨S256x512, .bf16⟩
  | .local _ .vmem, ⟨32, _⟩ => ⟨S256x512, .bf16⟩
  | .local _ .vmem, ⟨33, _⟩ => ⟨S256x512, .bf16⟩
  | .local _ .vmem, ⟨34, _⟩ => ⟨S256x512, .bf16⟩
  | .local _ .vmem, ⟨35, _⟩ => ⟨S256x3072, .bf16⟩
  | .local _ .vmem, ⟨36, _⟩ => ⟨S256x3072, .bf16⟩
  | .local _ .vmem, ⟨37, _⟩ => ⟨S512x1024, .f32⟩
  | .local _ .vmem, ⟨38, _⟩ => ⟨S512x1024, .f32⟩
  | .local _ .vmem, ⟨39, _⟩ => ⟨S512x1024, .f32⟩
  | .local _ .vmem, ⟨40, _⟩ => ⟨S1024x1024, .f32⟩
  | .local _ .vmem, ⟨41, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst : Ref sig .tc := ⟨.hbm, 36, rfl⟩
abbrev main_v18 : Ref sig .tc := ⟨.hbm, 37, rfl⟩
abbrev main_v19 : Ref sig .tc := ⟨.hbm, 38, rfl⟩
abbrev main_cst_0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_v39_2 : Ref sig .tc := ⟨.hbm, 61, rfl⟩
abbrev main_v39_3 : Ref sig .tc := ⟨.hbm, 62, rfl⟩
abbrev main_v39_4 : Ref sig .tc := ⟨.hbm, 63, rfl⟩
abbrev main_v39_5 : Ref sig .tc := ⟨.hbm, 64, rfl⟩
abbrev main_v39_6 : Ref sig .tc := ⟨.hbm, 65, rfl⟩
abbrev main_v39_7 : Ref sig .tc := ⟨.hbm, 66, rfl⟩
abbrev main_v39_8 : Ref sig .tc := ⟨.hbm, 67, rfl⟩
abbrev main_v39_9 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_stg18_1 : Ref sig .tc := ⟨.vmem, 32, rfl⟩
abbrev cc0_stg19_0 : Ref sig .tc := ⟨.vmem, 33, rfl⟩
abbrev cc0_stg19_1 : Ref sig .tc := ⟨.vmem, 34, rfl⟩
abbrev cc0_stg20_0 : Ref sig .tc := ⟨.vmem, 35, rfl⟩
abbrev cc0_stg20_1 : Ref sig .tc := ⟨.vmem, 36, rfl⟩
abbrev cc0_stg21_0 : Ref sig .tc := ⟨.vmem, 37, rfl⟩
abbrev cc0_stg22_0 : Ref sig .tc := ⟨.vmem, 38, rfl⟩
abbrev cc0_stg23_0 : Ref sig .tc := ⟨.vmem, 39, rfl⟩
abbrev cc0_stg24_0 : Ref sig .tc := ⟨.vmem, 40, rfl⟩
abbrev cc0_stg25_0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36
abbrev cc0_sem21_0 : DmaSem sig := 37
abbrev cc0_sem22_0 : DmaSem sig := 38
abbrev cc0_sem23_0 : DmaSem sig := 39
abbrev cc0_sem24_0 : DmaSem sig := 40
abbrev cc0_sem25_0 : DmaSem sig := 41

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x3072 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 1 → Memref sig .tc .vmem S512x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S512x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S512x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1024x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]
-- ==== ReferenceIdeal.lean ====
abbrev S8192x512 : Shape := ⟨2, ![8192, 512]⟩
abbrev S8192x7680 : Shape := ⟨2, ![8192, 7680]⟩
abbrev S512x1024 : Shape := ⟨2, ![512, 1024]⟩
abbrev S1024x1024 : Shape := ⟨2, ![1024, 1024]⟩
abbrev S1x1024 : Shape := ⟨2, ![1, 1024]⟩
abbrev S8192x1024 : Shape := ⟨2, ![8192, 1024]⟩
abbrev S8192x3072 : Shape := ⟨2, ![8192, 3072]⟩
abbrev S_ : Shape := ⟨0, ![]⟩
abbrev S8192x3x1024 : Shape := ⟨3, ![8192, 3, 1024]⟩
abbrev S8192x1x1024 : Shape := ⟨3, ![8192, 1, 1024]⟩
abbrev S8192 : Shape := ⟨1, ![8192]⟩
abbrev S8192x1 : Shape := ⟨2, ![8192, 1]⟩
abbrev S1024 : Shape := ⟨1, ![1024]⟩
abbrev S1024x512 : Shape := ⟨2, ![1024, 512]⟩

abbrev nBuf : Space → Nat
  | .hbm => 151
  | .vmem => 0
  | .smem => 0
  | _ => 0

abbrev hbmTy0_0 (i : Nat) : BufTy := match i % 128 with
  | 0 => ⟨S8192x512, .bf16⟩
  | 1 => ⟨S8192x512, .bf16⟩
  | 2 => ⟨S8192x512, .bf16⟩
  | 3 => ⟨S8192x7680, .bf16⟩
  | 4 => ⟨S512x1024, .f32⟩
  | 5 => ⟨S512x1024, .f32⟩
  | 6 => ⟨S512x1024, .f32⟩
  | 7 => ⟨S1024x1024, .f32⟩
  | 8 => ⟨S1x1024, .f32⟩
  | 9 => ⟨S8192x1024, .f32⟩
  | 10 => ⟨S8192x512, .bf16⟩
  | 11 => ⟨S8192x512, .bf16⟩
  | 12 => ⟨S8192x512, .bf16⟩
  | 13 => ⟨S8192x512, .bf16⟩
  | 14 => ⟨S8192x512, .bf16⟩
  | 15 => ⟨S8192x512, .bf16⟩
  | 16 => ⟨S8192x512, .bf16⟩
  | 17 => ⟨S8192x512, .bf16⟩
  | 18 => ⟨S8192x512, .bf16⟩
  | 19 => ⟨S8192x3072, .bf16⟩
  | 20 => ⟨S8192x512, .f32⟩
  | 21 => ⟨S8192x1024, .f32⟩
  | 22 => ⟨S8192x512, .f32⟩
  | 23 => ⟨S8192x512, .f32⟩
  | 24 => ⟨S8192x512, .f32⟩
  | 25 => ⟨S8192x512, .f32⟩
  | 26 => ⟨S_, .f32⟩
  | 27 => ⟨S8192x512, .f32⟩
  | 28 => ⟨S8192x512, .f32⟩
  | 29 => ⟨S_, .f32⟩
  | 30 => ⟨S8192x512, .f32⟩
  | 31 => ⟨S8192x512, .f32⟩
  | 32 => ⟨S_, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S8192x1024, .f32⟩
  | 39 => ⟨S8192x512, .f32⟩
  | 40 => ⟨S8192x1024, .f32⟩
  | 41 => ⟨S8192x3072, .f32⟩
  | 42 => ⟨S8192x3072, .f32⟩
  | 43 => ⟨S8192x3072, .f32⟩
  | 44 => ⟨S_, .f32⟩
  | 45 => ⟨S8192x3072, .f32⟩
  | 46 => ⟨S8192x3072, .f32⟩
  | 47 => ⟨S_, .f32⟩
  | 48 => ⟨S8192x3072, .f32⟩
  | 49 => ⟨S8192x3072, .f32⟩
  | 50 => ⟨S_, .f32⟩
  | 51 => ⟨S8192x3072, .f32⟩
  | 52 => ⟨S8192x3072, .f32⟩
  | 53 => ⟨S8192x3072, .f32⟩
  | 54 => ⟨S8192x3x1024, .f32⟩
  | 55 => ⟨S8192x1x1024, .f32⟩
  | 56 => ⟨S8192x1024, .f32⟩
  | 57 => ⟨S8192x1024, .f32⟩
  | 58 => ⟨S8192x1x1024, .f32⟩
  | 59 => ⟨S8192x1024, .f32⟩
  | 60 => ⟨S8192x1024, .f32⟩
  | 61 => ⟨S8192x1024, .f32⟩
  | 62 => ⟨S8192x1x1024, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S8192x1024, .f32⟩
  | 83 => ⟨S8192x1024, .f32⟩
  | 84 => ⟨S8192x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S8192x1024, .f32⟩
  | 91 => ⟨S8192x1024, .f32⟩
  | 92 => ⟨S8192x1024, .f32⟩
  | 93 => ⟨S_, .f32⟩
  | 94 => ⟨S8192, .f32⟩
  | 95 => ⟨S8192x1, .f32⟩
  | 96 => ⟨S8192x1024, .f32⟩
  | 97 => ⟨S8192x1024, .f32⟩
  | 98 => ⟨S8192x1, .f32⟩
  | 99 => ⟨S_, .f32⟩
  | 100 => ⟨S8192x1, .f32⟩
  | 101 => ⟨S8192x1, .f32⟩
  | 102 => ⟨S_, .f32⟩
  | 103 => ⟨S8192, .f32⟩
  | 104 => ⟨S8192x1024, .f32⟩
  | 105 => ⟨S8192x1024, .f32⟩
  | 106 => ⟨S8192x1024, .f32⟩
  | 107 => ⟨S8192x1024, .f32⟩
  | 108 => ⟨S8192x1024, .f32⟩
  | 109 => ⟨S1024x1024, .f32⟩
  | 110 => ⟨S1024x1024, .f32⟩
  | 111 => ⟨S8192x1024, .f32⟩
  | 112 => ⟨S8192x1024, .f32⟩
  | 113 => ⟨S8192x1024, .f32⟩
  | 114 => ⟨S8192x1x1024, .f32⟩
  | 115 => ⟨S_, .f32⟩
  | 116 => ⟨S8192x3x1024, .f32⟩
  | 117 => ⟨S8192x1024, .f32⟩
  | 118 => ⟨S8192x1024, .f32⟩
  | 119 => ⟨S8192x1x1024, .f32⟩
  | 120 => ⟨S_, .f32⟩
  | 121 => ⟨S8192x3x1024, .f32⟩
  | 122 => ⟨S8192x3x1024, .f32⟩
  | 123 => ⟨S8192x1024, .f32⟩
  | 124 => ⟨S8192x1024, .f32⟩
  | 125 => ⟨S8192x1x1024, .f32⟩
  | 126 => ⟨S_, .f32⟩
  | 127 => ⟨S8192x3x1024, .f32⟩
  | _ => ⟨S8192x512, .bf16⟩

abbrev hbmTy0_1 (i : Nat) : BufTy := match i % 128 with
  | 0 => ⟨S8192x3x1024, .f32⟩
  | 1 => ⟨S8192x3072, .f32⟩
  | 2 => ⟨S8192x3072, .f32⟩
  | 3 => ⟨S8192x3072, .bf16⟩
  | 4 => ⟨S1024x512, .f32⟩
  | 5 => ⟨S512x1024, .f32⟩
  | 6 => ⟨S8192x512, .f32⟩
  | 7 => ⟨S8192x512, .bf16⟩
  | 8 => ⟨S1024x512, .f32⟩
  | 9 => ⟨S512x1024, .f32⟩
  | 10 => ⟨S8192x512, .f32⟩
  | 11 => ⟨S8192x512, .f32⟩
  | 12 => ⟨S8192x512, .f32⟩
  | 13 => ⟨S8192x512, .f32⟩
  | 14 => ⟨S8192x512, .f32⟩
  | 15 => ⟨S8192x512, .f32⟩
  | 16 => ⟨S8192x512, .f32⟩
  | 17 => ⟨S8192x512, .bf16⟩
  | 18 => ⟨S8192x512, .bf16⟩
  | 19 => ⟨S1024x512, .f32⟩
  | 20 => ⟨S512x1024, .f32⟩
  | 21 => ⟨S8192x512, .f32⟩
  | 22 => ⟨S8192x512, .bf16⟩
  | _ => ⟨S8192x512, .bf16⟩

abbrev hbmTy (i : Nat) : BufTy := match i / 128 with
  | 0 => hbmTy0_0 i
  | 1 => hbmTy0_1 i
  | _ => ⟨S8192x512, .bf16⟩

abbrev bufTy : (tb : Table) → Fin (tcTables nBuf tb) → BufTy
  | .hbm, ⟨i, _⟩ => hbmTy i
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_v14_2 : Ref sig .tc := ⟨.hbm, 31, rfl⟩
abbrev main_call0_cst_1 : Ref sig .tc := ⟨.hbm, 32, rfl⟩
abbrev main_call0_v6 : Ref sig .tc := ⟨.hbm, 33, rfl⟩
abbrev main_call0_v7 : Ref sig .tc := ⟨.hbm, 34, rfl⟩
abbrev main_v14_1 : Ref sig .tc := ⟨.hbm, 35, rfl⟩
abbrev main_v14_0 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_cst : Ref sig .tc := ⟨.hbm, 44, rfl⟩
abbrev main_v22 : Ref sig .tc := ⟨.hbm, 45, rfl⟩
abbrev main_v23 : Ref sig .tc := ⟨.hbm, 46, rfl⟩
abbrev main_cst_0 : Ref sig .tc := ⟨.hbm, 47, rfl⟩
abbrev main_v24 : Ref sig .tc := ⟨.hbm, 48, rfl⟩
abbrev main_v25 : Ref sig .tc := ⟨.hbm, 49, rfl⟩
abbrev main_cst_1 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_2 : Ref sig .tc := ⟨.hbm, 68, rfl⟩
abbrev main_v43 : Ref sig .tc := ⟨.hbm, 69, rfl⟩
abbrev main_v44 : Ref sig .tc := ⟨.hbm, 70, rfl⟩
abbrev main_cst_3 : Ref sig .tc := ⟨.hbm, 71, rfl⟩
abbrev main_v45 : Ref sig .tc := ⟨.hbm, 72, rfl⟩
abbrev main_v46 : Ref sig .tc := ⟨.hbm, 73, rfl⟩
abbrev main_cst_4 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_5 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_6 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_7 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_8 : Ref sig .tc := ⟨.hbm, 99, rfl⟩
abbrev main_v68 : Ref sig .tc := ⟨.hbm, 100, rfl⟩
abbrev main_v69 : Ref sig .tc := ⟨.hbm, 101, rfl⟩
abbrev main_cst_9 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_10 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_cst_11 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_cst_12 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_call1_v0 : Ref sig .tc := ⟨.hbm, 141, rfl⟩
abbrev main_call1_v1 : Ref sig .tc := ⟨.hbm, 142, rfl⟩
abbrev main_call1_v2 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩

abbrev nD : Nat := 1
abbrev τ : Topo := Topo.v7x

variable {F : FTy → Type} [FloatOps F]
-- ==== Kernel2.lean ====
abbrev S8192x1024 : Shape := ⟨2, ![8192, 1024]⟩
abbrev S1x1024 : Shape := ⟨2, ![1, 1024]⟩
abbrev S1024x7680 : Shape := ⟨2, ![1024, 7680]⟩
abbrev S8192x1536 : Shape := ⟨2, ![8192, 1536]⟩
abbrev S8192x512 : Shape := ⟨2, ![8192, 512]⟩
abbrev S8192x3072 : Shape := ⟨2, ![8192, 3072]⟩
abbrev S7680x1024 : Shape := ⟨2, ![7680, 1024]⟩
abbrev S512x1536 : Shape := ⟨2, ![512, 1536]⟩
abbrev S512x512 : Shape := ⟨2, ![512, 512]⟩
abbrev S512x1024 : Shape := ⟨2, ![512, 1024]⟩
abbrev S512x3072 : Shape := ⟨2, ![512, 3072]⟩
abbrev S1536x1024 : Shape := ⟨2, ![1536, 1024]⟩
abbrev S1024x1024 : Shape := ⟨2, ![1024, 1024]⟩
abbrev S3072x1024 : Shape := ⟨2, ![3072, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 23
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x7680, .f32⟩
  | .hbm, ⟨3, _⟩ => ⟨S8192x1536, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x1024, .bf16⟩
  | .hbm, ⟨9, _⟩ => ⟨S8192x3072, .bf16⟩
  | .hbm, ⟨10, _⟩ => ⟨S8192x1024, .f32⟩
  | .hbm, ⟨11, _⟩ => ⟨S7680x1024, .f32⟩
  | .hbm, ⟨12, _⟩ => ⟨S7680x1024, .bf16⟩
  | .hbm, ⟨13, _⟩ => ⟨S8192x1024, .f32⟩
  | .hbm, ⟨14, _⟩ => ⟨S1x1024, .f32⟩
  | .local _ .vmem, ⟨0, _⟩ => ⟨S512x1536, .bf16⟩
  | .local _ .vmem, ⟨1, _⟩ => ⟨S512x1536, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x1024, .bf16⟩
  | .local _ .vmem, ⟨11, _⟩ => ⟨S512x1024, .bf16⟩
  | .local _ .vmem, ⟨12, _⟩ => ⟨S512x3072, .bf16⟩
  | .local _ .vmem, ⟨13, _⟩ => ⟨S512x3072, .bf16⟩
  | .local _ .vmem, ⟨14, _⟩ => ⟨S7680x1024, .bf16⟩
  | .local _ .vmem, ⟨15, _⟩ => ⟨S512x1024, .f32⟩
  | .local _ .vmem, ⟨16, _⟩ => ⟨S512x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S7680x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference2Ideal.lean ====
abbrev S8192x1024 : Shape := ⟨2, ![8192, 1024]⟩
abbrev S1x1024 : Shape := ⟨2, ![1, 1024]⟩
abbrev S1024x7680 : Shape := ⟨2, ![1024, 7680]⟩
abbrev S8192x1536 : Shape := ⟨2, ![8192, 1536]⟩
abbrev S8192x512 : Shape := ⟨2, ![8192, 512]⟩
abbrev S8192x3072 : Shape := ⟨2, ![8192, 3072]⟩
abbrev S8192x7680 : Shape := ⟨2, ![8192, 7680]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 64
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x7680, .f32⟩
  | .hbm, ⟨3, _⟩ => ⟨S8192x1536, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x1024, .bf16⟩
  | .hbm, ⟨9, _⟩ => ⟨S8192x3072, .bf16⟩
  | .hbm, ⟨10, _⟩ => ⟨S8192x1024, .f32⟩
  | .hbm, ⟨11, _⟩ => ⟨S8192x1536, .f32⟩
  | .hbm, ⟨12, _⟩ => ⟨S8192x512, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S8192x1024, .f32⟩
  | .hbm, ⟨17, _⟩ => ⟨S8192x3072, .f32⟩
  | .hbm, ⟨18, _⟩ => ⟨S8192x7680, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x7680, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_cst_0 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_4 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_5 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Kernel3.lean ====
abbrev S8192x1024 : Shape := ⟨2, ![8192, 1024]⟩
abbrev S1x1024 : Shape := ⟨2, ![1, 1024]⟩
abbrev S1024x7680 : Shape := ⟨2, ![1024, 7680]⟩
abbrev S7680x1024 : Shape := ⟨2, ![7680, 1024]⟩
abbrev S8192x7680 : Shape := ⟨2, ![8192, 7680]⟩
abbrev S1024x8192 : Shape := ⟨2, ![1024, 8192]⟩
abbrev S512x1024 : Shape := ⟨2, ![512, 1024]⟩
abbrev S512x7680 : Shape := ⟨2, ![512, 7680]⟩
abbrev S1024x512 : Shape := ⟨2, ![1024, 512]⟩
abbrev S512 : Shape := ⟨1, ![512]⟩
abbrev S512x1 : Shape := ⟨2, ![512, 1]⟩
abbrev S1536x1024 : Shape := ⟨2, ![1536, 1024]⟩
abbrev S512x1536 : Shape := ⟨2, ![512, 1536]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x7680, .f32⟩
  | .hbm, ⟨3, _⟩ => ⟨S7680x1024, .f32⟩
  | .hbm, ⟨4, _⟩ => ⟨S7680x1024, .bf16⟩
  | .hbm, ⟨5, _⟩ => ⟨S8192x7680, .bf16⟩
  | .hbm, ⟨6, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S7680x1024, .bf16⟩
  | .local _ .vmem, ⟨4, _⟩ => ⟨S512x7680, .bf16⟩
  | .local _ .vmem, ⟨5, _⟩ => ⟨S512x7680, .bf16⟩
  | .local _ .vmem, ⟨6, _⟩ => ⟨S1024x512, .bf16⟩
  | .local _ .vmem, ⟨7, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S7680x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x7680 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S8192x1024 : Shape := ⟨2, ![8192, 1024]⟩
abbrev S1x1024 : Shape := ⟨2, ![1, 1024]⟩
abbrev S1024x7680 : Shape := ⟨2, ![1024, 7680]⟩
abbrev S_ : Shape := ⟨0, ![]⟩
abbrev S8192 : Shape := ⟨1, ![8192]⟩
abbrev S8192x1 : Shape := ⟨2, ![8192, 1]⟩
abbrev S8192x7680 : Shape := ⟨2, ![8192, 7680]⟩
abbrev S1024x8192 : Shape := ⟨2, ![1024, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x7680, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x7680, .f32⟩
  | .hbm, ⟨19, _⟩ => ⟨S8192x7680, .bf16⟩
  | .hbm, ⟨20, _⟩ => ⟨S1024x8192, .f32⟩
  | .hbm, ⟨21, _⟩ => ⟨S1024x8192, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel4.lean ====
abbrev S1024x8192 : Shape := ⟨2, ![1024, 8192]⟩
abbrev S8192x3072 : Shape := ⟨2, ![8192, 3072]⟩
abbrev S7680x1024 : Shape := ⟨2, ![7680, 1024]⟩
abbrev S1024x2048 : Shape := ⟨2, ![1024, 2048]⟩
abbrev S2048x1536 : Shape := ⟨2, ![2048, 1536]⟩
abbrev S1536x1024 : Shape := ⟨2, ![1536, 1024]⟩
abbrev S1024x1536 : Shape := ⟨2, ![1024, 1536]⟩

abbrev nBuf : Space → Nat
  | .hbm => 4
  | .vmem => 7
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S7680x1024, .bf16⟩
  | .hbm, ⟨3, _⟩ => ⟨S7680x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1536x1024, .bf16⟩
  | .local _ .vmem, ⟨5, _⟩ => ⟨S1536x1024, .bf16⟩
  | .local _ .vmem, ⟨6, _⟩ => ⟨S1024x1536, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond3 (i : grid0.Coords) : BitVec 1 :=
  let arg1 : BitVec 32 := BitVec.ofNat 32 (i 1).val
  let c3_i32 : BitVec 32 := 3#32
  let v23 : BitVec 1 := Scalar.cmpi .eq arg1 c3_i32
  let v24 : BitVec 32 := Scalar.extui v23
  let c0_i32_8 : BitVec 32 := 0#32
  let v25 : BitVec 1 := Scalar.cmpi .ne v24 c0_i32_8
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 1 := Scalar.cmpi .eq v16 c0_i32_4
  let c0_i32_5 : BitVec 32 := 0#32
  let v18 : BitVec 32 := Scalar.select v17 arg1 c0_i32_5
  let c2_i32_6 : BitVec 32 := 2#32
  let v19 : BitVec 32 := Scalar.divsi arg0 c2_i32_6
  let c0_i32_7 : BitVec 32 := 0#32
  let v20 : BitVec 1 := Scalar.cmpi .sgt arg0 c0_i32_7
  let v21 : BitVec 32 := Scalar.extui v20
  let c0_i32_8 : BitVec 32 := 0#32
  let v22 : BitVec 1 := Scalar.cmpi .slt arg0 c0_i32_8
  let v23 : BitVec 32 := Scalar.extui v22
  let v24 : BitVec 32 := Scalar.subi v21 v23
  let c0_i32_9 : BitVec 32 := 0#32
  let v25 : BitVec 1 := Scalar.cmpi .sgt c2_i32_6 c0_i32_9
  let v26 : BitVec 32 := Scalar.extui v25
  let c0_i32_10 : BitVec 32 := 0#32
  let v27 : BitVec 1 := Scalar.cmpi .slt c2_i32_6 c0_i32_10
  let v28 : BitVec 32 := Scalar.extui v27
  let v29 : BitVec 32 := Scalar.subi v26 v28
  let v30 : BitVec 1 := Scalar.cmpi .ne v24 v29
  let v31 : BitVec 32 := Scalar.remsi arg0 c2_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c0_i32_13 : BitVec 32 := 0#32
  let v36 : BitVec 1 := Scalar.cmpi .eq v35 c0_i32_13
  let c2_i32_14 : BitVec 32 := 2#32
  let c0_i32_15 : BitVec 32 := 0#32
  let v37 : BitVec 1 := Scalar.cmpi .eq c2_i32_14 c0_i32_15
  let c1_i32_16 : BitVec 32 := 1#32
  let v38 : BitVec 32 := Scalar.select v37 c1_i32_16 c2_i32_14
  let v39 : BitVec 32 := Scalar.remsi arg0 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![v0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1536x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S1024x8192 : Shape := ⟨2, ![1024, 8192]⟩
abbrev S8192x3072 : Shape := ⟨2, ![8192, 3072]⟩
abbrev S7680x1024 : Shape := ⟨2, ![7680, 1024]⟩
abbrev S_ : Shape := ⟨0, ![]⟩
abbrev S1024x3072 : Shape := ⟨2, ![1024, 3072]⟩
abbrev S8192x1024 : Shape := ⟨2, ![8192, 1024]⟩
abbrev S3072x1024 : Shape := ⟨2, ![3072, 1024]⟩
abbrev S4608x1024 : Shape := ⟨2, ![4608, 1024]⟩

abbrev nBuf : Space → Nat
  | .hbm => 15
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x3072, .bf16⟩
  | .hbm, ⟨2, _⟩ => ⟨S7680x1024, .bf16⟩
  | .hbm, ⟨3, _⟩ => ⟨S_, .f32⟩
  | .hbm, ⟨4, _⟩ => ⟨S1024x3072, .f32⟩
  | .hbm, ⟨5, _⟩ => ⟨S1024x8192, .f32⟩
  | .hbm, ⟨6, _⟩ => ⟨S8192x1024, .f32⟩
  | .hbm, ⟨7, _⟩ => ⟨S8192x3072, .f32⟩
  | .hbm, ⟨8, _⟩ => ⟨S8192x3072, .f32⟩
  | .hbm, ⟨9, _⟩ => ⟨S3072x1024, .f32⟩
  | .hbm, ⟨10, _⟩ => ⟨S1024x3072, .f32⟩
  | .hbm, ⟨11, _⟩ => ⟨S4608x1024, .bf16⟩
  | .hbm, ⟨12, _⟩ => ⟨S3072x1024, .f32⟩
  | .hbm, ⟨13, _⟩ => ⟨S3072x1024, .bf16⟩
  | .hbm, ⟨14, _⟩ => ⟨S7680x1024, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel5.lean ====
abbrev S1024x8192 : Shape := ⟨2, ![1024, 8192]⟩
abbrev S8192x512 : Shape := ⟨2, ![8192, 512]⟩
abbrev S7680x1024 : Shape := ⟨2, ![7680, 1024]⟩
abbrev S1024x2048 : Shape := ⟨2, ![1024, 2048]⟩
abbrev S2048x512 : Shape := ⟨2, ![2048, 512]⟩
abbrev S512x1024 : Shape := ⟨2, ![512, 1024]⟩
abbrev S1024x512 : Shape := ⟨2, ![1024, 512]⟩

abbrev nBuf : Space → Nat
  | .hbm => 7
  | .vmem => 13
  | .smem => 0
  | _ => 0

abbrev bufTy : (tb : Table) → Fin (tcTables nBuf tb) → BufTy
  | .hbm, ⟨0, _⟩ => ⟨S1024x8192, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S7680x1024, .bf16⟩
  | .hbm, ⟨6, _⟩ => ⟨S7680x1024, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S2048x512, .bf16⟩
  | .local _ .vmem, ⟨10, _⟩ => ⟨S512x1024, .bf16⟩
  | .local _ .vmem, ⟨11, _⟩ => ⟨S512x1024, .bf16⟩
  | .local _ .vmem, ⟨12, _⟩ => ⟨S1024x512, .f32⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 4], ![false, false]⟩

def k0_cond6 (i : grid0.Coords) : BitVec 1 :=
  let arg1 : BitVec 32 := BitVec.ofNat 32 (i 1).val
  let c3_i32_34 : BitVec 32 := 3#32
  let v83 : BitVec 1 := Scalar.cmpi .eq arg1 c3_i32_34
  let v84 : BitVec 32 := Scalar.extui v83
  let c0_i32_35 : BitVec 32 := 0#32
  let v85 : BitVec 1 := Scalar.cmpi .ne v84 c0_i32_35
  v85

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 1 := Scalar.cmpi .eq v16 c0_i32_5
  let c0_i32_6 : BitVec 32 := 0#32
  let v18 : BitVec 32 := Scalar.select v17 arg1 c0_i32_6
  let c1_i32_7 : BitVec 32 := 1#32
  let v19 : BitVec 32 := Scalar.divsi arg0 c1_i32_7
  let c0_i32_8 : BitVec 32 := 0#32
  let v20 : BitVec 1 := Scalar.cmpi .sgt arg0 c0_i32_8
  let v21 : BitVec 32 := Scalar.extui v20
  let c0_i32_9 : BitVec 32 := 0#32
  let v22 : BitVec 1 := Scalar.cmpi .slt arg0 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg0 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c0_i32_14 : BitVec 32 := 0#32
  let v36 : BitVec 1 := Scalar.cmpi .eq v35 c0_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg0 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 1 := Scalar.cmpi .eq v16 c1_i32_5
  let c0_i32_6 : BitVec 32 := 0#32
  let v18 : BitVec 32 := Scalar.select v17 arg1 c0_i32_6
  let c1_i32_7 : BitVec 32 := 1#32
  let v19 : BitVec 32 := Scalar.divsi arg0 c1_i32_7
  let c0_i32_8 : BitVec 32 := 0#32
  let v20 : BitVec 1 := Scalar.cmpi .sgt arg0 c0_i32_8
  let v21 : BitVec 32 := Scalar.extui v20
  let c0_i32_9 : BitVec 32 := 0#32
  let v22 : BitVec 1 := Scalar.cmpi .slt arg0 c0_i32_9
  let v23 : BitVec 32 := Scalar.extui v22
  let v24 : BitVec 32 := Scalar.subi v21 v23
  let c0_i32_10 : BitVec 32 := 0#32
  let v25 : BitVec 1 := Scalar.cmpi .sgt c1_i32_7 c0_i32_10
  let v26 : BitVec 32 := Scalar.extui v25
  let c0_i32_11 : BitVec 32 := 0#32
  let v27 : BitVec 1 := Scalar.cmpi .slt c1_i32_7 c0_i32_11
  let v28 : BitVec 32 := Scalar.extui v27
  let v29 : BitVec 32 := Scalar.subi v26 v28
  let v30 : BitVec 1 := Scalar.cmpi .ne v24 v29
  let v31 : BitVec 32 := Scalar.remsi arg0 c1_i32_7
  let c0_i32_12 : BitVec 32 := 0#32
  let v32 : BitVec 1 := Scalar.cmpi .ne v31 c0_i32_12
  let v33 : BitVec 1 := Scalar.andi v30 v32
  let c1_i32_13 : BitVec 32 := 1#32
  let v34 : BitVec 32 := Scalar.subi v19 c1_i32_13
  let v35 : BitVec 32 := Scalar.select v33 v34 v19
  let c1_i32_14 : BitVec 32 := 1#32
  let v36 : BitVec 1 := Scalar.cmpi .eq v35 c1_i32_14
  let c1_i32_15 : BitVec 32 := 1#32
  let c0_i32_16 : BitVec 32 := 0#32
  let v37 : BitVec 1 := Scalar.cmpi .eq c1_i32_15 c0_i32_16
  let c1_i32_17 : BitVec 32 := 1#32
  let v38 : BitVec 32 := Scalar.select v37 c1_i32_17 c1_i32_15
  let v39 : BitVec 32 := Scalar.remsi arg0 v38
  let c0_i32_18 : BitVec 32 := 0#32
  let v40 : BitVec 1 := Scalar.cmpi .ne v39 c0_i32_18
  let c0_i32_19 : BitVec 32 := 0#32
  let v41 : BitVec 1 := Scalar.cmpi .slt v39 c0_i32_19
  let c0_i32_20 : BitVec 32 := 0#32
  let v42 : BitVec 1 := Scalar.cmpi .slt v38 c0_i32_20
  let v43 : BitVec 1 := Scalar.xori v41 v42
  let v44 : BitVec 1 := Scalar.andi v43 v40
  let v45 : BitVec 32 := Scalar.addi v39 v38
  let v46 : BitVec 32 := Scalar.select v44 v45 v39
  let c0_i32_21 : BitVec 32 := 0#32
  let v47 : BitVec 32 := Scalar.select v36 v46 c0_i32_21
  let c0_i32_22 : BitVec 32 := 0#32
  ![v18.toNat, v47.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c2_i32 : BitVec 32 := 2#32
  let v17 : BitVec 1 := Scalar.cmpi .eq v16 c2_i32
  let c0_i32_5 : BitVec 32 := 0#32
  let v18 : BitVec 32 := Scalar.select v17 arg1 c0_i32_5
  let c1_i32_6 : BitVec 32 := 1#32
  let v19 : BitVec 32 := Scalar.divsi arg0 c1_i32_6
  let c0_i32_7 : BitVec 32 := 0#32
  let v20 : BitVec 1 := Scalar.cmpi .sgt arg0 c0_i32_7
  let v21 : BitVec 32 := Scalar.extui v20
  let c0_i32_8 : BitVec 32 := 0#32
  let v22 : BitVec 1 := Scalar.cmpi .slt arg0 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg0 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c2_i32_13 : BitVec 32 := 2#32
  let v36 : BitVec 1 := Scalar.cmpi .eq v35 c2_i32_13
  let c1_i32_14 : BitVec 32 := 1#32
  let c0_i32_15 : BitVec 32 := 0#32
  let v37 : BitVec 1 := Scalar.cmpi .eq c1_i32_14 c0_i32_15
  let c1_i32_16 : BitVec 32 := 1#32
  let v38 : BitVec 32 := Scalar.select v37 c1_i32_16 c1_i32_14
  let v39 : BitVec 32 := Scalar.remsi arg0 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c3_i32 : BitVec 32 := 3#32
  let v17 : BitVec 1 := Scalar.cmpi .eq v16 c3_i32
  let c0_i32_5 : BitVec 32 := 0#32
  let v18 : BitVec 32 := Scalar.select v17 arg1 c0_i32_5
  let c1_i32_6 : BitVec 32 := 1#32
  let v19 : BitVec 32 := Scalar.divsi arg0 c1_i32_6
  let c0_i32_7 : BitVec 32 := 0#32
  let v20 : BitVec 1 := Scalar.cmpi .sgt arg0 c0_i32_7
  let v21 : BitVec 32 := Scalar.extui v20
  let c0_i32_8 : BitVec 32 := 0#32
  let v22 : BitVec 1 := Scalar.cmpi .slt arg0 c0_i32_8
  let v23 : BitVec 32 := Scalar.extui v22
  let v24 : BitVec 32 := Scalar.subi v21 v23
  let c0_i32_9 : BitVec 32 := 0#32
  let v25 : BitVec 1 := Scalar.cmpi .sgt c1_i32_6 c0_i32_9
  let v26 : BitVec 32 := Scalar.extui v25
  let c0_i32_10 : BitVec 32 := 0#32
  let v27 : BitVec 1 := Scalar.cmpi .slt c1_i32_6 c0_i32_10
  let v28 : BitVec 32 := Scalar.extui v27
  let v29 : BitVec 32 := Scalar.subi v26 v28
  let v30 : BitVec 1 := Scalar.cmpi .ne v24 v29
  let v31 : BitVec 32 := Scalar.remsi arg0 c1_i32_6
  let c0_i32_11 : BitVec 32 := 0#32
  let v32 : BitVec 1 := Scalar.cmpi .ne v31 c0_i32_11
  let v33 : BitVec 1 := Scalar.andi v30 v32
  let c1_i32_12 : BitVec 32 := 1#32
  let v34 : BitVec 32 := Scalar.subi v19 c1_i32_12
  let v35 : BitVec 32 := Scalar.select v33 v34 v19
  let c3_i32_13 : BitVec 32 := 3#32
  let v36 : BitVec 1 := Scalar.cmpi .eq v35 c3_i32_13
  let c1_i32_14 : BitVec 32 := 1#32
  let c0_i32_15 : BitVec 32 := 0#32
  let v37 : BitVec 1 := Scalar.cmpi .eq c1_i32_14 c0_i32_15
  let c1_i32_16 : BitVec 32 := 1#32
  let v38 : BitVec 32 := Scalar.select v37 c1_i32_16 c1_i32_14
  let v39 : BitVec 32 := Scalar.remsi arg0 v38
  let c0_i32_17 : BitVec 32 := 0#32
  let v40 : BitVec 1 := Scalar.cmpi .ne v39 c0_i32_17
  let c0_i32_18 : BitVec 32 := 0#32
  let v41 : BitVec 1 := Scalar.cmpi .slt v39 c0_i32_18
  let c0_i32_19 : BitVec 32 := 0#32
  let v42 : BitVec 1 := Scalar.cmpi .slt v38 c0_i32_19
  let v43 : BitVec 1 := Scalar.xori v41 v42
  let v44 : BitVec 1 := Scalar.andi v43 v40
  let v45 : BitVec 32 := Scalar.addi v39 v38
  let v46 : BitVec 32 := Scalar.select v44 v45 v39
  let c0_i32_20 : BitVec 32 := 0#32
  let v47 : BitVec 32 := Scalar.select v36 v46 c0_i32_20
  let c0_i32_21 : BitVec 32 := 0#32
  ![v18.toNat, v47.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c0_i32 : BitVec 32 := 0#32
  let c0_i32_0 : BitVec 32 := 0#32
  ![v0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S1024x8192 : Shape := ⟨2, ![1024, 8192]⟩
abbrev S8192x512 : Shape := ⟨2, ![8192, 512]⟩
abbrev S7680x1024 : Shape := ⟨2, ![7680, 1024]⟩
abbrev S8192x2048 : Shape := ⟨2, ![8192, 2048]⟩
abbrev S_ : Shape := ⟨0, ![]⟩
abbrev S1024x2048 : Shape := ⟨2, ![1024, 2048]⟩
abbrev S8192x1024 : Shape := ⟨2, ![8192, 1024]⟩
abbrev S2048x1024 : Shape := ⟨2, ![2048, 1024]⟩
abbrev S1536x1024 : Shape := ⟨2, ![1536, 1024]⟩
abbrev S4096x1024 : Shape := ⟨2, ![4096, 1024]⟩

abbrev nBuf : Space → Nat
  | .hbm => 23
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S7680x1024, .bf16⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x2048, .f32⟩
  | .hbm, ⟨11, _⟩ => ⟨S_, .f32⟩
  | .hbm, ⟨12, _⟩ => ⟨S1024x2048, .f32⟩
  | .hbm, ⟨13, _⟩ => ⟨S1024x8192, .f32⟩
  | .hbm, ⟨14, _⟩ => ⟨S8192x1024, .f32⟩
  | .hbm, ⟨15, _⟩ => ⟨S8192x2048, .f32⟩
  | .hbm, ⟨16, _⟩ => ⟨S2048x1024, .f32⟩
  | .hbm, ⟨17, _⟩ => ⟨S1024x2048, .f32⟩
  | .hbm, ⟨18, _⟩ => ⟨S1536x1024, .bf16⟩
  | .hbm, ⟨19, _⟩ => ⟨S2048x1024, .f32⟩
  | .hbm, ⟨20, _⟩ => ⟨S2048x1024, .bf16⟩
  | .hbm, ⟨21, _⟩ => ⟨S4096x1024, .bf16⟩
  | .hbm, ⟨22, _⟩ => ⟨S7680x1024, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.Body.lean ====
module

public import proofs.«01_k».proof.Proof.Gen.KernelIdeal.Frame.Runs
public import Idealize.ShloMosaic.Lib.Claim
public import Idealize.ShloMosaic.Lib.Pipeline.Value

@[expose] public section

set_option maxRecDepth 16384

/-! The kernel body's run at one grid point.

The body is executed part by part; each part's statement says which blocks it reads and what it
stores. `Blocks` names the sixteen input blocks, and the definitions under it name what the body
leaves in every output block as a function of them.  -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- The two zero offsets of a whole-block rectangle. -/
theorem hz : (![0, 0] : Fin 2 → Nat) = fun _ => 0 := funext fun a => by fin_cases a <;> rfl

/-- A whole-block load reads the contents. -/
theorem readAt_whole {sp : Space} {S : Shape} {e : EltTy} {m : Memref sig .tc sp S e} (h : m.IsWhole) {off : Fin S.rank → Nat}
    (ho : off = fun _ => 0) (inb : ∀ d, off d + S.size d ≤ S.size d) (X : Vec F S e) :
    m.view.readAt (Elt F) (Rect.unit off S.size inb) (h.unread X) = X := by
  rw [View.readAt_eq_ld, h.read_unread, View.ld_unit_zero ho]

/-- What a whole-block store leaves is its payload, whatever was stored before. -/
theorem read_store {sp : Space} {S : Shape} {e : EltTy} (v : View sig .tc sp S e) {off : Fin S.rank → Nat}
    (ho : off = fun _ => 0) (inb : ∀ d, off d + S.size d ≤ S.size d)
    (f : v.ty.Contents (Elt F)) (w : Vec F S e) (L : List (View.Piece (Elt F) S e)) :
    v.read (Elt F) (v.writes (Elt F) f (⟨Rect.unit off S.size inb, w⟩ :: L)) = w := by
  rw [View.read_writes_eq_canon _ _ _ fun y => ⟨_, List.mem_cons_self, View.mem_set_unit_zero ho inb y⟩, View.canon_cons_unit_zero ho]

/-- Core `c` holds the whole memref `m` at contents `X`. -/
abbrev pt (c : Dev nD) {sp : Space} {S : Shape} {e : EltTy} (m : Memref sig .tc sp S e) (h : m.IsWhole) (X : Vec F S e) : sProp 𝕄 :=
  iprop(m.view.loc (c : Thread nD τ) ↦[m.view.set]{fullShare} h.unread X)

/-- Holding a whole memref at contents `X`, read through it or named. -/
theorem owns_pt (c : Dev nD) {sp : Space} {S : Shape} {e : EltTy} {m : Memref sig .tc sp S e} (h : m.IsWhole) (X : Vec F S e) :
    (owns (c : Thread nD τ) m fullShare X : sProp 𝕄) ⊢ pt c m h X := by
  unfold owns
  iintro ⟨%f, %hf, H⟩
  obtain rfl := h.eq_unread hf
  iexact H

theorem pt_owns (c : Dev nD) {sp : Space} {S : Shape} {e : EltTy} {m : Memref sig .tc sp S e} (h : m.IsWhole) (X : Vec F S e) :
    pt c m h X ⊢ (owns (c : Thread nD τ) m fullShare X : sProp 𝕄) := by
  unfold owns
  iintro H
  iexists _; isplitr; · ipureintro; exact h.read_unread X
  iexact H

/-- The sixteen input blocks of one grid point. -/
structure Blocks (F : FTy → Type) where
  ac : Vec F S256x512 .bf16
  o : Vec F S256x512 .bf16
  ap : Vec F S256x512 .bf16
  ag : Vec F S256x512 .bf16
  gl : Vec F S256x1536 .bf16
  gh : Vec F S256x1536 .bf16
  wco : Vec F S512x1024 .bf16
  wao : Vec F S512x1024 .bf16
  wpo : Vec F S512x1024 .bf16
  wout : Vec F S1024x1024 .bf16
  pg : Vec F S1x1024 .f32
  ct : Vec F S256x1024 .f32
  yc : Vec F S256x1024 .bf16
  ya : Vec F S256x1024 .bf16
  yp : Vec F S256x1024 .bf16
  y : Vec F S256x1024 .bf16

namespace Blocks

variable (x : Blocks F)

/-- The first branch's gate. -/
def g0 : FVec F S256x1024 .f32 := k0_pay17 (k0_pay14 x.gl)
/-- The second branch's gate. -/
def g1 : FVec F S256x1024 .f32 := k0_pay18 (k0_pay14 x.gl) (k0_pay15 x.gh) (Scalar.ofBits .f32 0x3F000000#32)
/-- The third branch's gate. -/
def g2 : FVec F S256x1024 .f32 := k0_pay19 (k0_pay15 x.gh) (Scalar.ofBits .f32 0x3F000000#32)
/-- The merged branches. -/
def mg : FVec F S256x1024 .bf16 :=
  k0_pay23 (k0_pay14 x.gl) (k0_pay15 x.gh) (Scalar.ofBits .f32 0x3F000000#32) x.yc x.ya x.yp
/-- The gradient of the merged branches. -/
def dm : FVec F S256x1024 .f32 := k0_pay29 (k0_pay25 x.y) (k0_pay26 x.y) x.ct x.pg x.wout
/-- The gradient of the first branch's output. -/
def dy0 : FVec F S256x1024 .bf16 := k0_pay32 x.g0 (k0_pay25 x.y) (k0_pay26 x.y) x.ct x.pg x.wout
/-- The gradient of the second branch's gated activation. -/
def da1 : FVec F S256x512 .f32 := k0_pay38 x.g1 x.dm x.wao

/-- The block of the convolution branch's gradient. -/
def dac : Vec F S256x512 .bf16 := k0_pay1 (k0_pay34 x.dy0 x.wco)
/-- The block of the attention output's gradient. -/
def dao : Vec F S256x512 .bf16 := k0_pay3 (k0_pay10 x.ag) (k0_pay11 x.ag) x.da1
/-- The block of the attention gate's gradient. -/
def dag : Vec F S256x512 .bf16 := k0_pay4 (k0_pay10 x.ag) (k0_pay11 x.ag) (k0_pay12 x.o) x.da1
/-- The block of the pooling branch's gradient. -/
def dap : Vec F S256x512 .bf16 := k0_pay2 (k0_pay40 x.g2 x.dm) x.wpo
/-- The first third of the block of the merge gates' gradient. -/
def band0 : Vec F S256x1024 .bf16 := k0_pay31 x.g0 (k0_pay20 x.yc) (k0_pay25 x.y) (k0_pay26 x.y) x.ct x.pg x.wout
/-- Its second third. -/
def band1 : Vec F S256x1024 .bf16 := k0_pay35 x.g1 (k0_pay21 x.ya) x.dm
/-- Its last third. -/
def band2 : Vec F S256x1024 .bf16 := k0_pay39 x.g2 (k0_pay22 x.yp) x.dm
/-- The three stores that make up the block of the merge gates' gradient, the last first. -/
def bands : List (View.Piece (Elt F) S256x3072 .bf16) :=
  [⟨Rect.unit (s := S256x3072) ![0, 2048] S256x1024.size inb_S256x3072_S256x1024_0_2048, x.band2⟩,
   ⟨Rect.unit (s := S256x3072) ![0, 1024] S256x1024.size inb_S256x3072_S256x1024_0_1024, x.band1⟩,
   ⟨Rect.unit (s := S256x3072) ![0, 0] S256x1024.size inb_S256x3072_S256x1024_0_0, x.band0⟩]
/-- The block of the merge gates' gradient. -/
def dgm : Vec F S256x3072 .bf16 := View.canon x.bands
/-- One step of the convolution weight's accumulated gradient. -/
def dwco (a : Vec F S512x1024 .f32) : Vec F S512x1024 .f32 :=
  k0_pay33 x.ac x.g0 (k0_pay25 x.y) (k0_pay26 x.y) x.ct x.pg x.wout a
/-- One step of the attention weight's accumulated gradient. -/
def dwao (a : Vec F S512x1024 .f32) : Vec F S512x1024 .f32 := k0_pay37 (k0_pay13 x.ag x.o) x.g1 x.dm a
/-- One step of the pooling weight's accumulated gradient. -/
def dwpo (a : Vec F S512x1024 .f32) : Vec F S512x1024 .f32 := k0_pay41 x.ap x.g2 x.dm a
/-- One step of the output weight's accumulated gradient. -/
def dwout (a : Vec F S1024x1024 .f32) : Vec F S1024x1024 .f32 := k0_pay30 x.mg (k0_pay25 x.y) (k0_pay26 x.y) x.ct x.pg a
/-- One step of the norm scale's accumulated gradient. -/
def dpg (a : Vec F S1x1024 .f32) : Vec F S1x1024 .f32 := k0_pay27 x.y x.ct a

/-- The three bands cover their block. -/
theorem bands_cover (y : S256x3072.Idx) : ∃ p ∈ x.bands, y ∈ p.1.set :=
  View.cover_of_tiledL x.bands S256x1024.size (by sl_kernel_rfl) y

/-- Stored in the order of the program, the three bands make up the block. -/
theorem read_bands (v : View sig .tc .vmem S256x3072 .bf16) (f : v.ty.Contents (Elt F)) :
    v.read (Elt F) (v.writes (Elt F) (v.writes (Elt F) f [⟨Rect.unit (s := S256x3072) ![0, 0] S256x1024.size inb_S256x3072_S256x1024_0_0, k0_pay31 x.g0 (k0_pay20 x.yc) (k0_pay25 x.y) (k0_pay26 x.y) x.ct x.pg x.wout⟩]) [⟨Rect.unit (s := S256x3072) ![0, 2048] S256x1024.size inb_S256x3072_S256x1024_0_2048, k0_pay39 x.g2 (k0_pay22 x.yp) x.dm⟩, ⟨Rect.unit (s := S256x3072) ![0, 1024] S256x1024.size inb_S256x3072_S256x1024_0_1024, k0_pay35 x.g1 (k0_pay21 x.ya) x.dm⟩]) = x.dgm := by
  have hb : x.bands = [⟨Rect.unit (s := S256x3072) ![0, 2048] S256x1024.size inb_S256x3072_S256x1024_0_2048, k0_pay39 x.g2 (k0_pay22 x.yp) x.dm⟩, ⟨Rect.unit (s := S256x3072) ![0, 1024] S256x1024.size inb_S256x3072_S256x1024_0_1024, k0_pay35 x.g1 (k0_pay21 x.ya) x.dm⟩] ++ [⟨Rect.unit (s := S256x3072) ![0, 0] S256x1024.size inb_S256x3072_S256x1024_0_0, k0_pay31 x.g0 (k0_pay20 x.yc) (k0_pay25 x.y) (k0_pay26 x.y) x.ct x.pg x.wout⟩] := rfl
  rw [← View.writes_append, ← hb]
  exact View.read_writes_eq_canon v f x.bands x.bands_cover

end Blocks

section
variable (c : Dev nD) (i : grid0.Coords) (arg1 : Memref sig .tc .vmem S256x512 .bf16) (harg1 : arg1.IsWhole) (arg2 : Memref sig .tc .vmem S256x512 .bf16) (harg2 : arg2.IsWhole) (arg3 : Memref sig .tc .vmem S256x512 .bf16) (harg3 : arg3.IsWhole) (arg4 : Memref sig .tc .vmem S256x512 .bf16) (harg4 : arg4.IsWhole) (arg5 : Memref sig .tc .vmem S256x1536 .bf16) (harg5 : arg5.IsWhole) (arg6 : Memref sig .tc .vmem S256x1536 .bf16) (harg6 : arg6.IsWhole) (arg7 : Memref sig .tc .vmem S512x1024 .bf16) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S256x1024 .f32) (harg12 : arg12.IsWhole) (arg13 : Memref sig .tc .vmem S256x1024 .bf16) (harg13 : arg13.IsWhole) (arg14 : Memref sig .tc .vmem S256x1024 .bf16) (harg14 : arg14.IsWhole) (arg15 : Memref sig .tc .vmem S256x1024 .bf16) (harg15 : arg15.IsWhole) (arg16 : Memref sig .tc .vmem S256x1024 .bf16) (harg16 : arg16.IsWhole) (arg17 : Memref sig .tc .vmem S256x512 .bf16) (harg17 : arg17.IsWhole) (arg18 : Memref sig .tc .vmem S256x512 .bf16) (harg18 : arg18.IsWhole) (arg19 : Memref sig .tc .vmem S256x512 .bf16) (harg19 : arg19.IsWhole) (arg20 : Memref sig .tc .vmem S256x512 .bf16) (harg20 : arg20.IsWhole) (arg21 : Memref sig .tc .vmem S256x3072 .bf16) (harg21 : arg21.IsWhole) (arg22 : Memref sig .tc .vmem S512x1024 .f32) (harg22 : arg22.IsWhole) (arg23 : Memref sig .tc .vmem S512x1024 .f32) (harg23 : arg23.IsWhole) (arg24 : Memref sig .tc .vmem S512x1024 .f32) (harg24 : arg24.IsWhole) (arg25 : Memref sig .tc .vmem S1024x1024 .f32) (harg25 : arg25.IsWhole) (arg26 : Memref sig .tc .vmem S1x1024 .f32) (harg26 : arg26.IsWhole)

/-- The first part where the accumulators are kept: it only loads. -/
theorem part1_B (hc0 : ¬cond0_0 i) (xac xo xap xag : Vec F S256x512 .bf16) (xgl xgh : Vec F S256x1536 .bf16) (K : _ → sProp 𝕄) :
    iprop(pt c arg1 harg1 xac
      ∗ pt c arg2 harg2 xo
      ∗ pt c arg3 harg3 xap
      ∗ pt c arg4 harg4 xag
      ∗ pt c arg5 harg5 xgl
      ∗ pt c arg6 harg6 xgh
      ∗ (iprop(pt c arg1 harg1 xac
      ∗ pt c arg2 harg2 xo
      ∗ pt c arg3 harg3 xap
      ∗ pt c arg4 harg4 xag
      ∗ pt c arg5 harg5 xgl
      ∗ pt c arg6 harg6 xgh)
        -∗ K ⟨k0_pay10 xag, k0_pay11 xag, k0_pay12 xo, xac, k0_pay13 xag xo, xap, k0_pay14 xgl, k0_pay15 xgh, Scalar.ofBits .f32 0x3F000000#32⟩))
    ⊢ wp frame (wpE (defs₀ (F := F)) Variants.none c none) Set.univ (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  rw [k0_part1_eq_skeleton]; unfold k0_part1_skel
  iintro ⟨H1, H2, H3, H4, H5, H6, Hk⟩
  sl_exec (disch := first | sl_exact hc0)
  sl_step
  sl_unfold_words
  have e1 := readAt_whole harg1 hz inb_S256x512_S256x512_0_0 xac
  have e2 := readAt_whole harg2 hz inb_S256x512_S256x512_0_0 xo
  have e3 := readAt_whole harg3 hz inb_S256x512_S256x512_0_0 xap
  have e4 := readAt_whole harg4 hz inb_S256x512_S256x512_0_0 xag
  have e5 := readAt_whole harg5 hz inb_S256x1536_S256x1536_0_0 xgl
  have e6 := readAt_whole harg6 hz inb_S256x1536_S256x1536_0_0 xgh
  simp only [e1, e2, e3, e4, e5, e6]
  iapply Hk
  isplitl [H1]
  · iexact H1
  isplitl [H2]
  · iexact H2
  isplitl [H3]
  · iexact H3
  isplitl [H4]
  · iexact H4
  isplitl [H5]
  · iexact H5
  iexact H6

/-- The first part where the accumulators are zeroed. -/
theorem part1_A (hc0 : cond0_0 i) (xac xo xap xag : Vec F S256x512 .bf16) (xgl xgh : Vec F S256x1536 .bf16) (K : _ → sProp 𝕄) :
    iprop(pt c arg1 harg1 xac
      ∗ pt c arg2 harg2 xo
      ∗ pt c arg3 harg3 xap
      ∗ pt c arg4 harg4 xag
      ∗ pt c arg5 harg5 xgl
      ∗ pt c arg6 harg6 xgh
      ∗ (∃ f, arg22.view.loc (c : Thread nD τ) ↦[arg22.view.set]{fullShare} f)
      ∗ (∃ f, arg23.view.loc (c : Thread nD τ) ↦[arg23.view.set]{fullShare} f)
      ∗ (∃ f, arg24.view.loc (c : Thread nD τ) ↦[arg24.view.set]{fullShare} f)
      ∗ (∃ f, arg25.view.loc (c : Thread nD τ) ↦[arg25.view.set]{fullShare} f)
      ∗ (∃ f, arg26.view.loc (c : Thread nD τ) ↦[arg26.view.set]{fullShare} f)
      ∗ (iprop(pt c arg1 harg1 xac
      ∗ pt c arg2 harg2 xo
      ∗ pt c arg3 harg3 xap
      ∗ pt c arg4 harg4 xag
      ∗ pt c arg5 harg5 xgl
      ∗ pt c arg6 harg6 xgh
      ∗ owns (c : Thread nD τ) arg22 fullShare (k0_pay5)
      ∗ owns (c : Thread nD τ) arg23 fullShare (k0_pay6)
      ∗ owns (c : Thread nD τ) arg24 fullShare (k0_pay7)
      ∗ owns (c : Thread nD τ) arg25 fullShare (k0_pay8)
      ∗ owns (c : Thread nD τ) arg26 fullShare (k0_pay9))
        -∗ K ⟨k0_pay10 xag, k0_pay11 xag, k0_pay12 xo, xac, k0_pay13 xag xo, xap, k0_pay14 xgl, k0_pay15 xgh, Scalar.ofBits .f32 0x3F000000#32⟩))
    ⊢ wp frame (wpE (defs₀ (F := F)) Variants.none c none) Set.univ (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  rw [k0_part1_eq_skeleton]; unfold k0_part1_skel
  iintro ⟨H1, H2, H3, H4, H5, H6, ⟨%f22, H22⟩, ⟨%f23, H23⟩, ⟨%f24, H24⟩, ⟨%f25, H25⟩, ⟨%f26, H26⟩, Hk⟩
  sl_exec (disch := first | sl_exact hc0)
  sl_step
  sl_unfold_words
  have e1 := readAt_whole harg1 hz inb_S256x512_S256x512_0_0 xac
  have e2 := readAt_whole harg2 hz inb_S256x512_S256x512_0_0 xo
  have e3 := readAt_whole harg3 hz inb_S256x512_S256x512_0_0 xap
  have e4 := readAt_whole harg4 hz inb_S256x512_S256x512_0_0 xag
  have e5 := readAt_whole harg5 hz inb_S256x1536_S256x1536_0_0 xgl
  have e6 := readAt_whole harg6 hz inb_S256x1536_S256x1536_0_0 xgh
  simp only [e1, e2, e3, e4, e5, e6]
  iapply Hk
  isplitl [H1]
  · iexact H1
  isplitl [H2]
  · iexact H2
  isplitl [H3]
  · iexact H3
  isplitl [H4]
  · iexact H4
  isplitl [H5]
  · iexact H5
  isplitl [H6]
  · iexact H6
  isplitl [H22]
  · unfold owns; iexists _; isplitr
    swap; · iexact H22
    ipureintro; exact read_store _ hz _ _ _ _
  isplitl [H23]
  · unfold owns; iexists _; isplitr
    swap; · iexact H23
    ipureintro; exact read_store _ hz _ _ _ _
  isplitl [H24]
  · unfold owns; iexists _; isplitr
    swap; · iexact H24
    ipureintro; exact read_store _ hz _ _ _ _
  isplitl [H25]
  · unfold owns; iexists _; isplitr
    swap; · iexact H25
    ipureintro; exact read_store _ hz _ _ _ _
  unfold owns; iexists _; isplitr
  swap; · iexact H26
  ipureintro; exact read_store _ hz _ _ _ _

/-- The first part, in both cases: it leaves the accumulators' starting contents `b`, which are zeros at the first point and what was there elsewhere. -/
theorem part1 (xac xo xap xag : Vec F S256x512 .bf16) (xgl xgh : Vec F S256x1536 .bf16) (a22 b22 : Vec F S512x1024 .f32) (a23 b23 : Vec F S512x1024 .f32) (a24 b24 : Vec F S512x1024 .f32) (a25 b25 : Vec F S1024x1024 .f32) (a26 b26 : Vec F S1x1024 .f32)
    (hc : (cond0_0 i ∧ b22 = k0_pay5 ∧ b23 = k0_pay6 ∧ b24 = k0_pay7 ∧ b25 = k0_pay8 ∧ b26 = k0_pay9) ∨ (¬cond0_0 i ∧ b22 = a22 ∧ b23 = a23 ∧ b24 = a24 ∧ b25 = a25 ∧ b26 = a26))
    (K : _ → sProp 𝕄) :
    iprop(pt c arg1 harg1 xac
      ∗ pt c arg2 harg2 xo
      ∗ pt c arg3 harg3 xap
      ∗ pt c arg4 harg4 xag
      ∗ pt c arg5 harg5 xgl
      ∗ pt c arg6 harg6 xgh
      ∗ pt c arg22 harg22 a22
      ∗ pt c arg23 harg23 a23
      ∗ pt c arg24 harg24 a24
      ∗ pt c arg25 harg25 a25
      ∗ pt c arg26 harg26 a26
      ∗ (iprop(pt c arg1 harg1 xac
      ∗ pt c arg2 harg2 xo
      ∗ pt c arg3 harg3 xap
      ∗ pt c arg4 harg4 xag
      ∗ pt c arg5 harg5 xgl
      ∗ pt c arg6 harg6 xgh
      ∗ pt c arg22 harg22 b22
      ∗ pt c arg23 harg23 b23
      ∗ pt c arg24 harg24 b24
      ∗ pt c arg25 harg25 b25
      ∗ pt c arg26 harg26 b26)
        -∗ K ⟨k0_pay10 xag, k0_pay11 xag, k0_pay12 xo, xac, k0_pay13 xag xo, xap, k0_pay14 xgl, k0_pay15 xgh, Scalar.ofBits .f32 0x3F000000#32⟩))
    ⊢ wp frame (wpE (defs₀ (F := F)) Variants.none c none) Set.univ (k0_part1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  iintro ⟨H1, H2, H3, H4, H5, H6, H22, H23, H24, H25, H26, Hk⟩
  rcases hc with ⟨hc, rfl, rfl, rfl, rfl, rfl⟩ | ⟨hc, rfl, rfl, rfl, rfl, rfl⟩
  · iapply (part1_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc xac xo xap xag xgl xgh K)
    isplitl [H1]
    · iexact H1
    isplitl [H2]
    · iexact H2
    isplitl [H3]
    · iexact H3
    isplitl [H4]
    · iexact H4
    isplitl [H5]
    · iexact H5
    isplitl [H6]
    · iexact H6
    isplitl [H22]
    · iexists _; iexact H22
    isplitl [H23]
    · iexists _; iexact H23
    isplitl [H24]
    · iexists _; iexact H24
    isplitl [H25]
    · iexists _; iexact H25
    isplitl [H26]
    · iexists _; iexact H26
    iintro ⟨H1, H2, H3, H4, H5, H6, H22, H23, H24, H25, H26⟩
    iapply Hk
    isplitl [H1]
    · iexact H1
    isplitl [H2]
    · iexact H2
    isplitl [H3]
    · iexact H3
    isplitl [H4]
    · iexact H4
    isplitl [H5]
    · iexact H5
    isplitl [H6]
    · iexact H6
    isplitl [H22]
    · iapply (owns_pt c harg22 _); iexact H22
    isplitl [H23]
    · iapply (owns_pt c harg23 _); iexact H23
    isplitl [H24]
    · iapply (owns_pt c harg24 _); iexact H24
    isplitl [H25]
    · iapply (owns_pt c harg25 _); iexact H25
    iapply (owns_pt c harg26 _); iexact H26
  · iapply (part1_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc xac xo xap xag xgl xgh K)
    isplitl [H1]
    · iexact H1
    isplitl [H2]
    · iexact H2
    isplitl [H3]
    · iexact H3
    isplitl [H4]
    · iexact H4
    isplitl [H5]
    · iexact H5
    isplitl [H6]
    · iexact H6
    iintro ⟨H1, H2, H3, H4, H5, H6⟩
    iapply Hk
    isplitl [H1]
    · iexact H1
    isplitl [H2]
    · iexact H2
    isplitl [H3]
    · iexact H3
    isplitl [H4]
    · iexact H4
    isplitl [H5]
    · iexact H5
    isplitl [H6]
    · iexact H6
    isplitl [H22]
    · iexact H22
    isplitl [H23]
    · iexact H23
    isplitl [H24]
    · iexact H24
    isplitl [H25]
    · iexact H25
    iexact H26

/-- The second part: it loads the saved outputs, the cotangent and the accumulated gradient of the norm's scale. -/
theorem part2 (v27 v34 : FVec F S256x1536 .f32) (cst : F .f32) (xyc xya xyp xy : Vec F S256x1024 .bf16) (ct : Vec F S256x1024 .f32) (a26 : Vec F S1x1024 .f32) (K : _ → sProp 𝕄) :
    iprop(pt c arg13 harg13 xyc
      ∗ pt c arg14 harg14 xya
      ∗ pt c arg15 harg15 xyp
      ∗ pt c arg16 harg16 xy
      ∗ pt c arg12 harg12 ct
      ∗ pt c arg26 harg26 a26
      ∗ (iprop(pt c arg13 harg13 xyc
      ∗ pt c arg14 harg14 xya
      ∗ pt c arg15 harg15 xyp
      ∗ pt c arg16 harg16 xy
      ∗ pt c arg12 harg12 ct
      ∗ pt c arg26 harg26 a26)
        -∗ K ⟨k0_pay17 v27, k0_pay18 v27 v34 cst, k0_pay19 v34 cst, k0_pay20 xyc, k0_pay21 xya, k0_pay22 xyp, k0_pay23 v27 v34 cst xyc xya xyp, k0_pay25 xy, k0_pay26 xy, ct, k0_pay27 xy ct a26⟩))
    ⊢ wp frame (wpE (defs₀ (F := F)) Variants.none c none) Set.univ (k0_part2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v27 v34 cst) K := by
  rw [k0_part2_eq_skeleton]; unfold k0_part2_skel
  iintro ⟨H13, H14, H15, H16, H12, H26, Hk⟩
  sl_exec
  sl_step
  sl_unfold_words
  have e13 := readAt_whole harg13 hz inb_S256x1024_S256x1024_0_0 xyc
  have e14 := readAt_whole harg14 hz inb_S256x1024_S256x1024_0_0 xya
  have e15 := readAt_whole harg15 hz inb_S256x1024_S256x1024_0_0 xyp
  have e16 := readAt_whole harg16 hz inb_S256x1024_S256x1024_0_0 xy
  have e12 := readAt_whole harg12 hz inb_S256x1024_S256x1024_0_0 ct
  have e26 := readAt_whole harg26 hz inb_S1x1024_S1x1024_0_0 a26
  simp only [e13, e14, e15, e16, e12, e26]
  iapply Hk
  isplitl [H13]
  · iexact H13
  isplitl [H14]
  · iexact H14
  isplitl [H15]
  · iexact H15
  isplitl [H16]
  · iexact H16
  isplitl [H12]
  · iexact H12
  iexact H26

/-- The third part: the gradient through the norm, its product with the output weight, and the first branch's gate gradient. -/
theorem part3 (v14 : Vec F S256x512 .bf16) (v37 v44 : FVec F S256x1024 .f32) (v56 : FVec F S256x1024 .bf16) (v67 : FVec F S256x1 .f32) (v69 : FVec F S256x1024 .f32) (v70 : Vec F S256x1024 .f32) (v76 : FVec F S1x1024 .f32) (pg : Vec F S1x1024 .f32) (wout : Vec F S1024x1024 .bf16) (a22 : Vec F S512x1024 .f32) (a26 : Vec F S1x1024 .f32) (a25 : Vec F S1024x1024 .f32) (f21 : arg21.view.ty.Contents (Elt F)) (K : _ → sProp 𝕄) :
    iprop(pt c arg11 harg11 pg
      ∗ pt c arg10 harg10 wout
      ∗ pt c arg22 harg22 a22
      ∗ pt c arg26 harg26 a26
      ∗ pt c arg25 harg25 a25
      ∗ (arg21.view.loc (c : Thread nD τ) ↦[arg21.view.set]{fullShare} f21)
      ∗ (iprop(pt c arg11 harg11 pg
      ∗ pt c arg10 harg10 wout
      ∗ pt c arg22 harg22 a22
      ∗ (arg21.view.loc (c : Thread nD τ) ↦[arg21.view.set]{fullShare} (arg21.view.writes (Elt F) f21 [⟨Rect.unit (s := S256x3072) ![0, 0] S256x1024.size inb_S256x3072_S256x1024_0_0, k0_pay31 v37 v44 v67 v69 v70 pg wout⟩]))
      ∗ owns (c : Thread nD τ) arg26 fullShare (v76)
      ∗ owns (c : Thread nD τ) arg25 fullShare (k0_pay30 v56 v67 v69 v70 pg a25))
        -∗ K ⟨k0_pay29 v67 v69 v70 pg wout, k0_pay32 v37 v67 v69 v70 pg wout, k0_pay33 v14 v37 v67 v69 v70 pg wout a22⟩))
    ⊢ wp frame (wpE (defs₀ (F := F)) Variants.none c none) Set.univ (k0_part3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v14 v37 v44 v56 v67 v69 v70 v76) K := by
  rw [k0_part3_eq_skeleton]; unfold k0_part3_skel
  iintro ⟨H11, H10, H22, H26, H25, H21, Hk⟩
  sl_exec
  sl_step
  sl_unfold_words
  have e11 := readAt_whole harg11 hz inb_S1x1024_S1x1024_0_0 pg
  have e10 := readAt_whole harg10 hz inb_S1024x1024_S1024x1024_0_0 wout
  have e22 := readAt_whole harg22 hz inb_S512x1024_S512x1024_0_0 a22
  have e25 := readAt_whole harg25 hz inb_S1024x1024_S1024x1024_0_0 a25
  simp only [e11, e10, e22, e25]
  iapply Hk
  isplitl [H11]
  · iexact H11
  isplitl [H10]
  · iexact H10
  isplitl [H22]
  · iexact H22
  isplitl [H21]
  · iexact H21
  isplitl [H26]
  · unfold owns; iexists _; isplitr
    swap; · iexact H26
    ipureintro; exact read_store _ hz _ _ _ _
  unfold owns; iexists _; isplitr
  swap; · iexact H25
  ipureintro; exact read_store _ hz _ _ _ _

/-- The fourth part: the other two branches' gate gradients and the products of the gated gradients with the branch weights and activations. -/
theorem part4 (v17 : FVec F S256x512 .bf16) (v18 : Vec F S256x512 .bf16) (v40 v41 v47 v50 v94 : FVec F S256x1024 .f32) (v108 : FVec F S256x1024 .bf16) (v112 : FVec F S512x1024 .f32) (wco wao : Vec F S512x1024 .bf16) (a24 a22 a23 : Vec F S512x1024 .f32) (f21 : arg21.view.ty.Contents (Elt F)) (K : _ → sProp 𝕄) :
    iprop(pt c arg7 harg7 wco
      ∗ pt c arg8 harg8 wao
      ∗ pt c arg24 harg24 a24
      ∗ pt c arg22 harg22 a22
      ∗ pt c arg23 harg23 a23
      ∗ (arg21.view.loc (c : Thread nD τ) ↦[arg21.view.set]{fullShare} f21)
      ∗ (iprop(pt c arg7 harg7 wco
      ∗ pt c arg8 harg8 wao
      ∗ pt c arg24 harg24 a24
      ∗ (arg21.view.loc (c : Thread nD τ) ↦[arg21.view.set]{fullShare} (arg21.view.writes (Elt F) f21 [⟨Rect.unit (s := S256x3072) ![0, 2048] S256x1024.size inb_S256x3072_S256x1024_0_2048, k0_pay39 v41 v50 v94⟩, ⟨Rect.unit (s := S256x3072) ![0, 1024] S256x1024.size inb_S256x3072_S256x1024_0_1024, k0_pay35 v40 v47 v94⟩]))
      ∗ owns (c : Thread nD τ) arg22 fullShare (v112)
      ∗ owns (c : Thread nD τ) arg23 fullShare (k0_pay37 v17 v40 v94 a23))
        -∗ K ⟨k0_pay34 v108 wco, k0_pay38 v40 v94 wao, k0_pay40 v41 v94, k0_pay41 v18 v41 v94 a24⟩))
    ⊢ wp frame (wpE (defs₀ (F := F)) Variants.none c none) Set.univ (k0_part4 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 v17 v18 v40 v41 v47 v50 v94 v108 v112) K := by
  rw [k0_part4_eq_skeleton]; unfold k0_part4_skel
  iintro ⟨H7, H8, H24, H22, H23, H21, Hk⟩
  sl_exec
  sl_step
  sl_unfold_words
  have e7 := readAt_whole harg7 hz inb_S512x1024_S512x1024_0_0 wco
  have e8 := readAt_whole harg8 hz inb_S512x1024_S512x1024_0_0 wao
  have e24 := readAt_whole harg24 hz inb_S512x1024_S512x1024_0_0 a24
  have e23 := readAt_whole harg23 hz inb_S512x1024_S512x1024_0_0 a23
  simp only [e7, e8, e24, e23]
  iapply Hk
  isplitl [H7]
  · iexact H7
  isplitl [H8]
  · iexact H8
  isplitl [H24]
  · iexact H24
  isplitl [H21]
  · iexact H21
  isplitl [H22]
  · unfold owns; iexists _; isplitr
    swap; · iexact H22
    ipureintro; exact read_store _ hz _ _ _ _
  unfold owns; iexists _; isplitr
  swap; · iexact H23
  ipureintro; exact read_store _ hz _ _ _ _

set_option maxHeartbeats 1000000 in
/-- The whole body at one point: it keeps the sixteen input blocks, and leaves each output block, and each accumulator one step further. -/
theorem body (x : Blocks F) (a22 b22 : Vec F S512x1024 .f32) (a23 b23 : Vec F S512x1024 .f32) (a24 b24 : Vec F S512x1024 .f32) (a25 b25 : Vec F S1024x1024 .f32) (a26 b26 : Vec F S1x1024 .f32)
    (hc : (cond0_0 i ∧ b22 = k0_pay5 ∧ b23 = k0_pay6 ∧ b24 = k0_pay7 ∧ b25 = k0_pay8 ∧ b26 = k0_pay9) ∨ (¬cond0_0 i ∧ b22 = a22 ∧ b23 = a23 ∧ b24 = a24 ∧ b25 = a25 ∧ b26 = a26))
    (K : _ → sProp 𝕄) :
    iprop(owns (c : Thread nD τ) arg1 fullShare (x.ac)
      ∗ owns (c : Thread nD τ) arg2 fullShare (x.o)
      ∗ owns (c : Thread nD τ) arg3 fullShare (x.ap)
      ∗ owns (c : Thread nD τ) arg4 fullShare (x.ag)
      ∗ owns (c : Thread nD τ) arg5 fullShare (x.gl)
      ∗ owns (c : Thread nD τ) arg6 fullShare (x.gh)
      ∗ owns (c : Thread nD τ) arg7 fullShare (x.wco)
      ∗ owns (c : Thread nD τ) arg8 fullShare (x.wao)
      ∗ owns (c : Thread nD τ) arg9 fullShare (x.wpo)
      ∗ owns (c : Thread nD τ) arg10 fullShare (x.wout)
      ∗ owns (c : Thread nD τ) arg11 fullShare (x.pg)
      ∗ owns (c : Thread nD τ) arg12 fullShare (x.ct)
      ∗ owns (c : Thread nD τ) arg13 fullShare (x.yc)
      ∗ owns (c : Thread nD τ) arg14 fullShare (x.ya)
      ∗ owns (c : Thread nD τ) arg15 fullShare (x.yp)
      ∗ owns (c : Thread nD τ) arg16 fullShare (x.y)
      ∗ (∃ d, owns (c : Thread nD τ) arg17 fullShare d)
      ∗ (∃ d, owns (c : Thread nD τ) arg18 fullShare d)
      ∗ (∃ d, owns (c : Thread nD τ) arg19 fullShare d)
      ∗ (∃ d, owns (c : Thread nD τ) arg20 fullShare d)
      ∗ (∃ d, owns (c : Thread nD τ) arg21 fullShare d)
      ∗ owns (c : Thread nD τ) arg22 fullShare (a22)
      ∗ owns (c : Thread nD τ) arg23 fullShare (a23)
      ∗ owns (c : Thread nD τ) arg24 fullShare (a24)
      ∗ owns (c : Thread nD τ) arg25 fullShare (a25)
      ∗ owns (c : Thread nD τ) arg26 fullShare (a26)
      ∗ (iprop(owns (c : Thread nD τ) arg1 fullShare (x.ac)
      ∗ owns (c : Thread nD τ) arg2 fullShare (x.o)
      ∗ owns (c : Thread nD τ) arg3 fullShare (x.ap)
      ∗ owns (c : Thread nD τ) arg4 fullShare (x.ag)
      ∗ owns (c : Thread nD τ) arg5 fullShare (x.gl)
      ∗ owns (c : Thread nD τ) arg6 fullShare (x.gh)
      ∗ owns (c : Thread nD τ) arg7 fullShare (x.wco)
      ∗ owns (c : Thread nD τ) arg8 fullShare (x.wao)
      ∗ owns (c : Thread nD τ) arg9 fullShare (x.wpo)
      ∗ owns (c : Thread nD τ) arg10 fullShare (x.wout)
      ∗ owns (c : Thread nD τ) arg11 fullShare (x.pg)
      ∗ owns (c : Thread nD τ) arg12 fullShare (x.ct)
      ∗ owns (c : Thread nD τ) arg13 fullShare (x.yc)
      ∗ owns (c : Thread nD τ) arg14 fullShare (x.ya)
      ∗ owns (c : Thread nD τ) arg15 fullShare (x.yp)
      ∗ owns (c : Thread nD τ) arg16 fullShare (x.y)
      ∗ owns (c : Thread nD τ) arg17 fullShare (x.dac)
      ∗ owns (c : Thread nD τ) arg18 fullShare (x.dao)
      ∗ owns (c : Thread nD τ) arg19 fullShare (x.dag)
      ∗ owns (c : Thread nD τ) arg20 fullShare (x.dap)
      ∗ owns (c : Thread nD τ) arg21 fullShare (x.dgm)
      ∗ owns (c : Thread nD τ) arg22 fullShare (x.dwco b22)
      ∗ owns (c : Thread nD τ) arg23 fullShare (x.dwao b23)
      ∗ owns (c : Thread nD τ) arg24 fullShare (x.dwpo b24)
      ∗ owns (c : Thread nD τ) arg25 fullShare (x.dwout b25)
      ∗ owns (c : Thread nD τ) arg26 fullShare (x.dpg b26))
        -∗ K ⟨⟩))
    ⊢ wp frame (wpE (defs₀ (F := F)) Variants.none c none) Set.univ (cc0_out_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  rw [cc0_out_bwd_eq_skeleton]; unfold cc0_out_bwd_skel
  iintro ⟨H1, H2, H3, H4, H5, H6, H7, H8, H9, H10, H11, H12, H13, H14, H15, H16, ⟨%d17, H17⟩, ⟨%d18, H18⟩, ⟨%d19, H19⟩, ⟨%d20, H20⟩, ⟨%d21, H21⟩, H22, H23, H24, H25, H26, Hk⟩
  ihave H1 := (owns_pt c harg1 _) $$ H1
  ihave H2 := (owns_pt c harg2 _) $$ H2
  ihave H3 := (owns_pt c harg3 _) $$ H3
  ihave H4 := (owns_pt c harg4 _) $$ H4
  ihave H5 := (owns_pt c harg5 _) $$ H5
  ihave H6 := (owns_pt c harg6 _) $$ H6
  ihave H7 := (owns_pt c harg7 _) $$ H7
  ihave H8 := (owns_pt c harg8 _) $$ H8
  ihave H9 := (owns_pt c harg9 _) $$ H9
  ihave H10 := (owns_pt c harg10 _) $$ H10
  ihave H11 := (owns_pt c harg11 _) $$ H11
  ihave H12 := (owns_pt c harg12 _) $$ H12
  ihave H13 := (owns_pt c harg13 _) $$ H13
  ihave H14 := (owns_pt c harg14 _) $$ H14
  ihave H15 := (owns_pt c harg15 _) $$ H15
  ihave H16 := (owns_pt c harg16 _) $$ H16
  ihave H22 := (owns_pt c harg22 _) $$ H22
  ihave H23 := (owns_pt c harg23 _) $$ H23
  ihave H24 := (owns_pt c harg24 _) $$ H24
  ihave H25 := (owns_pt c harg25 _) $$ H25
  ihave H26 := (owns_pt c harg26 _) $$ H26
  ihave H17 := (owns_pt c harg17 d17) $$ H17
  ihave H18 := (owns_pt c harg18 d18) $$ H18
  ihave H19 := (owns_pt c harg19 d19) $$ H19
  ihave H20 := (owns_pt c harg20 d20) $$ H20
  ihave H21 := (owns_pt c harg21 d21) $$ H21
  rw [wp_bind]
  iapply (part1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x.ac x.o x.ap x.ag x.gl x.gh a22 b22 a23 b23 a24 b24 a25 b25 a26 b26 hc)
  isplitl [H1]
  · iexact H1
  isplitl [H2]
  · iexact H2
  isplitl [H3]
  · iexact H3
  isplitl [H4]
  · iexact H4
  isplitl [H5]
  · iexact H5
  isplitl [H6]
  · iexact H6
  isplitl [H22]
  · iexact H22
  isplitl [H23]
  · iexact H23
  isplitl [H24]
  · iexact H24
  isplitl [H25]
  · iexact H25
  isplitl [H26]
  · iexact H26
  iintro ⟨H1, H2, H3, H4, H5, H6, H22, H23, H24, H25, H26⟩
  dsimp only
  rw [wp_bind]
  iapply (part2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay14 x.gl) (k0_pay15 x.gh) (Scalar.ofBits .f32 0x3F000000#32) x.yc x.ya x.yp x.y x.ct b26)
  isplitl [H13]
  · iexact H13
  isplitl [H14]
  · iexact H14
  isplitl [H15]
  · iexact H15
  isplitl [H16]
  · iexact H16
  isplitl [H12]
  · iexact H12
  isplitl [H26]
  · iexact H26
  iintro ⟨H13, H14, H15, H16, H12, H26⟩
  dsimp only
  rw [wp_bind]
  iapply (part3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x.ac x.g0 (k0_pay20 x.yc) x.mg (k0_pay25 x.y) (k0_pay26 x.y) x.ct (x.dpg b26) x.pg x.wout b22 b26 b25 (harg21.unread d21))
  isplitl [H11]
  · iexact H11
  isplitl [H10]
  · iexact H10
  isplitl [H22]
  · iexact H22
  isplitl [H26]
  · iexact H26
  isplitl [H25]
  · iexact H25
  isplitl [H21]
  · iexact H21
  iintro ⟨H11, H10, H22, H21, H26, H25⟩
  dsimp only
  rw [wp_bind]
  iapply (part4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 (k0_pay13 x.ag x.o) x.ap x.g1 x.g2 (k0_pay21 x.ya) (k0_pay22 x.yp) x.dm x.dy0 (x.dwco b22) x.wco x.wao b24 b22 b23 (arg21.view.writes (Elt F) (harg21.unread d21) [⟨Rect.unit (s := S256x3072) ![0, 0] S256x1024.size inb_S256x3072_S256x1024_0_0, k0_pay31 x.g0 (k0_pay20 x.yc) (k0_pay25 x.y) (k0_pay26 x.y) x.ct x.pg x.wout⟩]))
  isplitl [H7]
  · iexact H7
  isplitl [H8]
  · iexact H8
  isplitl [H24]
  · iexact H24
  isplitl [H22]
  · iexact H22
  isplitl [H23]
  · iexact H23
  isplitl [H21]
  · iexact H21
  iintro ⟨H7, H8, H24, H21, H22, H23⟩
  dsimp only
  sl_exec
  sl_step
  sl_unfold_words
  have e9 := readAt_whole harg9 hz inb_S512x1024_S512x1024_0_0 x.wpo
  simp only [e9]
  iapply Hk
  isplitl [H1]
  · iapply (pt_owns c harg1 _); iexact H1
  isplitl [H2]
  · iapply (pt_owns c harg2 _); iexact H2
  isplitl [H3]
  · iapply (pt_owns c harg3 _); iexact H3
  isplitl [H4]
  · iapply (pt_owns c harg4 _); iexact H4
  isplitl [H5]
  · iapply (pt_owns c harg5 _); iexact H5
  isplitl [H6]
  · iapply (pt_owns c harg6 _); iexact H6
  isplitl [H7]
  · iapply (pt_owns c harg7 _); iexact H7
  isplitl [H8]
  · iapply (pt_owns c harg8 _); iexact H8
  isplitl [H9]
  · iapply (pt_owns c harg9 _); iexact H9
  isplitl [H10]
  · iapply (pt_owns c harg10 _); iexact H10
  isplitl [H11]
  · iapply (pt_owns c harg11 _); iexact H11
  isplitl [H12]
  · iapply (pt_owns c harg12 _); iexact H12
  isplitl [H13]
  · iapply (pt_owns c harg13 _); iexact H13
  isplitl [H14]
  · iapply (pt_owns c harg14 _); iexact H14
  isplitl [H15]
  · iapply (pt_owns c harg15 _); iexact H15
  isplitl [H16]
  · iapply (pt_owns c harg16 _); iexact H16
  isplitl [H17]
  · unfold owns; iexists _; isplitr
    swap; · iexact H17
    ipureintro; exact read_store _ hz _ _ _ _
  isplitl [H18]
  · unfold owns; iexists _; isplitr
    swap; · iexact H18
    ipureintro; exact read_store _ hz _ _ _ _
  isplitl [H19]
  · unfold owns; iexists _; isplitr
    swap; · iexact H19
    ipureintro; exact read_store _ hz _ _ _ _
  isplitl [H20]
  · unfold owns; iexists _; isplitr
    swap; · iexact H20
    ipureintro; exact read_store _ hz _ _ _ _
  isplitl [H21]
  · unfold owns; iexists _; isplitr
    swap; · iexact H21
    ipureintro; exact x.read_bands _ _
  isplitl [H22]
  · iexact H22
  isplitl [H23]
  · iexact H23
  isplitl [H24]
  · unfold owns; iexists _; isplitr
    swap; · iexact H24
    ipureintro; exact read_store _ hz _ _ _ _
  isplitl [H25]
  · iexact H25
  iexact H26

set_option maxHeartbeats 1000000 in
/-- The body between two descriptions of the twenty-six buffers: before it the inputs hold their blocks and, unless the
accumulators are cleared, those hold their starting contents; after it every buffer holds what `body` says. What else is
held is kept. -/
theorem body_at (x : Blocks F) (b22 : Vec F S512x1024 .f32) (b23 : Vec F S512x1024 .f32) (b24 : Vec F S512x1024 .f32) (b25 : Vec F S1024x1024 .f32) (b26 : Vec F S1x1024 .f32) (Φ O : sProp 𝕄)
    {D1 D2 D3 D4 D5 D6 D7 D8 D9 D10 D11 D12 D13 D14 D15 D16 D17 D18 D19 D20 D21 D22 D23 D24 D25 D26 : Type}
    (e1 : D1 → Vec F S256x512 .bf16) (e2 : D2 → Vec F S256x512 .bf16) (e3 : D3 → Vec F S256x512 .bf16) (e4 : D4 → Vec F S256x512 .bf16) (e5 : D5 → Vec F S256x1536 .bf16) (e6 : D6 → Vec F S256x1536 .bf16) (e7 : D7 → Vec F S512x1024 .bf16) (e8 : D8 → Vec F S512x1024 .bf16) (e9 : D9 → Vec F S512x1024 .bf16) (e10 : D10 → Vec F S1024x1024 .bf16) (e11 : D11 → Vec F S1x1024 .f32) (e12 : D12 → Vec F S256x1024 .f32) (e13 : D13 → Vec F S256x1024 .bf16) (e14 : D14 → Vec F S256x1024 .bf16) (e15 : D15 → Vec F S256x1024 .bf16) (e16 : D16 → Vec F S256x1024 .bf16) (e17 : D17 → Vec F S256x512 .bf16) (e18 : D18 → Vec F S256x512 .bf16) (e19 : D19 → Vec F S256x512 .bf16) (e20 : D20 → Vec F S256x512 .bf16) (e21 : D21 → Vec F S256x3072 .bf16) (e22 : D22 → Vec F S512x1024 .f32) (e23 : D23 → Vec F S512x1024 .f32) (e24 : D24 → Vec F S512x1024 .f32) (e25 : D25 → Vec F S1024x1024 .f32) (e26 : D26 → Vec F S1x1024 .f32)
    (f1 : Vec F S256x512 .bf16) (f2 : Vec F S256x512 .bf16) (f3 : Vec F S256x512 .bf16) (f4 : Vec F S256x512 .bf16) (f5 : Vec F S256x1536 .bf16) (f6 : Vec F S256x1536 .bf16) (f7 : Vec F S512x1024 .bf16) (f8 : Vec F S512x1024 .bf16) (f9 : Vec F S512x1024 .bf16) (f10 : Vec F S1024x1024 .bf16) (f11 : Vec F S1x1024 .f32) (f12 : Vec F S256x1024 .f32) (f13 : Vec F S256x1024 .bf16) (f14 : Vec F S256x1024 .bf16) (f15 : Vec F S256x1024 .bf16) (f16 : Vec F S256x1024 .bf16) (f17 : Vec F S256x512 .bf16) (f18 : Vec F S256x512 .bf16) (f19 : Vec F S256x512 .bf16) (f20 : Vec F S256x512 .bf16) (f21 : Vec F S256x3072 .bf16) (f22 : Vec F S512x1024 .f32) (f23 : Vec F S512x1024 .f32) (f24 : Vec F S512x1024 .f32) (f25 : Vec F S1024x1024 .f32) (f26 : Vec F S1x1024 .f32)
    (h1 : ∀ d, e1 d = x.ac) (h2 : ∀ d, e2 d = x.o) (h3 : ∀ d, e3 d = x.ap) (h4 : ∀ d, e4 d = x.ag) (h5 : ∀ d, e5 d = x.gl) (h6 : ∀ d, e6 d = x.gh) (h7 : ∀ d, e7 d = x.wco) (h8 : ∀ d, e8 d = x.wao) (h9 : ∀ d, e9 d = x.wpo) (h10 : ∀ d, e10 d = x.wout) (h11 : ∀ d, e11 d = x.pg) (h12 : ∀ d, e12 d = x.ct) (h13 : ∀ d, e13 d = x.yc) (h14 : ∀ d, e14 d = x.ya) (h15 : ∀ d, e15 d = x.yp) (h16 : ∀ d, e16 d = x.y)
    (hA : cond0_0 i → b22 = k0_pay5 ∧ b23 = k0_pay6 ∧ b24 = k0_pay7 ∧ b25 = k0_pay8 ∧ b26 = k0_pay9)
    (hB : ¬cond0_0 i → (∀ d, b22 = e22 d) ∧ (∀ d, b23 = e23 d) ∧ (∀ d, b24 = e24 d) ∧ (∀ d, b25 = e25 d) ∧ (∀ d, b26 = e26 d))
    (g1 : f1 = x.ac) (g2 : f2 = x.o) (g3 : f3 = x.ap) (g4 : f4 = x.ag) (g5 : f5 = x.gl) (g6 : f6 = x.gh) (g7 : f7 = x.wco) (g8 : f8 = x.wao) (g9 : f9 = x.wpo) (g10 : f10 = x.wout) (g11 : f11 = x.pg) (g12 : f12 = x.ct) (g13 : f13 = x.yc) (g14 : f14 = x.ya) (g15 : f15 = x.yp) (g16 : f16 = x.y)
    (g17 : f17 = x.dac) (g18 : f18 = x.dao) (g19 : f19 = x.dag) (g20 : f20 = x.dap) (g21 : f21 = x.dgm) (g22 : f22 = x.dwco b22) (g23 : f23 = x.dwao b23) (g24 : f24 = x.dwpo b24) (g25 : f25 = x.dwout b25) (g26 : f26 = x.dpg b26) :
    iprop(Φ
      ∗ O
      ∗ (∃ d, owns (c : Thread nD τ) arg1 fullShare (e1 d))
      ∗ (∃ d, owns (c : Thread nD τ) arg2 fullShare (e2 d))
      ∗ (∃ d, owns (c : Thread nD τ) arg3 fullShare (e3 d))
      ∗ (∃ d, owns (c : Thread nD τ) arg4 fullShare (e4 d))
      ∗ (∃ d, owns (c : Thread nD τ) arg5 fullShare (e5 d))
      ∗ (∃ d, owns (c : Thread nD τ) arg6 fullShare (e6 d))
      ∗ (∃ d, owns (c : Thread nD τ) arg7 fullShare (e7 d))
      ∗ (∃ d, owns (c : Thread nD τ) arg8 fullShare (e8 d))
      ∗ (∃ d, owns (c : Thread nD τ) arg9 fullShare (e9 d))
      ∗ (∃ d, owns (c : Thread nD τ) arg10 fullShare (e10 d))
      ∗ (∃ d, owns (c : Thread nD τ) arg11 fullShare (e11 d))
      ∗ (∃ d, owns (c : Thread nD τ) arg12 fullShare (e12 d))
      ∗ (∃ d, owns (c : Thread nD τ) arg13 fullShare (e13 d))
      ∗ (∃ d, owns (c : Thread nD τ) arg14 fullShare (e14 d))
      ∗ (∃ d, owns (c : Thread nD τ) arg15 fullShare (e15 d))
      ∗ (∃ d, owns (c : Thread nD τ) arg16 fullShare (e16 d))
      ∗ (∃ d, owns (c : Thread nD τ) arg17 fullShare (e17 d))
      ∗ (∃ d, owns (c : Thread nD τ) arg18 fullShare (e18 d))
      ∗ (∃ d, owns (c : Thread nD τ) arg19 fullShare (e19 d))
      ∗ (∃ d, owns (c : Thread nD τ) arg20 fullShare (e20 d))
      ∗ (∃ d, owns (c : Thread nD τ) arg21 fullShare (e21 d))
      ∗ (∃ d, owns (c : Thread nD τ) arg22 fullShare (e22 d))
      ∗ (∃ d, owns (c : Thread nD τ) arg23 fullShare (e23 d))
      ∗ (∃ d, owns (c : Thread nD τ) arg24 fullShare (e24 d))
      ∗ (∃ d, owns (c : Thread nD τ) arg25 fullShare (e25 d))
      ∗ (∃ d, owns (c : Thread nD τ) arg26 fullShare (e26 d)))
    ⊢ wp frame (wpE (defs₀ (F := F)) Variants.none c none) Set.univ (cc0_out_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26)
      (fun _ => iprop(Φ
      ∗ O
      ∗ owns (c : Thread nD τ) arg1 fullShare f1
      ∗ owns (c : Thread nD τ) arg2 fullShare f2
      ∗ owns (c : Thread nD τ) arg3 fullShare f3
      ∗ owns (c : Thread nD τ) arg4 fullShare f4
      ∗ owns (c : Thread nD τ) arg5 fullShare f5
      ∗ owns (c : Thread nD τ) arg6 fullShare f6
      ∗ owns (c : Thread nD τ) arg7 fullShare f7
      ∗ owns (c : Thread nD τ) arg8 fullShare f8
      ∗ owns (c : Thread nD τ) arg9 fullShare f9
      ∗ owns (c : Thread nD τ) arg10 fullShare f10
      ∗ owns (c : Thread nD τ) arg11 fullShare f11
      ∗ owns (c : Thread nD τ) arg12 fullShare f12
      ∗ owns (c : Thread nD τ) arg13 fullShare f13
      ∗ owns (c : Thread nD τ) arg14 fullShare f14
      ∗ owns (c : Thread nD τ) arg15 fullShare f15
      ∗ owns (c : Thread nD τ) arg16 fullShare f16
      ∗ owns (c : Thread nD τ) arg17 fullShare f17
      ∗ owns (c : Thread nD τ) arg18 fullShare f18
      ∗ owns (c : Thread nD τ) arg19 fullShare f19
      ∗ owns (c : Thread nD τ) arg20 fullShare f20
      ∗ owns (c : Thread nD τ) arg21 fullShare f21
      ∗ owns (c : Thread nD τ) arg22 fullShare f22
      ∗ owns (c : Thread nD τ) arg23 fullShare f23
      ∗ owns (c : Thread nD τ) arg24 fullShare f24
      ∗ owns (c : Thread nD τ) arg25 fullShare f25
      ∗ owns (c : Thread nD τ) arg26 fullShare f26)) := by
  subst g1 g2 g3 g4 g5 g6 g7 g8 g9 g10 g11 g12 g13 g14 g15 g16 g17 g18 g19 g20 g21 g22 g23 g24 g25 g26
  obtain rfl : e1 = fun _ => x.ac := funext h1
  obtain rfl : e2 = fun _ => x.o := funext h2
  obtain rfl : e3 = fun _ => x.ap := funext h3
  obtain rfl : e4 = fun _ => x.ag := funext h4
  obtain rfl : e5 = fun _ => x.gl := funext h5
  obtain rfl : e6 = fun _ => x.gh := funext h6
  obtain rfl : e7 = fun _ => x.wco := funext h7
  obtain rfl : e8 = fun _ => x.wao := funext h8
  obtain rfl : e9 = fun _ => x.wpo := funext h9
  obtain rfl : e10 = fun _ => x.wout := funext h10
  obtain rfl : e11 = fun _ => x.pg := funext h11
  obtain rfl : e12 = fun _ => x.ct := funext h12
  obtain rfl : e13 = fun _ => x.yc := funext h13
  obtain rfl : e14 = fun _ => x.ya := funext h14
  obtain rfl : e15 = fun _ => x.yp := funext h15
  obtain rfl : e16 = fun _ => x.y := funext h16
  iintro ⟨HΦ, HO, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  have hc : (cond0_0 i ∧ b22 = k0_pay5 ∧ b23 = k0_pay6 ∧ b24 = k0_pay7 ∧ b25 = k0_pay8 ∧ b26 = k0_pay9) ∨ (¬cond0_0 i ∧ b22 = e22 d22 ∧ b23 = e23 d23 ∧ b24 = e24 d24 ∧ b25 = e25 d25 ∧ b26 = e26 d26) := by
    by_cases h : cond0_0 i
    · exact .inl ⟨h, hA h⟩
    · obtain ⟨h22, h23, h24, h25, h26⟩ := hB h
      exact .inr ⟨h, h22 _, h23 _, h24 _, h25 _, h26 _⟩
  iapply (body c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 x (e22 d22) b22 (e23 d23) b23 (e24 d24) b24 (e25 d25) b25 (e26 d26) b26 hc)
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexists _; iexact H17
  isplitl [H18]
  · iexists _; iexact H18
  isplitl [H19]
  · iexists _; iexact H19
  isplitl [H20]
  · iexists _; iexact H20
  isplitl [H21]
  · iexists _; iexact H21
  isplitl [H22]
  · iexact H22
  isplitl [H23]
  · iexact H23
  isplitl [H24]
  · iexact H24
  isplitl [H25]
  · iexact H25
  isplitl [H26]
  · iexact H26
  iintro ⟨H1, H2, H3, H4, H5, H6, H7, H8, H9, H10, H11, H12, H13, H14, H15, H16, H17, H18, H19, H20, H21, H22, H23, H24, H25, H26⟩
  isplitl [HΦ]
  · iexact HΦ
  isplitl [HO]
  · iexact HO
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  isplitl [H21]
  · iexact H21
  isplitl [H22]
  · iexact H22
  isplitl [H23]
  · iexact H23
  isplitl [H24]
  · iexact H24
  isplitl [H25]
  · iexact H25
  iexact H26

end

end Cert.KernelIdeal.Hand

end
-- ==== Proof.Run.lean ====
module

public import proofs.«01_k».proof.Proof.Body
public import Idealize.ShloMosaic.Lib.Claim
public import Idealize.ShloMosaic.Lib.Pipeline.Value

@[expose] public section

set_option maxRecDepth 16384

/-! The kernel's run over the whole grid: what each output block and each accumulator holds after every
point, the body's obligation at every point, and the frame. -/

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input blocks of grid point `t`. -/
def blocksAt (c : Dev nD) (t : Fin cfg0.N) : Blocks F :=
  ⟨iblk m c 0 t, iblk m c 1 t, iblk m c 2 t, iblk m c 3 t, iblk m c 4 t, iblk m c 5 t, iblk m c 6 t, iblk m c 7 t, iblk m c 8 t, iblk m c 9 t, iblk m c 10 t, iblk m c 11 t, iblk m c 12 t, iblk m c 13 t, iblk m c 14 t, iblk m c 15 t⟩

/-- The five gradients accumulated over the grid. -/
structure Acc (F : FTy → Type) where
  wco : Vec F S512x1024 .f32
  wao : Vec F S512x1024 .f32
  wpo : Vec F S512x1024 .f32
  wout : Vec F S1024x1024 .f32
  pg : Vec F S1x1024 .f32

/-- The accumulators as the first point clears them. -/
def Acc.zero : Acc F := ⟨k0_pay5, k0_pay6, k0_pay7, k0_pay8, k0_pay9⟩

/-- One point's step of the accumulators. -/
def Acc.step (x : Blocks F) (a : Acc F) : Acc F :=
  ⟨x.dwco a.wco, x.dwao a.wao, x.dwpo a.wpo, x.dwout a.wout, x.dpg a.pg⟩

/-- The accumulators after point `n`. -/
def accAt (c : Dev nD) : (n : ℕ) → n < cfg0.N → Acc F
  | 0, h => Acc.zero.step (blocksAt m c ⟨0, h⟩)
  | n + 1, h => (accAt c n (Nat.lt_of_succ_lt h)).step (blocksAt m c ⟨n + 1, h⟩)

/-- The accumulators a point starts from: cleared at the first, the point before's elsewhere. -/
def startAt (c : Dev nD) (t : Fin cfg0.N) : Acc F :=
  if t.val % 32 = 0 then Acc.zero else accAt m c (t.val - 1) (Nat.lt_of_le_of_lt (Nat.sub_le _ _) t.isLt)

theorem accAt_eq (c : Dev nD) (t : Fin cfg0.N) : accAt m c t.val t.isLt = (startAt m c t).step (blocksAt m c t) := by
  have hN : t.val < 32 := lt_of_lt_of_eq t.isLt (show cfg0.N = 32 from N_0)
  obtain ⟨n, hn⟩ := t
  unfold startAt
  cases n with
  | zero => rw [if_pos (Nat.zero_mod _)]; rfl
  | succ n =>
    rw [if_neg (by dsimp only at hN ⊢; omega)]
    rfl

/-- The run's data: the arrays as the call finds them, and what every window's buffer holds after each point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (blocksAt m c t).dac
    | ⟨17, _⟩ => (blocksAt m c t).dao
    | ⟨18, _⟩ => (blocksAt m c t).dag
    | ⟨19, _⟩ => (blocksAt m c t).dap
    | ⟨20, _⟩ => (blocksAt m c t).dgm
    | ⟨21, _⟩ => (accAt m c t.val t.isLt).wco
    | ⟨22, _⟩ => (accAt m c t.val t.isLt).wao
    | ⟨23, _⟩ => (accAt m c t.val t.isLt).wpo
    | ⟨24, _⟩ => (accAt m c t.val t.isLt).wout
    | ⟨25, _⟩ => (accAt m c t.val t.isLt).pg
    | ⟨_ + 26, h⟩ => absurd h (Nat.not_lt.2 (Nat.le_add_left _ _))
  Φ _ := Pipeline.ΦA spec0 c
  q w := Pipeline.shareOf spec0 w
  owed _ := 0

/-- The arrays of the run's data are the contents the call finds. -/
theorem A_eq (c : Dev nD) (w : Fin cfg0.W) : (dats m 0 c).A w = V m c (Pipeline.arrRef spec0 w) := by
  dsimp only [dats]

/-! Every input window's buffer is left at its block, and holds it before each point. -/

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = iblk m c 15 t := by dsimp only [dats]

/-! What the output windows' buffers are left at. -/

theorem after16 (c : Dev nD) (t : Fin cfg0.N) : (dats m 0 c).after 16 t = (blocksAt m c t).dac := by dsimp only [dats]
theorem after17 (c : Dev nD) (t : Fin cfg0.N) : (dats m 0 c).after 17 t = (blocksAt m c t).dao := by dsimp only [dats]
theorem after18 (c : Dev nD) (t : Fin cfg0.N) : (dats m 0 c).after 18 t = (blocksAt m c t).dag := by dsimp only [dats]
theorem after19 (c : Dev nD) (t : Fin cfg0.N) : (dats m 0 c).after 19 t = (blocksAt m c t).dap := by dsimp only [dats]
theorem after20 (c : Dev nD) (t : Fin cfg0.N) : (dats m 0 c).after 20 t = (blocksAt m c t).dgm := by dsimp only [dats]
theorem after21 (c : Dev nD) (t : Fin cfg0.N) : (dats m 0 c).after 21 t = (accAt m c t.val t.isLt).wco := by dsimp only [dats]
theorem after22 (c : Dev nD) (t : Fin cfg0.N) : (dats m 0 c).after 22 t = (accAt m c t.val t.isLt).wao := by dsimp only [dats]
theorem after23 (c : Dev nD) (t : Fin cfg0.N) : (dats m 0 c).after 23 t = (accAt m c t.val t.isLt).wpo := by dsimp only [dats]
theorem after24 (c : Dev nD) (t : Fin cfg0.N) : (dats m 0 c).after 24 t = (accAt m c t.val t.isLt).wout := by dsimp only [dats]
theorem after25 (c : Dev nD) (t : Fin cfg0.N) : (dats m 0 c).after 25 t = (accAt m c t.val t.isLt).pg := by dsimp only [dats]

/-! After the first point an accumulator's buffer holds what the point before left. -/

theorem before21 (c : Dev nD) (t : Fin cfg0.N) (h0 : ¬t.val % 32 = 0) (d) :
    (dats m 0 c).before 21 t d = (accAt m c (t.val - 1) (Nat.lt_of_le_of_lt (Nat.sub_le _ _) t.isLt)).wco := by
  have hN : t.val < 32 := lt_of_lt_of_eq t.isLt (show cfg0.N = 32 from N_0)
  rw [Dat.before_out_kept _ 21 rfl t (by omega)
    (Bool.eq_false_iff.mpr fun h => by have := (flush0_21 _).mp h; dsimp only at this; omega) (fun _ => rfl) (fun _ _ => rfl)]
  dsimp only [dats]
theorem before22 (c : Dev nD) (t : Fin cfg0.N) (h0 : ¬t.val % 32 = 0) (d) :
    (dats m 0 c).before 22 t d = (accAt m c (t.val - 1) (Nat.lt_of_le_of_lt (Nat.sub_le _ _) t.isLt)).wao := by
  have hN : t.val < 32 := lt_of_lt_of_eq t.isLt (show cfg0.N = 32 from N_0)
  rw [Dat.before_out_kept _ 22 rfl t (by omega)
    (Bool.eq_false_iff.mpr fun h => by have := (flush0_22 _).mp h; dsimp only at this; omega) (fun _ => rfl) (fun _ _ => rfl)]
  dsimp only [dats]
theorem before23 (c : Dev nD) (t : Fin cfg0.N) (h0 : ¬t.val % 32 = 0) (d) :
    (dats m 0 c).before 23 t d = (accAt m c (t.val - 1) (Nat.lt_of_le_of_lt (Nat.sub_le _ _) t.isLt)).wpo := by
  have hN : t.val < 32 := lt_of_lt_of_eq t.isLt (show cfg0.N = 32 from N_0)
  rw [Dat.before_out_kept _ 23 rfl t (by omega)
    (Bool.eq_false_iff.mpr fun h => by have := (flush0_23 _).mp h; dsimp only at this; omega) (fun _ => rfl) (fun _ _ => rfl)]
  dsimp only [dats]
theorem before24 (c : Dev nD) (t : Fin cfg0.N) (h0 : ¬t.val % 32 = 0) (d) :
    (dats m 0 c).before 24 t d = (accAt m c (t.val - 1) (Nat.lt_of_le_of_lt (Nat.sub_le _ _) t.isLt)).wout := by
  have hN : t.val < 32 := lt_of_lt_of_eq t.isLt (show cfg0.N = 32 from N_0)
  rw [Dat.before_out_kept _ 24 rfl t (by omega)
    (Bool.eq_false_iff.mpr fun h => by have := (flush0_24 _).mp h; dsimp only at this; omega) (fun _ => rfl) (fun _ _ => rfl)]
  dsimp only [dats]
theorem before25 (c : Dev nD) (t : Fin cfg0.N) (h0 : ¬t.val % 32 = 0) (d) :
    (dats m 0 c).before 25 t d = (accAt m c (t.val - 1) (Nat.lt_of_le_of_lt (Nat.sub_le _ _) t.isLt)).pg := by
  have hN : t.val < 32 := lt_of_lt_of_eq t.isLt (show cfg0.N = 32 from N_0)
  rw [Dat.before_out_kept _ 25 rfl t (by omega)
    (Bool.eq_false_iff.mpr fun h => by have := (flush0_25 _).mp h; dsimp only at this; omega) (fun _ => rfl) (fun _ _ => rfl)]
  dsimp only [dats]

/-- What the body is given at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d)))

/-- What the body gives back at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t))

set_option maxHeartbeats 4000000 in
/-- The body at any point, between what it is given and what it gives back. -/
theorem sound_body (c : Dev nD) (t : Fin cfg0.N) :
    bodyPre m c t ⊢ wp frame (wpE (defs₀ (F := F)) Variants.none c none) Set.univ (bodyAt0 t) (fun _ => bodyPost m c t) :=
  body_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t)
    (blocksAt m c t) (startAt m c t).wco (startAt m c t).wao (startAt m c t).wpo (startAt m c t).wout (startAt m c t).pg
    ((dats m 0 c).Φ t.castSucc) ((dats m 0 c).owesAt () t.castSucc)
    (fun d => (dats m 0 c).before 0 t d) (fun d => (dats m 0 c).before 1 t d) (fun d => (dats m 0 c).before 2 t d) (fun d => (dats m 0 c).before 3 t d) (fun d => (dats m 0 c).before 4 t d) (fun d => (dats m 0 c).before 5 t d) (fun d => (dats m 0 c).before 6 t d) (fun d => (dats m 0 c).before 7 t d) (fun d => (dats m 0 c).before 8 t d) (fun d => (dats m 0 c).before 9 t d) (fun d => (dats m 0 c).before 10 t d) (fun d => (dats m 0 c).before 11 t d) (fun d => (dats m 0 c).before 12 t d) (fun d => (dats m 0 c).before 13 t d) (fun d => (dats m 0 c).before 14 t d) (fun d => (dats m 0 c).before 15 t d) (fun d => (dats m 0 c).before 16 t d) (fun d => (dats m 0 c).before 17 t d) (fun d => (dats m 0 c).before 18 t d) (fun d => (dats m 0 c).before 19 t d) (fun d => (dats m 0 c).before 20 t d) (fun d => (dats m 0 c).before 21 t d) (fun d => (dats m 0 c).before 22 t d) (fun d => (dats m 0 c).before 23 t d) (fun d => (dats m 0 c).before 24 t d) (fun d => (dats m 0 c).before 25 t d)
    ((dats m 0 c).after 0 t) ((dats m 0 c).after 1 t) ((dats m 0 c).after 2 t) ((dats m 0 c).after 3 t) ((dats m 0 c).after 4 t) ((dats m 0 c).after 5 t) ((dats m 0 c).after 6 t) ((dats m 0 c).after 7 t) ((dats m 0 c).after 8 t) ((dats m 0 c).after 9 t) ((dats m 0 c).after 10 t) ((dats m 0 c).after 11 t) ((dats m 0 c).after 12 t) ((dats m 0 c).after 13 t) ((dats m 0 c).after 14 t) ((dats m 0 c).after 15 t) ((dats m 0 c).after 16 t) ((dats m 0 c).after 17 t) ((dats m 0 c).after 18 t) ((dats m 0 c).after 19 t) ((dats m 0 c).after 20 t) ((dats m 0 c).after 21 t) ((dats m 0 c).after 22 t) ((dats m 0 c).after 23 t) ((dats m 0 c).after 24 t) ((dats m 0 c).after 25 t)
    (before0_0_of m (dats m 0 c) (A_eq m c 0) (after0 m c) t) (before0_1_of m (dats m 0 c) (A_eq m c 1) (after1 m c) t) (before0_2_of m (dats m 0 c) (A_eq m c 2) (after2 m c) t) (before0_3_of m (dats m 0 c) (A_eq m c 3) (after3 m c) t) (before0_4_of m (dats m 0 c) (A_eq m c 4) (after4 m c) t) (before0_5_of m (dats m 0 c) (A_eq m c 5) (after5 m c) t) (before0_6_of m (dats m 0 c) (A_eq m c 6) (after6 m c) t) (before0_7_of m (dats m 0 c) (A_eq m c 7) (after7 m c) t) (before0_8_of m (dats m 0 c) (A_eq m c 8) (after8 m c) t) (before0_9_of m (dats m 0 c) (A_eq m c 9) (after9 m c) t) (before0_10_of m (dats m 0 c) (A_eq m c 10) (after10 m c) t) (before0_11_of m (dats m 0 c) (A_eq m c 11) (after11 m c) t) (before0_12_of m (dats m 0 c) (A_eq m c 12) (after12 m c) t) (before0_13_of m (dats m 0 c) (A_eq m c 13) (after13 m c) t) (before0_14_of m (dats m 0 c) (A_eq m c 14) (after14 m c) t) (before0_15_of m (dats m 0 c) (A_eq m c 15) (after15 m c) t)
    (fun h => by
      have e : startAt m c t = Acc.zero := if_pos ((hcond0_0 t).mp h)
      rw [e]; exact ⟨rfl, rfl, rfl, rfl, rfl⟩)
    (fun h => by
      have h0 := fun h' => h ((hcond0_0 t).mpr h')
      have e : startAt m c t = _ := if_neg h0
      rw [e]
      exact ⟨fun d => (before21 m c t h0 d).symm, fun d => (before22 m c t h0 d).symm, fun d => (before23 m c t h0 d).symm, fun d => (before24 m c t h0 d).symm, fun d => (before25 m c t h0 d).symm⟩)
    (after0 m c t) (after1 m c t) (after2 m c t) (after3 m c t) (after4 m c t) (after5 m c t) (after6 m c t) (after7 m c t) (after8 m c t) (after9 m c t) (after10 m c t) (after11 m c t) (after12 m c t) (after13 m c t) (after14 m c t) (after15 m c t) (after16 m c t) (after17 m c t) (after18 m c t) (after19 m c t) (after20 m c t)
    ((after21 m c t).trans (congrArg Acc.wco (accAt_eq m c t))) ((after22 m c t).trans (congrArg Acc.wao (accAt_eq m c t))) ((after23 m c t).trans (congrArg Acc.wpo (accAt_eq m c t))) ((after24 m c t).trans (congrArg Acc.wout (accAt_eq m c t))) ((after25 m c t).trans (congrArg Acc.pg (accAt_eq m c t)))

/-- The body's row of the table of bodies is the body at the point. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body meets its obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The whole run terminates; at its end every window's array is what the run's data says, and every counter is zero. -/
theorem run_quiescent : θ_run defs (onTc (τ := τ) (main (F := F))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The run without the counters. -/
theorem run : θ_run defs (onTc (τ := τ) (main (F := F))) (s₀ m ρ) (Pipeline.FramePost cfgs (dats m) 0 (V m)) :=
  (θ_run defs _ _).mono (fun _ h => h.1) (run_quiescent m ρ)

/-- The frame: every fair execution terminates, no argument array is changed and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run m ρ)) ((θ_run defs _ _).mono (fun _ h => h.2) (run_quiescent m ρ))

end Cert.KernelIdeal.Hand

end
-- ==== Proof.Frames.lean ====
module

public import proofs.«01_k».proof.Defs
public import proofs.«01_k».proof.Proof.Run
public import proofs.«01_k».proof.Proof.Gen.Kernel
public import proofs.«01_k».proof.Proof.Gen.ReferenceIdeal.Run

@[expose] public section

set_option maxRecDepth 65536

noncomputable section

/-! The frames of the three programs. The kernel and its idealization are the same program (nothing was
rewritten), so the one run of `Run.lean`, which holds for any reading of the floats, serves both. -/

namespace Cert.Proof

open Idealize.ShloMosaic Idealize.SL.Sem

/-- The kernel's frame, written out. -/
def KernelFrame : Prop := ∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

/-- The idealized kernel's frame at the machine's floats, written out. -/
def KernelIdealFrame : Prop := ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

/-- The two programs being one text, the two statements are one. -/
theorem kernelFrame_eq : KernelFrame = KernelIdealFrame := by sl_kernel_rfl

/-- The kernel's frame. -/
theorem frame_kernel : @Cert.quiescent_Kernel Cert.Kernel.Gen.facts := fun m ρ _ => by
  have h : KernelIdealFrame := fun m ρ => Cert.KernelIdeal.Hand.frame m ρ
  rw [← kernelFrame_eq] at h
  exact h m ρ

/-- The idealized kernel's frame. -/
theorem frame_kernelIdeal : @Cert.quiescent_KernelIdeal Cert.KernelIdeal.Gen.facts :=
  fun m ρ _ => Cert.KernelIdeal.Hand.frame m ρ

/-- The reference's frame: it has no semaphores, and its run keeps its arguments. -/
theorem frame_reference : @Cert.quiescent_ReferenceIdeal Cert.ReferenceIdeal.Gen.facts := fun m ρ _ =>
  (θ_run Cert.ReferenceIdeal.defs _ _).mono
    (fun r h => ⟨fun c => (h c).2.2.2.2.2.2.2.2.2.2, sem_eq_zero_of_no_sems (by decide) r.2⟩)
    (Cert.ReferenceIdeal.Value.run (F := Ideal) m ρ)

end Cert.Proof

end
-- ==== Proof.Math.lean ====
module

public import Idealize.ShloMosaic.Lib.ValueIdx
public import Idealize.ShloMosaic.PureOps.Ideal.Laws

@[expose] public section

/-! Facts about the extended reals the two sides of the equation need: the values of the constants, the two forms of the logistic
    function, and the arithmetic of the finite values. -/

open Idealize.ShloMosaic

noncomputable section

namespace Cert.Spec

/-- One half, as the kernel writes it. -/
theorem lit_half : Ideal.ofBits .f32 0x3F000000#32 = ((2⁻¹ : ℝ) : EReal) := by
  simp [Ideal.ofBits, Ideal.ieee, -EReal.coe_mul]; norm_num

/-- Minus one half, as the reference writes it. -/
theorem lit_neg_half : Ideal.ofBits .f32 0xBF000000#32 = ((-2⁻¹ : ℝ) : EReal) := by
  simp [Ideal.ofBits, Ideal.ieee, -EReal.coe_mul]; norm_num

/-- One. -/
theorem lit_one : Ideal.ofBits .f32 0x3F800000#32 = 1 := by
  have : Ideal.ofBits .f32 0x3F800000#32 = ((1 : ℝ) : EReal) := by
    simp [Ideal.ofBits, Ideal.ieee, -EReal.coe_mul]; norm_num
  simpa using this

/-- The number of columns, 1024. -/
theorem lit_1024 : Ideal.ofBits .f32 0x44800000#32 = ((1024 : ℝ) : EReal) := by
  simp [Ideal.ofBits, Ideal.ieee, -EReal.coe_mul]; norm_num

/-- The norm's small constant is a positive real number. -/
theorem lit_eps : ∃ e : ℝ, 0 < e ∧ Ideal.ofBits .f32 0x358637BD#32 = (e : EReal) := by
  refine ⟨_, ?_, by simp [Ideal.ofBits, Ideal.ieee, -EReal.coe_mul]; rfl⟩
  positivity

/-- The logistic function as the reference writes it. -/
def sg (x : EReal) : EReal := Ideal.logistic x

/-- The kernel's form of the logistic function, by the hyperbolic tangent, is the logistic function: also at the two infinities. -/
theorem half_tanh (x : EReal) :
    Ideal.ofBits .f32 0x3F000000#32 * Ideal.tanh (Ideal.ofBits .f32 0x3F000000#32 * x) + Ideal.ofBits .f32 0x3F000000#32 = sg x := by
  rw [lit_half, sg]
  have hp : (0 : ℝ) < 2⁻¹ := by norm_num
  induction x using EReal.rec with
  | bot =>
    rw [EReal.coe_mul_bot_of_pos hp, Ideal.tanh_bot, Ideal.logistic_bot]
    rw [show ((-1 : EReal)) = ((-1 : ℝ) : EReal) by simp, ← EReal.coe_mul, ← EReal.coe_add]
    norm_num
  | top =>
    rw [EReal.coe_mul_top_of_pos hp, Ideal.tanh_top, Ideal.logistic_top]
    rw [show ((1 : EReal)) = ((1 : ℝ) : EReal) by simp, ← EReal.coe_mul, ← EReal.coe_add]
    norm_num
  | coe r =>
    rw [← EReal.coe_mul, Ideal.tanh_coe, Ideal.logistic_coe, ← EReal.coe_mul, ← EReal.coe_add]
    congr 1
    have h2 : Real.exp (-r) = Real.exp (-(2⁻¹ * r)) * Real.exp (-(2⁻¹ * r)) := by
      rw [← Real.exp_add]; congr 1; ring
    rw [h2, Real.tanh_eq_sinh_div_cosh, Real.sinh_eq, Real.cosh_eq, Real.exp_neg]
    have hu := Real.exp_pos (2⁻¹ * r)
    field_simp
    ring

/-- A finite value: neither infinity. -/
def Fin' (x : EReal) : Prop := ∃ r : ℝ, x = (r : EReal)

theorem Fin'.coe (r : ℝ) : Fin' (r : EReal) := ⟨r, rfl⟩
theorem Fin'.add {x y : EReal} : Fin' x → Fin' y → Fin' (x + y) := by
  rintro ⟨a, rfl⟩ ⟨b, rfl⟩; exact ⟨a + b, (EReal.coe_add a b).symm⟩
theorem Fin'.sub {x y : EReal} : Fin' x → Fin' y → Fin' (x - y) := by
  rintro ⟨a, rfl⟩ ⟨b, rfl⟩; exact ⟨a - b, (EReal.coe_sub a b).symm⟩
theorem Fin'.mul {x y : EReal} : Fin' x → Fin' y → Fin' (x * y) := by
  rintro ⟨a, rfl⟩ ⟨b, rfl⟩; exact ⟨a * b, (EReal.coe_mul a b).symm⟩
theorem Fin'.sg {x : EReal} : Fin' x → Fin' (sg x) := by
  rintro ⟨a, rfl⟩; exact ⟨_, Ideal.logistic_coe a⟩
/-- The sum of finite values is the sum of the real numbers. -/
theorem coe_sum {ι : Type*} [Fintype ι] (g : ι → ℝ) : ((∑ i, g i : ℝ) : EReal) = ∑ i, (g i : EReal) := by
  exact map_sum (⟨⟨Real.toEReal, EReal.coe_zero⟩, EReal.coe_add⟩ : ℝ →+ EReal) g Finset.univ

theorem Fin'.sum {ι : Type*} [Fintype ι] {f : ι → EReal} (h : ∀ i, Fin' (f i)) : Fin' (∑ i, f i) := by
  choose g hg using h
  refine ⟨∑ i, g i, ?_⟩
  rw [coe_sum]
  exact Finset.sum_congr rfl fun i _ => hg i

end Cert.Spec

end
-- ==== Proof.Spec.lean ====
module

public import proofs.«01_k».proof.Proof.Math

@[expose] public section

/-! What the backward pass of the merged branches computes, token by token, in the kernel's order: one row of the inputs, the
    weights, and the gradients as sums. Both sides of the equation are read as these. -/

open Idealize.ShloMosaic

noncomputable section

namespace Cert.Spec

/-- One token's inputs: the three branches' activations (the gated branch's value and gate apart), the three merge gates before the
    logistic function, the branches' outputs, the merged output and the gradient that arrives. -/
structure Row where
  ac : Fin 512 → EReal
  o : Fin 512 → EReal
  ap : Fin 512 → EReal
  ag : Fin 512 → EReal
  g0 : Fin 1024 → EReal
  g1 : Fin 1024 → EReal
  g2 : Fin 1024 → EReal
  yc : Fin 1024 → EReal
  ya : Fin 1024 → EReal
  yp : Fin 1024 → EReal
  y : Fin 1024 → EReal
  ct : Fin 1024 → EReal

/-- The weights of the three branches, of the output and of the norm. -/
structure Wts where
  wco : Fin 512 → Fin 1024 → EReal
  wao : Fin 512 → Fin 1024 → EReal
  wpo : Fin 512 → Fin 1024 → EReal
  wout : Fin 1024 → Fin 1024 → EReal
  pg : Fin 1024 → EReal

variable (w : Wts) (x : Row)

/-- The reciprocal root mean square. -/
def Row.ry : EReal :=
  Ideal.rsqrt (Ideal.div (∑ d, x.y d * x.y d) (Ideal.ofBits .f32 0x44800000#32) + Ideal.ofBits .f32 0x358637BD#32)
/-- The normalised output. -/
def Row.yn (d : Fin 1024) : EReal := x.y d * x.ry
/-- The merged branches. -/
def Row.mg (d : Fin 1024) : EReal := (sg (x.g0 d) * x.yc d + sg (x.g1 d) * x.ya d) + sg (x.g2 d) * x.yp d
/-- The mean of the scaled gradient times the normalised output. -/
def Row.mean : EReal := Ideal.div (∑ d, (x.ct d * w.pg d) * x.yn d) (Ideal.ofBits .f32 0x44800000#32)
/-- The gradient of the norm's input. -/
def Row.dy (d : Fin 1024) : EReal := x.ry * (x.ct d * w.pg d - x.yn d * x.mean w)
/-- The gradient of the merged branches. -/
def Row.dm (d : Fin 1024) : EReal := ∑ e, x.dy w e * w.wout d e
/-- The gradient of each branch's output. -/
def Row.dyb0 (d : Fin 1024) : EReal := x.dm w d * sg (x.g0 d)
def Row.dyb1 (d : Fin 1024) : EReal := x.dm w d * sg (x.g1 d)
def Row.dyb2 (d : Fin 1024) : EReal := x.dm w d * sg (x.g2 d)
/-- The gradient of each merge gate before the logistic function. -/
def Row.band0 (d : Fin 1024) : EReal := ((x.dm w d * x.yc d) * sg (x.g0 d)) * (1 - sg (x.g0 d))
def Row.band1 (d : Fin 1024) : EReal := ((x.dm w d * x.ya d) * sg (x.g1 d)) * (1 - sg (x.g1 d))
def Row.band2 (d : Fin 1024) : EReal := ((x.dm w d * x.yp d) * sg (x.g2 d)) * (1 - sg (x.g2 d))
/-- The gradient of the convolution branch's activation. -/
def Row.dac (k : Fin 512) : EReal := ∑ d, x.dyb0 w d * w.wco k d
/-- The gradient of the gated branch's activation. -/
def Row.da1 (k : Fin 512) : EReal := ∑ d, x.dyb1 w d * w.wao k d
/-- The gradient of the gated branch's value. -/
def Row.dao (k : Fin 512) : EReal := (x.da1 w k * x.ag k) * sg (x.ag k)
/-- The gradient of the gated branch's gate. -/
def Row.dag (k : Fin 512) : EReal := (x.da1 w k * x.o k) * (sg (x.ag k) * (1 + x.ag k * (1 - sg (x.ag k))))
/-- The gradient of the pooled branch's activation. -/
def Row.dap (k : Fin 512) : EReal := ∑ d, x.dyb2 w d * w.wpo k d
/-- The gated branch's activation. -/
def Row.act (k : Fin 512) : EReal := (x.o k * x.ag k) * sg (x.ag k)
/-- One token's part of each weight's gradient. -/
def Row.pwco (k : Fin 512) (d : Fin 1024) : EReal := x.ac k * x.dyb0 w d
def Row.pwao (k : Fin 512) (d : Fin 1024) : EReal := x.act k * x.dyb1 w d
def Row.pwpo (k : Fin 512) (d : Fin 1024) : EReal := x.ap k * x.dyb2 w d
def Row.pwout (d e : Fin 1024) : EReal := x.mg d * x.dy w e
def Row.ppg (d : Fin 1024) : EReal := x.ct d * x.yn d

end Cert.Spec

end
-- ==== Proof.Tok.lean ====
module

public import proofs.«01_k».proof.Proof.Spec

@[expose] public section

/-! The ten arguments read as tokens and weights, and the two equations that need finite arguments: the gradient of the norm's input and
    the gradient of the gated branch's gate, each in the reference's order and in the kernel's. -/

open Idealize.ShloMosaic

noncomputable section

namespace Cert.Spec

/-- The ten arguments: the branches' activations, the projection that holds the gates, the weights, and the gradient that arrives. -/
structure Args where
  ac : Fin 8192 → Fin 512 → EReal
  o : Fin 8192 → Fin 512 → EReal
  ap : Fin 8192 → Fin 512 → EReal
  z : Fin 8192 → Fin 7680 → EReal
  wco : Fin 512 → Fin 1024 → EReal
  wao : Fin 512 → Fin 1024 → EReal
  wpo : Fin 512 → Fin 1024 → EReal
  wout : Fin 1024 → Fin 1024 → EReal
  pg : Fin 1024 → EReal
  ct : Fin 8192 → Fin 1024 → EReal

variable (A : Args) (t : Fin 8192)

/-- The weights. -/
def Args.wts : Wts := ⟨A.wco, A.wao, A.wpo, A.wout, A.pg⟩
/-- The gated branch's gate. -/
def Args.ag (k : Fin 512) : EReal := A.z t ⟨3072 + k.val, by omega⟩
/-- The merge gates before the logistic function. -/
def Args.g0 (d : Fin 1024) : EReal := A.z t ⟨4608 + d.val, by omega⟩
def Args.g1 (d : Fin 1024) : EReal := A.z t ⟨4608 + (1024 + d.val), by omega⟩
def Args.g2 (d : Fin 1024) : EReal := A.z t ⟨4608 + (2048 + d.val), by omega⟩
/-- The branches' outputs. -/
def Args.yc (d : Fin 1024) : EReal := ∑ k, A.ac t k * A.wco k d
def Args.ya (d : Fin 1024) : EReal := ∑ k, (A.o t k * (A.ag t k * sg (A.ag t k))) * A.wao k d
def Args.yp (d : Fin 1024) : EReal := ∑ k, A.ap t k * A.wpo k d
/-- The merged branches. -/
def Args.mg (d : Fin 1024) : EReal := (sg (A.g0 t d) * A.yc t d + sg (A.g1 t d) * A.ya t d) + sg (A.g2 t d) * A.yp t d
/-- The merged output. -/
def Args.y (d : Fin 1024) : EReal := ∑ e, A.mg t e * A.wout e d
/-- A token's row. -/
def Args.row : Row :=
  ⟨A.ac t, A.o t, A.ap t, A.ag t, A.g0 t, A.g1 t, A.g2 t, A.yc t, A.ya t, A.yp t, A.y t, A.ct t⟩

/-- All ten arguments are finite. -/
structure Args.Finite : Prop where
  ac : ∀ t k, Fin' (A.ac t k)
  o : ∀ t k, Fin' (A.o t k)
  ap : ∀ t k, Fin' (A.ap t k)
  z : ∀ t k, Fin' (A.z t k)
  wco : ∀ t k, Fin' (A.wco t k)
  wao : ∀ t k, Fin' (A.wao t k)
  wpo : ∀ t k, Fin' (A.wpo t k)
  wout : ∀ t k, Fin' (A.wout t k)
  pg : ∀ k, Fin' (A.pg k)
  ct : ∀ t k, Fin' (A.ct t k)

variable {A}

theorem Args.Finite.fyc (h : A.Finite) (d : Fin 1024) : Fin' (A.yc t d) := Fin'.sum fun k => (h.ac t k).mul (h.wco k d)
theorem Args.Finite.fya (h : A.Finite) (d : Fin 1024) : Fin' (A.ya t d) :=
  Fin'.sum fun k => ((h.o t k).mul ((h.z t _).mul (h.z t _).sg)).mul (h.wao k d)
theorem Args.Finite.fyp (h : A.Finite) (d : Fin 1024) : Fin' (A.yp t d) := Fin'.sum fun k => (h.ap t k).mul (h.wpo k d)
theorem Args.Finite.fmg (h : A.Finite) (d : Fin 1024) : Fin' (A.mg t d) :=
  ((((h.z t _).sg).mul (h.fyc t d)).add (((h.z t _).sg).mul (h.fya t d))).add (((h.z t _).sg).mul (h.fyp t d))
theorem Args.Finite.fy (h : A.Finite) (d : Fin 1024) : Fin' (A.y t d) := Fin'.sum fun e => (h.fmg t e).mul (h.wout e d)

variable (A)

/-- The mean square of the merged output plus the norm's small constant. -/
def Args.v : EReal :=
  Ideal.div (∑ d, A.y t d * A.y t d) (Ideal.ofBits .f32 0x44800000#32) + Ideal.ofBits .f32 0x358637BD#32

/-- The factor by which the reference carries the gradient back through the mean of squares. -/
def Args.c : EReal :=
  Ideal.div ((∑ d, A.y t d * (A.ct t d * A.pg d)) * (Ideal.ofBits .f32 0xBF000000#32 * Ideal.div (Ideal.rsqrt (A.v t)) (A.v t)))
    (Ideal.ofBits .f32 0x44800000#32)

theorem div_coe_pos (a b : ℝ) (hb : 0 < b) : Ideal.div (a : EReal) (b : EReal) = ((a / b : ℝ) : EReal) := by
  simp only [Ideal.div]
  rw [if_neg (by exact_mod_cast hb.ne'), div_eq_mul_inv, EReal.coe_mul, EReal.coe_inv]

theorem rsqrt_coe_pos (a : ℝ) (ha : 0 < a) : Ideal.rsqrt (a : EReal) = (((√a)⁻¹ : ℝ) : EReal) := by
  rw [Ideal.rsqrt_coe, if_neg (not_lt.2 ha.le), if_neg ha.ne']

variable {A}

/-- The gradient of the norm's input: the reference's sum of three terms is the kernel's difference times the reciprocal root. -/
theorem dy_eq (h : A.Finite) (d : Fin 1024) :
    ((A.ct t d * A.pg d) * Ideal.rsqrt (A.v t) + A.y t d * A.c t) + A.c t * A.y t d = (A.row t).dy A.wts d := by
  choose y hy using h.fy t
  choose q hq using fun d => (h.ct t d).mul (h.pg d)
  obtain ⟨e, he, hE⟩ := lit_eps
  have hv : A.v t = (((∑ d, y d * y d) / 1024 + e : ℝ) : EReal) := by
    rw [Args.v, lit_1024, hE]
    simp only [hy, ← EReal.coe_mul]
    rw [← coe_sum, div_coe_pos _ _ (by norm_num), EReal.coe_add]
  have hpos : 0 < (∑ d, y d * y d) / 1024 + e :=
    add_pos_of_nonneg_of_pos (div_nonneg (Finset.sum_nonneg fun i _ => mul_self_nonneg (y i)) (by norm_num)) he
  have hry : (A.row t).ry = Ideal.rsqrt (A.v t) := rfl
  simp only [Row.dy, Row.mean, Row.yn, hry]
  show _ = Ideal.rsqrt (A.v t) * (A.ct t d * A.pg d - A.y t d * Ideal.rsqrt (A.v t)
    * Ideal.div (∑ d, (A.ct t d * A.pg d) * (A.y t d * Ideal.rsqrt (A.v t))) (Ideal.ofBits .f32 0x44800000#32))
  rw [Args.c, lit_1024, lit_neg_half, hv]
  generalize hV : (∑ d, y d * y d) / 1024 + e = v at hpos
  rw [rsqrt_coe_pos v hpos, div_coe_pos _ v hpos]
  simp only [hy, hq, ← EReal.coe_mul]
  rw [← coe_sum, ← coe_sum]
  simp only [← EReal.coe_mul]
  rw [div_coe_pos _ _ (by norm_num), div_coe_pos _ _ (by norm_num)]
  simp only [← EReal.coe_mul, ← EReal.coe_add, ← EReal.coe_sub]
  congr 1
  have hs : ∑ d, q d * (y d * (√v)⁻¹) = (∑ d, y d * q d) * (√v)⁻¹ := by
    rw [Finset.sum_mul]; exact Finset.sum_congr rfl fun i _ => by ring
  rw [hs]
  generalize ∑ d, y d * q d = S
  have h0 : 0 < √v := Real.sqrt_pos.2 hpos
  have h2 : v = √v * √v := (Real.mul_self_sqrt hpos.le).symm
  generalize √v = r at *
  subst h2
  field_simp
  ring

theorem Args.Finite.fry (h : A.Finite) : Fin' (Ideal.rsqrt (A.v t)) := by
  choose y hy using h.fy t
  obtain ⟨e, he, hE⟩ := lit_eps
  have hv : A.v t = (((∑ d, y d * y d) / 1024 + e : ℝ) : EReal) := by
    rw [Args.v, lit_1024, hE]
    simp only [hy, ← EReal.coe_mul]
    rw [← coe_sum, div_coe_pos _ _ (by norm_num), EReal.coe_add]
  have hpos : 0 < (∑ d, y d * y d) / 1024 + e :=
    add_pos_of_nonneg_of_pos (div_nonneg (Finset.sum_nonneg fun i _ => mul_self_nonneg (y i)) (by norm_num)) he
  rw [hv, rsqrt_coe_pos _ hpos]
  exact Fin'.coe _

theorem Fin'.div1024 {x : EReal} : Fin' x → Fin' (Ideal.div x (Ideal.ofBits .f32 0x44800000#32)) := by
  rintro ⟨a, rfl⟩; rw [lit_1024, div_coe_pos _ _ (by norm_num)]; exact Fin'.coe _

theorem Args.Finite.fdy (h : A.Finite) (d : Fin 1024) : Fin' ((A.row t).dy A.wts d) :=
  (h.fry t).mul (((h.ct t d).mul (h.pg d)).sub (((h.fy t d).mul (h.fry t)).mul
    (Fin'.div1024 (Fin'.sum fun d => ((h.ct t d).mul (h.pg d)).mul ((h.fy t d).mul (h.fry t))))))
theorem Args.Finite.fdm (h : A.Finite) (d : Fin 1024) : Fin' ((A.row t).dm A.wts d) :=
  Fin'.sum fun e => (h.fdy t e).mul (h.wout d e)
theorem Args.Finite.fda1 (h : A.Finite) (k : Fin 512) : Fin' ((A.row t).da1 A.wts k) :=
  Fin'.sum fun d => ((h.fdm t d).mul (h.z t _).sg).mul (h.wao k d)

/-- The gradient through the gate: the reference's two terms are the kernel's product. -/
theorem gate_eq {D o a s : EReal} : Fin' D → Fin' o → Fin' a → Fin' s →
    (o * D) * s + (a * (o * D)) * (s * (1 - s)) = (D * o) * (s * (1 + a * (1 - s))) := by
  rintro ⟨D, rfl⟩ ⟨o, rfl⟩ ⟨a, rfl⟩ ⟨s, rfl⟩
  rw [show (1 : EReal) = ((1 : ℝ) : EReal) from rfl]
  simp only [← EReal.coe_mul, ← EReal.coe_add, ← EReal.coe_sub]
  congr 1
  ring

theorem dag_eq (h : A.Finite) (k : Fin 512) :
    (A.o t k * (A.row t).da1 A.wts k) * sg (A.ag t k)
      + (A.ag t k * (A.o t k * (A.row t).da1 A.wts k)) * (sg (A.ag t k) * (1 - sg (A.ag t k))) = (A.row t).dag A.wts k :=
  gate_eq (h.fda1 t k) (h.o t k) (h.z t _) (h.z t _).sg

end Cert.Spec

end
-- ==== Proof.Ref.lean ====
module

public import proofs.«01_k».proof.Proof.Tok
public import proofs.«01_k».proof.Proof.Gen.ReferenceIdeal.Read
public import Idealize.ShloMosaic.Lib.ValueLayout
public import Idealize.ShloMosaic.Lib.KernelVsHost

@[expose] public section

/-! The reference's results at one index, at the ideal values: each is the token's quantity of `Cert.Spec`. -/

open Idealize.ShloMosaic Idealize.ShloMosaic.ValueIdx Cert.Spec

noncomputable section

namespace Cert.ReferenceIdeal.Hand

open Cert.ReferenceIdeal Cert.ReferenceIdeal.Gen Cert.ReferenceIdeal.Read

/-- Two indices of two axes with the same coordinates are one. -/
theorem ext2 {n0 n1 : Nat} {i j : (⟨2, ![n0, n1]⟩ : Shape).Idx} (h0 : (i 0).val = (j 0).val) (h1 : (i 1).val = (j 1).val) : i = j :=
  funext fun a => Fin.ext (by match a with | ⟨0, _⟩ => exact h0 | ⟨1, _⟩ => exact h1)
/-- Two indices of one axis with the same coordinate are one. -/
theorem ext1 {n0 : Nat} {i j : (⟨1, ![n0]⟩ : Shape).Idx} (h0 : (i 0).val = (j 0).val) : i = j :=
  funext fun a => Fin.ext (by match a with | ⟨0, _⟩ => exact h0)
/-- Two indices of three axes with the same coordinates are one. -/
theorem ext3 {n0 n1 n2 : Nat} {i j : (⟨3, ![n0, n1, n2]⟩ : Shape).Idx} (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)

/-- The logistic function as the reference writes it. -/
theorem sg_lit (x : EReal) :
    Ideal.div (Ideal.ofBits .f32 0x3F800000#32) (Ideal.ofBits .f32 0x3F800000#32 + Ideal.exp (-x)) = sg x := by
  rw [lit_one]; rfl

/-- Zero. -/
theorem lit_zero : Ideal.ofBits .f32 0x00000000#32 = 0 := by
  simp [Ideal.ofBits, Ideal.ieee]

variable (x0 x1 x2 : (⟨S8192x512, .bf16⟩ : BufTy).Contents (Elt Ideal)) (x3 : (⟨S8192x7680, .bf16⟩ : BufTy).Contents (Elt Ideal))
  (x4 x5 x6 : (⟨S512x1024, .f32⟩ : BufTy).Contents (Elt Ideal)) (x7 : (⟨S1024x1024, .f32⟩ : BufTy).Contents (Elt Ideal))
  (x8 : (⟨S1x1024, .f32⟩ : BufTy).Contents (Elt Ideal)) (x9 : (⟨S8192x1024, .f32⟩ : BufTy).Contents (Elt Ideal))

/-- The ten arguments by coordinates. -/
def argsOf : Args where
  ac t k := x0 (ix2 t k)
  o t k := x1 (ix2 t k)
  ap t k := x2 (ix2 t k)
  z t k := x3 (ix2 t k)
  wco k d := x4 (ix2 k d)
  wao k d := x5 (ix2 k d)
  wpo k d := x6 (ix2 k d)
  wout d e := x7 (ix2 d e)
  pg d := x8 (ix2 0 d)
  ct t d := x9 (ix2 t d)

variable (t : Fin 8192) (k : Fin 512) (d e : Fin 1024)

theorem r_x0 :
    val_main_v10 (F := Ideal) x0 (ix2 t k) =
      (argsOf x0 x1 x2 x3 x4 x5 x6 x7 x8 x9).ac t k := by
  rfl

theorem r_x1 :
    val_main_v12 (F := Ideal) x1 (ix2 t k) =
      (argsOf x0 x1 x2 x3 x4 x5 x6 x7 x8 x9).o t k := by
  rfl

theorem r_x2 :
    val_main_v17 (F := Ideal) x2 (ix2 t k) =
      (argsOf x0 x1 x2 x3 x4 x5 x6 x7 x8 x9).ap t k := by
  rfl

theorem r_ag :
    val_main_v13 (F := Ideal) x3 (ix2 t k) =
      (argsOf x0 x1 x2 x3 x4 x5 x6 x7 x8 x9).ag t k := by
  exact (val_main_v6_apply (F := Ideal) x3 _).trans (congrArg x3 (ext2 rfl rfl))

theorem r_sg :
    val_main_v14_2 (F := Ideal) x3 (ix2 t k) =
      sg ((argsOf x0 x1 x2 x3 x4 x5 x6 x7 x8 x9).ag t k) := by
  rw [← r_ag x0 x1 x2 x3 x4 x5 x6 x7 x8 x9]
  exact sg_lit _

theorem r_silu :
    val_main_v14_0 (F := Ideal) x3 (ix2 t k) =
      (argsOf x0 x1 x2 x3 x4 x5 x6 x7 x8 x9).ag t k * sg ((argsOf x0 x1 x2 x3 x4 x5 x6 x7 x8 x9).ag t k) := by
  rw [← r_sg x0 x1 x2 x3 x4 x5 x6 x7 x8 x9, ← r_ag x0 x1 x2 x3 x4 x5 x6 x7 x8 x9]
  rfl

theorem r_dsg :
    val_main_v14_1 (F := Ideal) x3 (ix2 t k) =
      sg ((argsOf x0 x1 x2 x3 x4 x5 x6 x7 x8 x9).ag t k) * (1 - sg ((argsOf x0 x1 x2 x3 x4 x5 x6 x7 x8 x9).ag t k)) := by
  rw [← r_sg x0 x1 x2 x3 x4 x5 x6 x7 x8 x9, ← lit_one]
  rfl

theorem r_act :
    val_main_v15 (F := Ideal) x1 x3 (ix2 t k) =
      (argsOf x0 x1 x2 x3 x4 x5 x6 x7 x8 x9).o t k * ((argsOf x0 x1 x2 x3 x4 x5 x6 x7 x8 x9).ag t k * sg ((argsOf x0 x1 x2 x3 x4 x5 x6 x7 x8 x9).ag t k)) := by
  rw [← r_silu x0 x1 x2 x3 x4 x5 x6 x7 x8 x9]
  rfl

theorem r_yc :
    val_main_v11 (F := Ideal) x0 x4 (ix2 t d) =
      (argsOf x0 x1 x2 x3 x4 x5 x6 x7 x8 x9).yc t d := by
  rw [val_main_v11_apply]
  exact Finset.sum_congr rfl fun j _ => congrArg₂ (· * ·) (Eq.trans (congrArg (val_main_v10 (F := Ideal) x0) (ext2 (j := ix2 t j) rfl rfl)) (r_x0 x0 x1 x2 x3 x4 x5 x6 x7 x8 x9 t j)) (congrArg x4 (ext2 rfl rfl))

theorem r_ya :
    val_main_v16 (F := Ideal) x1 x3 x5 (ix2 t d) =
      (argsOf x0 x1 x2 x3 x4 x5 x6 x7 x8 x9).ya t d := by
  rw [val_main_v16_apply]
  exact Finset.sum_congr rfl fun j _ => congrArg₂ (· * ·) (Eq.trans (congrArg (val_main_v15 (F := Ideal) x1 x3) (ext2 (j := ix2 t j) rfl rfl)) (r_act x0 x1 x2 x3 x4 x5 x6 x7 x8 x9 t j)) (congrArg x5 (ext2 rfl rfl))

theorem r_yp :
    val_main_v18 (F := Ideal) x2 x6 (ix2 t d) =
      (argsOf x0 x1 x2 x3 x4 x5 x6 x7 x8 x9).yp t d := by
  rw [val_main_v18_apply]
  exact Finset.sum_congr rfl fun j _ => congrArg₂ (· * ·) (Eq.trans (congrArg (val_main_v17 (F := Ideal) x2) (ext2 (j := ix2 t j) rfl rfl)) (r_x2 x0 x1 x2 x3 x4 x5 x6 x7 x8 x9 t j)) (congrArg x6 (ext2 rfl rfl))

theorem r_gate (e : Fin 3072) :
    val_main_v25 (F := Ideal) x3 (ix2 t e) =
      sg (x3 (ix2 t ⟨4608 + e.val, by omega⟩)) := by
  rw [← (val_main_v9_apply (F := Ideal) x3 (ix2 t e)).trans (congrArg x3 (ext2 (j := ix2 t ⟨4608 + e.val, by omega⟩) rfl rfl))]
  exact sg_lit _

theorem r_sg0 :
    val_main_v31 (F := Ideal) x3 (ix2 t d) =
      sg ((argsOf x0 x1 x2 x3 x4 x5 x6 x7 x8 x9).g0 t d) := by
  rw [val_main_v31_apply, val_main_v30_apply, val_main_v29_apply]
  refine (congrArg (val_main_v25 (F := Ideal) x3) (ext2 (j := ix2 t ⟨d.val, by omega⟩) ?_ ?_)).trans (r_gate x3 t _)
  · show ((((t.val * 1024 + d.val) / 1024) * 3 + 0) * 1024 + (t.val * 1024 + d.val) % 1024) / 3072 = t.val
    omega
  · show ((((t.val * 1024 + d.val) / 1024) * 3 + 0) * 1024 + (t.val * 1024 + d.val) % 1024) % 3072 = d.val
    omega

theorem r_sg1 :
    val_main_v34 (F := Ideal) x3 (ix2 t d) =
      sg ((argsOf x0 x1 x2 x3 x4 x5 x6 x7 x8 x9).g1 t d) := by
  rw [val_main_v34_apply, val_main_v33_apply, val_main_v29_apply]
  refine (congrArg (val_main_v25 (F := Ideal) x3) (ext2 (j := ix2 t ⟨1024 + d.val, by omega⟩) ?_ ?_)).trans (r_gate x3 t _)
  · show ((((t.val * 1024 + d.val) / 1024) * 3 + (1 + 0)) * 1024 + (t.val * 1024 + d.val) % 1024) / 3072 = t.val
    omega
  · show ((((t.val * 1024 + d.val) / 1024) * 3 + (1 + 0)) * 1024 + (t.val * 1024 + d.val) % 1024) % 3072 = 1024 + d.val
    omega

theorem r_sg2 :
    val_main_v38 (F := Ideal) x3 (ix2 t d) =
      sg ((argsOf x0 x1 x2 x3 x4 x5 x6 x7 x8 x9).g2 t d) := by
  rw [val_main_v38_apply, val_main_v37_apply, val_main_v29_apply]
  refine (congrArg (val_main_v25 (F := Ideal) x3) (ext2 (j := ix2 t ⟨2048 + d.val, by omega⟩) ?_ ?_)).trans (r_gate x3 t _)
  · show ((((t.val * 1024 + d.val) / 1024) * 3 + (2 + 0)) * 1024 + (t.val * 1024 + d.val) % 1024) / 3072 = t.val
    omega
  · show ((((t.val * 1024 + d.val) / 1024) * 3 + (2 + 0)) * 1024 + (t.val * 1024 + d.val) % 1024) % 3072 = 2048 + d.val
    omega

theorem r_mg :
    val_main_v40 (F := Ideal) x0 x1 x2 x3 x4 x5 x6 (ix2 t d) =
      (argsOf x0 x1 x2 x3 x4 x5 x6 x7 x8 x9).mg t d := by
  rw [Args.mg, ← r_sg0 x0 x1 x2 x3 x4 x5 x6 x7 x8 x9, ← r_yc x0 x1 x2 x3 x4 x5 x6 x7 x8 x9, ← r_sg1 x0 x1 x2 x3 x4 x5 x6 x7 x8 x9, ← r_ya x0 x1 x2 x3 x4 x5 x6 x7 x8 x9, ← r_sg2 x0 x1 x2 x3 x4 x5 x6 x7 x8 x9, ← r_yp x0 x1 x2 x3 x4 x5 x6 x7 x8 x9]
  rfl

theorem r_y :
    val_main_v41 (F := Ideal) x0 x1 x2 x3 x4 x5 x6 x7 (ix2 t d) =
      (argsOf x0 x1 x2 x3 x4 x5 x6 x7 x8 x9).y t d := by
  rw [val_main_v41_apply]
  exact Finset.sum_congr rfl fun j _ => congrArg₂ (· * ·) (Eq.trans (congrArg (val_main_v40 (F := Ideal) x0 x1 x2 x3 x4 x5 x6) (ext2 (j := ix2 t j) rfl rfl)) (r_mg x0 x1 x2 x3 x4 x5 x6 x7 x8 x9 t j)) (congrArg x7 (ext2 rfl rfl))

theorem r_v :
    val_main_v48 (F := Ideal) x0 x1 x2 x3 x4 x5 x6 x7 (ix2 t 0) =
      (argsOf x0 x1 x2 x3 x4 x5 x6 x7 x8 x9).v t := by
  have h : val_main_v44 (F := Ideal) x0 x1 x2 x3 x4 x5 x6 x7 (ix2 t 0) = ∑ d, (argsOf x0 x1 x2 x3 x4 x5 x6 x7 x8 x9).y t d * (argsOf x0 x1 x2 x3 x4 x5 x6 x7 x8 x9).y t d := by
    rw [val_main_v44_apply, val_main_v43_apply]
    refine Eq.trans (congrArg₂ (· + ·) lit_zero (Finset.sum_congr rfl fun j _ => ?_)) (zero_add _)
    exact congrArg (fun z : EReal => z * z) (Eq.trans (congrArg (val_main_v41 (F := Ideal) x0 x1 x2 x3 x4 x5 x6 x7) (ext2 (j := ix2 t j) rfl rfl)) (r_y x0 x1 x2 x3 x4 x5 x6 x7 x8 x9 t j))
  rw [Args.v, ← h]
  rfl

theorem r_ry :
    val_main_v49 (F := Ideal) x0 x1 x2 x3 x4 x5 x6 x7 (ix2 t 0) =
      Ideal.rsqrt ((argsOf x0 x1 x2 x3 x4 x5 x6 x7 x8 x9).v t) := by
  rw [← r_v x0 x1 x2 x3 x4 x5 x6 x7 x8 x9]
  rfl

theorem r_yn :
    val_main_v54 (F := Ideal) x0 x1 x2 x3 x4 x5 x6 x7 (ix2 t d) =
      ((argsOf x0 x1 x2 x3 x4 x5 x6 x7 x8 x9).row t).yn d := by
  rw [val_main_v54_apply, val_main_v53_apply]
  exact congrArg₂ (· * ·) (r_y x0 x1 x2 x3 x4 x5 x6 x7 x8 x9 t d) (Eq.trans (congrArg (val_main_v49 (F := Ideal) x0 x1 x2 x3 x4 x5 x6 x7) (ext2 (j := ix2 t 0) rfl rfl)) (r_ry x0 x1 x2 x3 x4 x5 x6 x7 x8 x9 t))

theorem r_ppg :
    val_main_v59 (F := Ideal) x0 x1 x2 x3 x4 x5 x6 x7 x9 (ix2 0 d) =
      ∑ t, ((argsOf x0 x1 x2 x3 x4 x5 x6 x7 x8 x9).row t).ppg d := by
  rw [val_main_v59_apply, val_main_v58_apply]
  refine Eq.trans (congrArg₂ (· + ·) lit_zero (Finset.sum_congr rfl fun j _ => ?_)) (zero_add _)
  rw [show idx_main_v58 (idx_main_v59 (ix2 0 d)) j = ix2 j d from ext2 rfl (by show 0 * 1024 + d.val = d.val; omega)]
  exact Eq.trans (congrArg (· * x9 (ix2 j d)) (r_yn x0 x1 x2 x3 x4 x5 x6 x7 x8 x9 j d)) (mul_comm _ _)

theorem r_dyn :
    val_main_v61 (F := Ideal) x8 x9 (ix2 t d) =
      (argsOf x0 x1 x2 x3 x4 x5 x6 x7 x8 x9).ct t d * (argsOf x0 x1 x2 x3 x4 x5 x6 x7 x8 x9).pg d := by
  rw [val_main_v61_apply, val_main_v60_apply]
  exact congrArg (x9 (ix2 t d) * ·) (congrArg x8 (ext2 rfl rfl))

theorem r_c :
    val_main_v71 (F := Ideal) x0 x1 x2 x3 x4 x5 x6 x7 x8 x9 (ix2 t d) =
      (argsOf x0 x1 x2 x3 x4 x5 x6 x7 x8 x9).c t := by
  have h : val_main_v64 (F := Ideal) x0 x1 x2 x3 x4 x5 x6 x7 x8 x9 (ix2 t 0) = ∑ d, (argsOf x0 x1 x2 x3 x4 x5 x6 x7 x8 x9).y t d * ((argsOf x0 x1 x2 x3 x4 x5 x6 x7 x8 x9).ct t d * (argsOf x0 x1 x2 x3 x4 x5 x6 x7 x8 x9).pg d) := by
    rw [val_main_v64_apply, val_main_v63_apply]
    refine Eq.trans (congrArg₂ (· + ·) lit_zero (Finset.sum_congr rfl fun j _ => ?_)) (zero_add _)
    rw [show idx_main_v63 (idx_main_v64 (ix2 t 0)) j = ix2 t j from ext2 (by show t.val * 1 + 0 = t.val; omega) rfl]
    exact congrArg₂ (· * ·) (r_y x0 x1 x2 x3 x4 x5 x6 x7 x8 x9 t j) (r_dyn x0 x1 x2 x3 x4 x5 x6 x7 x8 x9 t j)
  rw [val_main_v71_apply, val_main_v70_apply]
  refine Eq.trans (congrArg₂ (· + ·) lit_zero (Fin.sum_univ_one _)) ((zero_add _).trans ?_)
  rw [show idx_main_v70 (idx_main_v71 (ix2 t d)) 0 = ix2 t 0 from ext2 rfl rfl]
  rw [Args.c, ← h, ← r_v x0 x1 x2 x3 x4 x5 x6 x7 x8 x9]
  rfl

theorem r_dy (h : (argsOf x0 x1 x2 x3 x4 x5 x6 x7 x8 x9).Finite) :
    val_main_v75 (F := Ideal) x0 x1 x2 x3 x4 x5 x6 x7 x8 x9 (ix2 t d) =
      ((argsOf x0 x1 x2 x3 x4 x5 x6 x7 x8 x9).row t).dy (argsOf x0 x1 x2 x3 x4 x5 x6 x7 x8 x9).wts d := by
  rw [← dy_eq t h d]
  have e66 : val_main_v66 (F := Ideal) x0 x1 x2 x3 x4 x5 x6 x7 x8 x9 (ix2 t d) = ((argsOf x0 x1 x2 x3 x4 x5 x6 x7 x8 x9).ct t d * (argsOf x0 x1 x2 x3 x4 x5 x6 x7 x8 x9).pg d) * Ideal.rsqrt ((argsOf x0 x1 x2 x3 x4 x5 x6 x7 x8 x9).v t) := by
    rw [val_main_v66_apply, val_main_v65_apply]
    exact congrArg₂ (· * ·) (r_dyn x0 x1 x2 x3 x4 x5 x6 x7 x8 x9 t d) (Eq.trans (congrArg (val_main_v49 (F := Ideal) x0 x1 x2 x3 x4 x5 x6 x7) (ext2 (j := ix2 t 0) rfl rfl)) (r_ry x0 x1 x2 x3 x4 x5 x6 x7 x8 x9 t))
  rw [← e66, ← r_y x0 x1 x2 x3 x4 x5 x6 x7 x8 x9, ← r_c x0 x1 x2 x3 x4 x5 x6 x7 x8 x9 t d]
  rfl

theorem r_dm (h : (argsOf x0 x1 x2 x3 x4 x5 x6 x7 x8 x9).Finite) :
    val_main_v78 (F := Ideal) x0 x1 x2 x3 x4 x5 x6 x7 x8 x9 (ix2 t d) =
      ((argsOf x0 x1 x2 x3 x4 x5 x6 x7 x8 x9).row t).dm (argsOf x0 x1 x2 x3 x4 x5 x6 x7 x8 x9).wts d := by
  rw [val_main_v78_apply]
  exact Finset.sum_congr rfl fun j _ => congrArg₂ (· * ·) (Eq.trans (congrArg (val_main_v75 (F := Ideal) x0 x1 x2 x3 x4 x5 x6 x7 x8 x9) (ext2 (j := ix2 t j) rfl rfl)) (r_dy x0 x1 x2 x3 x4 x5 x6 x7 x8 x9 t j h)) (congrArg x7 (ext2 rfl rfl))

theorem r_dyb0 (h : (argsOf x0 x1 x2 x3 x4 x5 x6 x7 x8 x9).Finite) :
    val_main_v88 (F := Ideal) x0 x1 x2 x3 x4 x5 x6 x7 x8 x9 (ix2 t d) =
      ((argsOf x0 x1 x2 x3 x4 x5 x6 x7 x8 x9).row t).dyb0 (argsOf x0 x1 x2 x3 x4 x5 x6 x7 x8 x9).wts d := by
  exact Eq.trans (congrArg₂ (· * ·) (r_sg0 x0 x1 x2 x3 x4 x5 x6 x7 x8 x9 t d) (r_dm x0 x1 x2 x3 x4 x5 x6 x7 x8 x9 t d h)) (mul_comm _ _)

theorem r_dyb1 (h : (argsOf x0 x1 x2 x3 x4 x5 x6 x7 x8 x9).Finite) :
    val_main_v83 (F := Ideal) x0 x1 x2 x3 x4 x5 x6 x7 x8 x9 (ix2 t d) =
      ((argsOf x0 x1 x2 x3 x4 x5 x6 x7 x8 x9).row t).dyb1 (argsOf x0 x1 x2 x3 x4 x5 x6 x7 x8 x9).wts d := by
  exact Eq.trans (congrArg₂ (· * ·) (r_sg1 x0 x1 x2 x3 x4 x5 x6 x7 x8 x9 t d) (r_dm x0 x1 x2 x3 x4 x5 x6 x7 x8 x9 t d h)) (mul_comm _ _)

theorem r_dyb2 (h : (argsOf x0 x1 x2 x3 x4 x5 x6 x7 x8 x9).Finite) :
    val_main_v79 (F := Ideal) x0 x1 x2 x3 x4 x5 x6 x7 x8 x9 (ix2 t d) =
      ((argsOf x0 x1 x2 x3 x4 x5 x6 x7 x8 x9).row t).dyb2 (argsOf x0 x1 x2 x3 x4 x5 x6 x7 x8 x9).wts d := by
  exact Eq.trans (congrArg₂ (· * ·) (r_sg2 x0 x1 x2 x3 x4 x5 x6 x7 x8 x9 t d) (r_dm x0 x1 x2 x3 x4 x5 x6 x7 x8 x9 t d h)) (mul_comm _ _)

theorem r_dac (h : (argsOf x0 x1 x2 x3 x4 x5 x6 x7 x8 x9).Finite) :
    val_main_v111 (F := Ideal) x0 x1 x2 x3 x4 x5 x6 x7 x8 x9 (ix2 t k) =
      ((argsOf x0 x1 x2 x3 x4 x5 x6 x7 x8 x9).row t).dac (argsOf x0 x1 x2 x3 x4 x5 x6 x7 x8 x9).wts k := by
  show val_main_v110 (F := Ideal) x0 x1 x2 x3 x4 x5 x6 x7 x8 x9 (ix2 t k) = _
  rw [val_main_v110_apply]
  exact Finset.sum_congr rfl fun j _ => congrArg₂ (· * ·) (Eq.trans (congrArg (val_main_v88 (F := Ideal) x0 x1 x2 x3 x4 x5 x6 x7 x8 x9) (ext2 (j := ix2 t j) rfl rfl)) (r_dyb0 x0 x1 x2 x3 x4 x5 x6 x7 x8 x9 t j h)) (congrArg x4 (ext2 rfl rfl))

theorem r_dap (h : (argsOf x0 x1 x2 x3 x4 x5 x6 x7 x8 x9).Finite) :
    val_main_v99 (F := Ideal) x0 x1 x2 x3 x4 x5 x6 x7 x8 x9 (ix2 t k) =
      ((argsOf x0 x1 x2 x3 x4 x5 x6 x7 x8 x9).row t).dap (argsOf x0 x1 x2 x3 x4 x5 x6 x7 x8 x9).wts k := by
  show val_main_v98 (F := Ideal) x0 x1 x2 x3 x4 x5 x6 x7 x8 x9 (ix2 t k) = _
  rw [val_main_v98_apply]
  exact Finset.sum_congr rfl fun j _ => congrArg₂ (· * ·) (Eq.trans (congrArg (val_main_v79 (F := Ideal) x0 x1 x2 x3 x4 x5 x6 x7 x8 x9) (ext2 (j := ix2 t j) rfl rfl)) (r_dyb2 x0 x1 x2 x3 x4 x5 x6 x7 x8 x9 t j h)) (congrArg x6 (ext2 rfl rfl))

theorem r_da1 (h : (argsOf x0 x1 x2 x3 x4 x5 x6 x7 x8 x9).Finite) :
    val_main_v102 (F := Ideal) x0 x1 x2 x3 x4 x5 x6 x7 x8 x9 (ix2 t k) =
      ((argsOf x0 x1 x2 x3 x4 x5 x6 x7 x8 x9).row t).da1 (argsOf x0 x1 x2 x3 x4 x5 x6 x7 x8 x9).wts k := by
  rw [val_main_v102_apply]
  exact Finset.sum_congr rfl fun j _ => congrArg₂ (· * ·) (Eq.trans (congrArg (val_main_v83 (F := Ideal) x0 x1 x2 x3 x4 x5 x6 x7 x8 x9) (ext2 (j := ix2 t j) rfl rfl)) (r_dyb1 x0 x1 x2 x3 x4 x5 x6 x7 x8 x9 t j h)) (congrArg x5 (ext2 rfl rfl))

theorem r_dao (h : (argsOf x0 x1 x2 x3 x4 x5 x6 x7 x8 x9).Finite) :
    val_main_v107 (F := Ideal) x0 x1 x2 x3 x4 x5 x6 x7 x8 x9 (ix2 t k) =
      ((argsOf x0 x1 x2 x3 x4 x5 x6 x7 x8 x9).row t).dao (argsOf x0 x1 x2 x3 x4 x5 x6 x7 x8 x9).wts k := by
  exact Eq.trans (congrArg₂ (· * ·) (r_da1 x0 x1 x2 x3 x4 x5 x6 x7 x8 x9 t k h) (r_silu x0 x1 x2 x3 x4 x5 x6 x7 x8 x9 t k)) (mul_assoc _ _ _).symm

theorem r_dag (h : (argsOf x0 x1 x2 x3 x4 x5 x6 x7 x8 x9).Finite) :
    val_main_v106 (F := Ideal) x0 x1 x2 x3 x4 x5 x6 x7 x8 x9 (ix2 t k) =
      ((argsOf x0 x1 x2 x3 x4 x5 x6 x7 x8 x9).row t).dag (argsOf x0 x1 x2 x3 x4 x5 x6 x7 x8 x9).wts k := by
  rw [← dag_eq t h k, ← r_da1 x0 x1 x2 x3 x4 x5 x6 x7 x8 x9 t k h, ← r_dsg x0 x1 x2 x3 x4 x5 x6 x7 x8 x9, ← r_sg x0 x1 x2 x3 x4 x5 x6 x7 x8 x9, ← r_ag x0 x1 x2 x3 x4 x5 x6 x7 x8 x9]
  rfl

theorem r_dwco (h : (argsOf x0 x1 x2 x3 x4 x5 x6 x7 x8 x9).Finite) :
    val_main_v109 (F := Ideal) x0 x1 x2 x3 x4 x5 x6 x7 x8 x9 (ix2 k d) =
      ∑ t, ((argsOf x0 x1 x2 x3 x4 x5 x6 x7 x8 x9).row t).pwco (argsOf x0 x1 x2 x3 x4 x5 x6 x7 x8 x9).wts k d := by
  rw [val_main_v109_apply, val_main_v108_apply]
  refine Finset.sum_congr rfl fun j _ => ?_
  refine Eq.trans (congrArg₂ (· * ·) (Eq.trans (congrArg (val_main_v88 (F := Ideal) x0 x1 x2 x3 x4 x5 x6 x7 x8 x9) (ext2 (j := ix2 j d) rfl rfl)) (r_dyb0 x0 x1 x2 x3 x4 x5 x6 x7 x8 x9 j d h)) (Eq.trans (congrArg (val_main_v10 (F := Ideal) x0) (ext2 (j := ix2 j k) rfl rfl)) (r_x0 x0 x1 x2 x3 x4 x5 x6 x7 x8 x9 j k))) ?_
  exact mul_comm _ _

theorem r_dwao (h : (argsOf x0 x1 x2 x3 x4 x5 x6 x7 x8 x9).Finite) :
    val_main_v101 (F := Ideal) x0 x1 x2 x3 x4 x5 x6 x7 x8 x9 (ix2 k d) =
      ∑ t, ((argsOf x0 x1 x2 x3 x4 x5 x6 x7 x8 x9).row t).pwao (argsOf x0 x1 x2 x3 x4 x5 x6 x7 x8 x9).wts k d := by
  rw [val_main_v101_apply, val_main_v100_apply]
  refine Finset.sum_congr rfl fun j _ => ?_
  refine Eq.trans (congrArg₂ (· * ·) (Eq.trans (congrArg (val_main_v83 (F := Ideal) x0 x1 x2 x3 x4 x5 x6 x7 x8 x9) (ext2 (j := ix2 j d) rfl rfl)) (r_dyb1 x0 x1 x2 x3 x4 x5 x6 x7 x8 x9 j d h)) (Eq.trans (congrArg (val_main_v15 (F := Ideal) x1 x3) (ext2 (j := ix2 j k) rfl rfl)) (r_act x0 x1 x2 x3 x4 x5 x6 x7 x8 x9 j k))) ?_
  exact (mul_comm _ _).trans (congrArg (· * _) (mul_assoc _ _ _).symm)

theorem r_dwpo (h : (argsOf x0 x1 x2 x3 x4 x5 x6 x7 x8 x9).Finite) :
    val_main_v97 (F := Ideal) x0 x1 x2 x3 x4 x5 x6 x7 x8 x9 (ix2 k d) =
      ∑ t, ((argsOf x0 x1 x2 x3 x4 x5 x6 x7 x8 x9).row t).pwpo (argsOf x0 x1 x2 x3 x4 x5 x6 x7 x8 x9).wts k d := by
  rw [val_main_v97_apply, val_main_v96_apply]
  refine Finset.sum_congr rfl fun j _ => ?_
  refine Eq.trans (congrArg₂ (· * ·) (Eq.trans (congrArg (val_main_v79 (F := Ideal) x0 x1 x2 x3 x4 x5 x6 x7 x8 x9) (ext2 (j := ix2 j d) rfl rfl)) (r_dyb2 x0 x1 x2 x3 x4 x5 x6 x7 x8 x9 j d h)) (Eq.trans (congrArg (val_main_v17 (F := Ideal) x2) (ext2 (j := ix2 j k) rfl rfl)) (r_x2 x0 x1 x2 x3 x4 x5 x6 x7 x8 x9 j k))) ?_
  exact mul_comm _ _

theorem r_dwout (h : (argsOf x0 x1 x2 x3 x4 x5 x6 x7 x8 x9).Finite) :
    val_main_v77 (F := Ideal) x0 x1 x2 x3 x4 x5 x6 x7 x8 x9 (ix2 d e) =
      ∑ t, ((argsOf x0 x1 x2 x3 x4 x5 x6 x7 x8 x9).row t).pwout (argsOf x0 x1 x2 x3 x4 x5 x6 x7 x8 x9).wts d e := by
  rw [val_main_v77_apply, val_main_v76_apply]
  refine Finset.sum_congr rfl fun j _ => ?_
  refine Eq.trans (congrArg₂ (· * ·) (Eq.trans (congrArg (val_main_v75 (F := Ideal) x0 x1 x2 x3 x4 x5 x6 x7 x8 x9) (ext2 (j := ix2 j e) rfl rfl)) (r_dy x0 x1 x2 x3 x4 x5 x6 x7 x8 x9 j e h)) (Eq.trans (congrArg (val_main_v40 (F := Ideal) x0 x1 x2 x3 x4 x5 x6) (ext2 (j := ix2 j d) rfl rfl)) (r_mg x0 x1 x2 x3 x4 x5 x6 x7 x8 x9 j d))) ?_
  exact mul_comm _ _

theorem r_pad0_in (h : (argsOf x0 x1 x2 x3 x4 x5 x6 x7 x8 x9).Finite) :
    val_main_v91 (F := Ideal) x0 x1 x2 x3 x4 x5 x6 x7 x8 x9 (ix3 t 0 d) =
      ((argsOf x0 x1 x2 x3 x4 x5 x6 x7 x8 x9).row t).dm (argsOf x0 x1 x2 x3 x4 x5 x6 x7 x8 x9).wts d * (argsOf x0 x1 x2 x3 x4 x5 x6 x7 x8 x9).yc t d := by
  unfold val_main_v91
  refine (pad_apply_of_inside _ _ _ _ _ _ _ _ (ix3 t (0 : Fin 1) d) fun a => ?_).trans ?_
  · match a with
    | ⟨0, _⟩ => show t.val = 0 + t.val * (0 + 1); omega
    | ⟨1, _⟩ => rfl
    | ⟨2, _⟩ => show d.val = 0 + d.val * (0 + 1); omega
  · rw [val_main_v90_apply]
    exact Eq.trans (congrArg (val_main_v89 (F := Ideal) x0 x1 x2 x3 x4 x5 x6 x7 x8 x9) (ext2 (j := ix2 t d) rfl rfl)) (congrArg₂ (· * ·) (r_dm x0 x1 x2 x3 x4 x5 x6 x7 x8 x9 t d h) (r_yc x0 x1 x2 x3 x4 x5 x6 x7 x8 x9 t d))

theorem r_pad0_1 :
    val_main_v91 (F := Ideal) x0 x1 x2 x3 x4 x5 x6 x7 x8 x9 (ix3 t 1 d) =
      0 := by
  unfold val_main_v91
  exact (pad_apply_of_not_inside _ _ _ _ _ _ _ _ 1 (show ¬(0 ≤ 1 ∧ (1 - 0) % (0 + 1) = 0 ∧ (1 - 0) / (0 + 1) < 1) by decide)).trans lit_zero

theorem r_pad0_2 :
    val_main_v91 (F := Ideal) x0 x1 x2 x3 x4 x5 x6 x7 x8 x9 (ix3 t 2 d) =
      0 := by
  unfold val_main_v91
  exact (pad_apply_of_not_inside _ _ _ _ _ _ _ _ 1 (show ¬(0 ≤ 2 ∧ (2 - 0) % (0 + 1) = 0 ∧ (2 - 0) / (0 + 1) < 1) by decide)).trans lit_zero

theorem r_pad1_in (h : (argsOf x0 x1 x2 x3 x4 x5 x6 x7 x8 x9).Finite) :
    val_main_v86 (F := Ideal) x0 x1 x2 x3 x4 x5 x6 x7 x8 x9 (ix3 t 1 d) =
      ((argsOf x0 x1 x2 x3 x4 x5 x6 x7 x8 x9).row t).dm (argsOf x0 x1 x2 x3 x4 x5 x6 x7 x8 x9).wts d * (argsOf x0 x1 x2 x3 x4 x5 x6 x7 x8 x9).ya t d := by
  unfold val_main_v86
  refine (pad_apply_of_inside _ _ _ _ _ _ _ _ (ix3 t (0 : Fin 1) d) fun a => ?_).trans ?_
  · match a with
    | ⟨0, _⟩ => show t.val = 0 + t.val * (0 + 1); omega
    | ⟨1, _⟩ => rfl
    | ⟨2, _⟩ => show d.val = 0 + d.val * (0 + 1); omega
  · rw [val_main_v85_apply]
    exact Eq.trans (congrArg (val_main_v84 (F := Ideal) x0 x1 x2 x3 x4 x5 x6 x7 x8 x9) (ext2 (j := ix2 t d) rfl rfl)) (congrArg₂ (· * ·) (r_dm x0 x1 x2 x3 x4 x5 x6 x7 x8 x9 t d h) (r_ya x0 x1 x2 x3 x4 x5 x6 x7 x8 x9 t d))

theorem r_pad1_0 :
    val_main_v86 (F := Ideal) x0 x1 x2 x3 x4 x5 x6 x7 x8 x9 (ix3 t 0 d) =
      0 := by
  unfold val_main_v86
  exact (pad_apply_of_not_inside _ _ _ _ _ _ _ _ 1 (show ¬(1 ≤ 0 ∧ (0 - 1) % (0 + 1) = 0 ∧ (0 - 1) / (0 + 1) < 1) by decide)).trans lit_zero

theorem r_pad1_2 :
    val_main_v86 (F := Ideal) x0 x1 x2 x3 x4 x5 x6 x7 x8 x9 (ix3 t 2 d) =
      0 := by
  unfold val_main_v86
  exact (pad_apply_of_not_inside _ _ _ _ _ _ _ _ 1 (show ¬(1 ≤ 2 ∧ (2 - 1) % (0 + 1) = 0 ∧ (2 - 1) / (0 + 1) < 1) by decide)).trans lit_zero

theorem r_pad2_in (h : (argsOf x0 x1 x2 x3 x4 x5 x6 x7 x8 x9).Finite) :
    val_main_v82 (F := Ideal) x0 x1 x2 x3 x4 x5 x6 x7 x8 x9 (ix3 t 2 d) =
      ((argsOf x0 x1 x2 x3 x4 x5 x6 x7 x8 x9).row t).dm (argsOf x0 x1 x2 x3 x4 x5 x6 x7 x8 x9).wts d * (argsOf x0 x1 x2 x3 x4 x5 x6 x7 x8 x9).yp t d := by
  unfold val_main_v82
  refine (pad_apply_of_inside _ _ _ _ _ _ _ _ (ix3 t (0 : Fin 1) d) fun a => ?_).trans ?_
  · match a with
    | ⟨0, _⟩ => show t.val = 0 + t.val * (0 + 1); omega
    | ⟨1, _⟩ => rfl
    | ⟨2, _⟩ => show d.val = 0 + d.val * (0 + 1); omega
  · rw [val_main_v81_apply]
    exact Eq.trans (congrArg (val_main_v80 (F := Ideal) x0 x1 x2 x3 x4 x5 x6 x7 x8 x9) (ext2 (j := ix2 t d) rfl rfl)) (congrArg₂ (· * ·) (r_dm x0 x1 x2 x3 x4 x5 x6 x7 x8 x9 t d h) (r_yp x0 x1 x2 x3 x4 x5 x6 x7 x8 x9 t d))

theorem r_pad2_0 :
    val_main_v82 (F := Ideal) x0 x1 x2 x3 x4 x5 x6 x7 x8 x9 (ix3 t 0 d) =
      0 := by
  unfold val_main_v82
  exact (pad_apply_of_not_inside _ _ _ _ _ _ _ _ 1 (show ¬(2 ≤ 0 ∧ (0 - 2) % (0 + 1) = 0 ∧ (0 - 2) / (0 + 1) < 1) by decide)).trans lit_zero

theorem r_pad2_1 :
    val_main_v82 (F := Ideal) x0 x1 x2 x3 x4 x5 x6 x7 x8 x9 (ix3 t 1 d) =
      0 := by
  unfold val_main_v82
  exact (pad_apply_of_not_inside _ _ _ _ _ _ _ _ 1 (show ¬(2 ≤ 1 ∧ (1 - 2) % (0 + 1) = 0 ∧ (1 - 2) / (0 + 1) < 1) by decide)).trans lit_zero

theorem r_m0 (h : (argsOf x0 x1 x2 x3 x4 x5 x6 x7 x8 x9).Finite) :
    val_main_v92 (F := Ideal) x0 x1 x2 x3 x4 x5 x6 x7 x8 x9 (ix3 t 0 d) =
      ((argsOf x0 x1 x2 x3 x4 x5 x6 x7 x8 x9).row t).dm (argsOf x0 x1 x2 x3 x4 x5 x6 x7 x8 x9).wts d * (argsOf x0 x1 x2 x3 x4 x5 x6 x7 x8 x9).yc t d := by
  refine Eq.trans (congrArg₂ (· + ·) (congrArg₂ (· + ·) (r_pad2_0 x0 x1 x2 x3 x4 x5 x6 x7 x8 x9 t d) (r_pad1_0 x0 x1 x2 x3 x4 x5 x6 x7 x8 x9 t d)) (r_pad0_in x0 x1 x2 x3 x4 x5 x6 x7 x8 x9 t d h)) ?_
  simp only [zero_add, add_zero]

theorem r_band0 (h : (argsOf x0 x1 x2 x3 x4 x5 x6 x7 x8 x9).Finite) :
    val_main_v95 (F := Ideal) x0 x1 x2 x3 x4 x5 x6 x7 x8 x9 (ix2 t ⟨d.val, by omega⟩) =
      ((argsOf x0 x1 x2 x3 x4 x5 x6 x7 x8 x9).row t).band0 (argsOf x0 x1 x2 x3 x4 x5 x6 x7 x8 x9).wts d := by
  have e1 : val_main_v93 (F := Ideal) x0 x1 x2 x3 x4 x5 x6 x7 x8 x9 (ix2 t ⟨d.val, by omega⟩) = ((argsOf x0 x1 x2 x3 x4 x5 x6 x7 x8 x9).row t).dm (argsOf x0 x1 x2 x3 x4 x5 x6 x7 x8 x9).wts d * (argsOf x0 x1 x2 x3 x4 x5 x6 x7 x8 x9).yc t d := by
    rw [val_main_v93_apply]
    refine (congrArg (val_main_v92 (F := Ideal) x0 x1 x2 x3 x4 x5 x6 x7 x8 x9) (ext3 (j := ix3 t (0 : Fin 3) d) ?_ ?_ ?_)).trans (r_m0 x0 x1 x2 x3 x4 x5 x6 x7 x8 x9 t d h)
    · show (t.val * 3072 + (d.val)) / 3072 = t.val
      omega
    · show (t.val * 3072 + (d.val)) / 1024 % 3 = 0
      omega
    · show (t.val * 3072 + (d.val)) % 1024 = d.val
      omega
  have e2 : val_main_v28 (F := Ideal) x3 (ix2 t ⟨d.val, by omega⟩) = sg ((argsOf x0 x1 x2 x3 x4 x5 x6 x7 x8 x9).g0 t d) * (1 - sg ((argsOf x0 x1 x2 x3 x4 x5 x6 x7 x8 x9).g0 t d)) := by
    have e3 : val_main_v25 (F := Ideal) x3 (ix2 t ⟨d.val, by omega⟩) = sg ((argsOf x0 x1 x2 x3 x4 x5 x6 x7 x8 x9).g0 t d) := r_gate x3 t _
    rw [← e3, ← lit_one]
    rfl
  exact Eq.trans (congrArg₂ (· * ·) e1 e2) (mul_assoc _ _ _).symm

theorem r_m1 (h : (argsOf x0 x1 x2 x3 x4 x5 x6 x7 x8 x9).Finite) :
    val_main_v92 (F := Ideal) x0 x1 x2 x3 x4 x5 x6 x7 x8 x9 (ix3 t 1 d) =
      ((argsOf x0 x1 x2 x3 x4 x5 x6 x7 x8 x9).row t).dm (argsOf x0 x1 x2 x3 x4 x5 x6 x7 x8 x9).wts d * (argsOf x0 x1 x2 x3 x4 x5 x6 x7 x8 x9).ya t d := by
  refine Eq.trans (congrArg₂ (· + ·) (congrArg₂ (· + ·) (r_pad2_1 x0 x1 x2 x3 x4 x5 x6 x7 x8 x9 t d) (r_pad1_in x0 x1 x2 x3 x4 x5 x6 x7 x8 x9 t d h)) (r_pad0_1 x0 x1 x2 x3 x4 x5 x6 x7 x8 x9 t d)) ?_
  simp only [zero_add, add_zero]

theorem r_band1 (h : (argsOf x0 x1 x2 x3 x4 x5 x6 x7 x8 x9).Finite) :
    val_main_v95 (F := Ideal) x0 x1 x2 x3 x4 x5 x6 x7 x8 x9 (ix2 t ⟨1024 + d.val, by omega⟩) =
      ((argsOf x0 x1 x2 x3 x4 x5 x6 x7 x8 x9).row t).band1 (argsOf x0 x1 x2 x3 x4 x5 x6 x7 x8 x9).wts d := by
  have e1 : val_main_v93 (F := Ideal) x0 x1 x2 x3 x4 x5 x6 x7 x8 x9 (ix2 t ⟨1024 + d.val, by omega⟩) = ((argsOf x0 x1 x2 x3 x4 x5 x6 x7 x8 x9).row t).dm (argsOf x0 x1 x2 x3 x4 x5 x6 x7 x8 x9).wts d * (argsOf x0 x1 x2 x3 x4 x5 x6 x7 x8 x9).ya t d := by
    rw [val_main_v93_apply]
    refine (congrArg (val_main_v92 (F := Ideal) x0 x1 x2 x3 x4 x5 x6 x7 x8 x9) (ext3 (j := ix3 t (1 : Fin 3) d) ?_ ?_ ?_)).trans (r_m1 x0 x1 x2 x3 x4 x5 x6 x7 x8 x9 t d h)
    · show (t.val * 3072 + (1024 + d.val)) / 3072 = t.val
      omega
    · show (t.val * 3072 + (1024 + d.val)) / 1024 % 3 = 1
      omega
    · show (t.val * 3072 + (1024 + d.val)) % 1024 = d.val
      omega
  have e2 : val_main_v28 (F := Ideal) x3 (ix2 t ⟨1024 + d.val, by omega⟩) = sg ((argsOf x0 x1 x2 x3 x4 x5 x6 x7 x8 x9).g1 t d) * (1 - sg ((argsOf x0 x1 x2 x3 x4 x5 x6 x7 x8 x9).g1 t d)) := by
    have e3 : val_main_v25 (F := Ideal) x3 (ix2 t ⟨1024 + d.val, by omega⟩) = sg ((argsOf x0 x1 x2 x3 x4 x5 x6 x7 x8 x9).g1 t d) := r_gate x3 t _
    rw [← e3, ← lit_one]
    rfl
  exact Eq.trans (congrArg₂ (· * ·) e1 e2) (mul_assoc _ _ _).symm

theorem r_m2 (h : (argsOf x0 x1 x2 x3 x4 x5 x6 x7 x8 x9).Finite) :
    val_main_v92 (F := Ideal) x0 x1 x2 x3 x4 x5 x6 x7 x8 x9 (ix3 t 2 d) =
      ((argsOf x0 x1 x2 x3 x4 x5 x6 x7 x8 x9).row t).dm (argsOf x0 x1 x2 x3 x4 x5 x6 x7 x8 x9).wts d * (argsOf x0 x1 x2 x3 x4 x5 x6 x7 x8 x9).yp t d := by
  refine Eq.trans (congrArg₂ (· + ·) (congrArg₂ (· + ·) (r_pad2_in x0 x1 x2 x3 x4 x5 x6 x7 x8 x9 t d h) (r_pad1_2 x0 x1 x2 x3 x4 x5 x6 x7 x8 x9 t d)) (r_pad0_2 x0 x1 x2 x3 x4 x5 x6 x7 x8 x9 t d)) ?_
  simp only [zero_add, add_zero]

theorem r_band2 (h : (argsOf x0 x1 x2 x3 x4 x5 x6 x7 x8 x9).Finite) :
    val_main_v95 (F := Ideal) x0 x1 x2 x3 x4 x5 x6 x7 x8 x9 (ix2 t ⟨2048 + d.val, by omega⟩) =
      ((argsOf x0 x1 x2 x3 x4 x5 x6 x7 x8 x9).row t).band2 (argsOf x0 x1 x2 x3 x4 x5 x6 x7 x8 x9).wts d := by
  have e1 : val_main_v93 (F := Ideal) x0 x1 x2 x3 x4 x5 x6 x7 x8 x9 (ix2 t ⟨2048 + d.val, by omega⟩) = ((argsOf x0 x1 x2 x3 x4 x5 x6 x7 x8 x9).row t).dm (argsOf x0 x1 x2 x3 x4 x5 x6 x7 x8 x9).wts d * (argsOf x0 x1 x2 x3 x4 x5 x6 x7 x8 x9).yp t d := by
    rw [val_main_v93_apply]
    refine (congrArg (val_main_v92 (F := Ideal) x0 x1 x2 x3 x4 x5 x6 x7 x8 x9) (ext3 (j := ix3 t (2 : Fin 3) d) ?_ ?_ ?_)).trans (r_m2 x0 x1 x2 x3 x4 x5 x6 x7 x8 x9 t d h)
    · show (t.val * 3072 + (2048 + d.val)) / 3072 = t.val
      omega
    · show (t.val * 3072 + (2048 + d.val)) / 1024 % 3 = 2
      omega
    · show (t.val * 3072 + (2048 + d.val)) % 1024 = d.val
      omega
  have e2 : val_main_v28 (F := Ideal) x3 (ix2 t ⟨2048 + d.val, by omega⟩) = sg ((argsOf x0 x1 x2 x3 x4 x5 x6 x7 x8 x9).g2 t d) * (1 - sg ((argsOf x0 x1 x2 x3 x4 x5 x6 x7 x8 x9).g2 t d)) := by
    have e3 : val_main_v25 (F := Ideal) x3 (ix2 t ⟨2048 + d.val, by omega⟩) = sg ((argsOf x0 x1 x2 x3 x4 x5 x6 x7 x8 x9).g2 t d) := r_gate x3 t _
    rw [← e3, ← lit_one]
    rfl
  exact Eq.trans (congrArg₂ (· * ·) e1 e2) (mul_assoc _ _ _).symm

end Cert.ReferenceIdeal.Hand

end
-- ==== Proof.Host.lean ====
module

public import proofs.«01_k».proof.Proof.Ref
public import proofs.«01_k».proof.Proof.Gen.KernelIdeal.Frame.Runs

@[expose] public section

/-! What the host lines before the kernel leave in the buffers the kernel reads: the branches' outputs and the merged output are the
    reference's own values, and the weights are the arguments. -/

open Idealize.ShloMosaic Idealize.ShloMosaic.ValueIdx Idealize.ShloMosaic.TcCoe Idealize.SL.Sem Cert.Spec

set_option maxRecDepth 8192
set_option maxHeartbeats 2000000

noncomputable section

namespace Cert.KernelIdeal.Hand

open Cert.KernelIdeal Cert.KernelIdeal.Gen

variable (m : (ℓ : Loc nD τ sig) → Buf (Elt Ideal) ℓ) (c : Dev nD)

/-- The first branch's output. -/
theorem V_yc : V m c main_v35 = Cert.ReferenceIdeal.Read.val_main_v11 (F := Ideal)
    (m ((c : Thread nD τ).loc main_arg0)) (m ((c : Thread nD τ).loc main_arg4)) := by
  unfold V
  simp only [List.flatten_cons, List.flatten_nil, List.append_nil, List.cons_append, List.nil_append, hostOps0, hostOps0_1, hostOps0_2,
    StableHlo.TRef.binary, StableHlo.TRef.nullary, StableHlo.TRef.unary, StableHlo.TRef.toBuf, StableHlo.TRef.ofBuf, cast_eq]
  after_results_simp
  sl_kernel_rfl

/-- The merged output. -/
theorem V_y : V m c main_v38 = Cert.ReferenceIdeal.Read.val_main_v41 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) := by
  sl_kernel_rfl

/-- The second branch's output. -/
theorem V_ya : V m c main_v36 = Cert.ReferenceIdeal.Read.val_main_v16 (F := Ideal)
    (m ((c : Thread nD τ).loc main_arg1)) (m ((c : Thread nD τ).loc main_arg3)) (m ((c : Thread nD τ).loc main_arg5)) := by
  sl_kernel_rfl

/-- The third branch's output. -/
theorem V_yp : V m c main_v37 = Cert.ReferenceIdeal.Read.val_main_v18 (F := Ideal)
    (m ((c : Thread nD τ).loc main_arg2)) (m ((c : Thread nD τ).loc main_arg6)) := by
  sl_kernel_rfl

/-- Weight 0 as the kernel reads it. -/
theorem V_v0 : (V m c main_v0 : S512x1024.Idx → EReal) = m ((c : Thread nD τ).loc main_arg4) := by
  sl_kernel_rfl

/-- Weight 1 as the kernel reads it. -/
theorem V_v1 : (V m c main_v1 : S512x1024.Idx → EReal) = m ((c : Thread nD τ).loc main_arg5) := by
  sl_kernel_rfl

/-- Weight 2 as the kernel reads it. -/
theorem V_v2 : (V m c main_v2 : S512x1024.Idx → EReal) = m ((c : Thread nD τ).loc main_arg6) := by
  sl_kernel_rfl

/-- Weight 3 as the kernel reads it. -/
theorem V_v3 : (V m c main_v3 : S1024x1024.Idx → EReal) = m ((c : Thread nD τ).loc main_arg7) := by
  sl_kernel_rfl

end Cert.KernelIdeal.Hand

end
-- ==== Proof.Pay.lean ====
module

public import proofs.«01_k».proof.Proof.Spec
public import proofs.«01_k».proof.Proof.Body
public import Idealize.ShloMosaic.Lib.MatmulPlain
public import Idealize.ShloMosaic.Lib.ValueLayout
public import Idealize.ShloMosaic.Lib.ValueLayoutCasts
public import Idealize.ShloMosaic.Lib.Pipeline.Value

@[expose] public section

/-! What the kernel's payloads are at one index, at the ideal values: each is the token's quantity of `Cert.Spec`. -/

open Idealize.ShloMosaic Idealize.ShloMosaic.ValueIdx Cert.Spec

noncomputable section

namespace Cert.KernelIdeal.Hand

open Cert.KernelIdeal Cert.KernelIdeal.Gen

/-- A product with the right side transposed, 256 rows of 1024 with 512 rows of 1024. -/
theorem nt512 (l : FVec Ideal S256x1024 .bf16) (r : FVec Ideal S512x1024 .bf16) (a : Fin 256) (b : Fin 512) :
    matmul dot_S256x1024_S512x1024_S256x512_1_1_0_0_n_n none l r (constant S256x512 .f32 0x00000000#32) (ix2 a b)
      = ∑ k : Fin 1024, l (ix2 a k) * r (ix2 b k) := by
  refine (Ideal.matmul_transposedRhs_apply none l r (constant S256x512 .f32 0x00000000#32) a b).trans ?_
  rw [constant_apply, Ideal.ofBits_zero_f32, zero_add]

/-- A product with the right side transposed, 256 rows of 1024 with 1024 rows of 1024. -/
theorem nt1024 (l : FVec Ideal S256x1024 .bf16) (r : FVec Ideal S1024x1024 .bf16) (a : Fin 256) (b : Fin 1024) :
    matmul dot_S256x1024_S1024x1024_S256x1024_1_1_0_0_n_n none l r (constant S256x1024 .f32 0x00000000#32) (ix2 a b)
      = ∑ k : Fin 1024, l (ix2 a k) * r (ix2 b k) := by
  refine (Ideal.matmul_transposedRhs_apply none l r (constant S256x1024 .f32 0x00000000#32) a b).trans ?_
  rw [constant_apply, Ideal.ofBits_zero_f32, zero_add]

/-- A product with the left side transposed, of two blocks of 256 rows, 512 and 1024 columns. -/
theorem tn512 (l : FVec Ideal S256x512 .bf16) (r : FVec Ideal S256x1024 .bf16) (a : Fin 512) (b : Fin 1024) :
    matmul dot_S256x512_S256x1024_S512x1024_0_0_1_1_n_n none l r (constant S512x1024 .f32 0x00000000#32) (ix2 a b)
      = ∑ k : Fin 256, l (ix2 k a) * r (ix2 k b) := by
  have hr : dot_S256x512_S256x1024_S512x1024_0_0_1_1_n_n.contr.rank = 1 := rfl
  have hs : dot_S256x512_S256x1024_S512x1024_0_0_1_1_n_n.contr.size ⟨0, by rw [hr]; omega⟩ = 256 := rfl
  refine (Ideal.matmul_constant_zero_apply _ none l r (ix2 a b)).trans ?_
  rw [← Equiv.sum_comp (contrEquiv1 _ 256 hr hs).symm]
  refine Finset.sum_congr rfl fun k _ => ?_
  have hk := contrEquiv1_symm_val _ 256 hr hs k
  refine congrArg₂ (· * ·) (congrArg l ?_) (congrArg r ?_)
  all_goals
    funext c; apply Fin.ext
    match c with
    | ⟨0, _⟩ => exact hk
    | ⟨1, _⟩ => rfl

/-- A product with the left side transposed, of two blocks of 256 rows, 1024 columns each. -/
theorem tn1024 (l : FVec Ideal S256x1024 .bf16) (r : FVec Ideal S256x1024 .bf16) (a : Fin 1024) (b : Fin 1024) :
    matmul dot_S256x1024_S256x1024_S1024x1024_0_0_1_1_n_n none l r (constant S1024x1024 .f32 0x00000000#32) (ix2 a b)
      = ∑ k : Fin 256, l (ix2 k a) * r (ix2 k b) := by
  have hr : dot_S256x1024_S256x1024_S1024x1024_0_0_1_1_n_n.contr.rank = 1 := rfl
  have hs : dot_S256x1024_S256x1024_S1024x1024_0_0_1_1_n_n.contr.size ⟨0, by rw [hr]; omega⟩ = 256 := rfl
  refine (Ideal.matmul_constant_zero_apply _ none l r (ix2 a b)).trans ?_
  rw [← Equiv.sum_comp (contrEquiv1 _ 256 hr hs).symm]
  refine Finset.sum_congr rfl fun k _ => ?_
  have hk := contrEquiv1_symm_val _ 256 hr hs k
  refine congrArg₂ (· * ·) (congrArg l ?_) (congrArg r ?_)
  all_goals
    funext c; apply Fin.ext
    match c with
    | ⟨0, _⟩ => exact hk
    | ⟨1, _⟩ => rfl

/-- A row's sum. -/
theorem rowSum (v : FVec Ideal S256x1024 .f32) (r : Fin 256) :
    shapeCast S256x1 (multiReduction .add [1] S256 v 0x00000000#32 reduces_S256x1024_S256 (.inl rfl) rfl) shapeCasts_S256_S256x1
        (ix2 r 0) = ∑ d : Fin 1024, v (ix2 r d) := by
  rw [shapeCast_a_a1_apply]
  refine (Ideal.multiReduction_add_single v _ _ _ _ _).trans ?_
  refine Finset.sum_congr rfl fun d _ => congrArg v ?_
  funext c; apply Fin.ext
  match c with
  | ⟨0, _⟩ => rfl
  | ⟨1, _⟩ => rfl

/-- A column's sum. -/
theorem colSum (v : FVec Ideal S256x1024 .f32) (d : Fin 1024) :
    shapeCast S1x1024 (multiReduction .add [0] S1024 v 0x00000000#32 reduces_S256x1024_S1024 (.inl rfl) rfl) shapeCasts_S1024_S1x1024
        (ix2 0 d) = ∑ r : Fin 256, v (ix2 r d) := by
  rw [shapeCast_a_1a_apply]
  refine (Ideal.multiReduction_add_single v _ _ _ _ _).trans ?_
  refine Finset.sum_congr rfl fun r _ => congrArg v ?_
  funext c; apply Fin.ext
  match c with
  | ⟨0, _⟩ => rfl
  | ⟨1, _⟩ => rfl

/-- A column copied along its rows. -/
theorem bcol (v : FVec Ideal S256x1 .f32) (r : Fin 256) (d : Fin 1024) :
    broadcastTo S256x1024 v broadcasts_S256x1_S256x1024 (ix2 r d) = v (ix2 r 0) := by
  refine broadcastTo_apply _ _ _ _ fun a => ?_
  match a with
  | ⟨0, _⟩ => rfl
  | ⟨1, _⟩ => rfl

/-- A row copied along its columns. -/
theorem brow (v : FVec Ideal S1x1024 .f32) (r : Fin 256) (d : Fin 1024) :
    broadcastTo S256x1024 v broadcasts_S1x1024_S256x1024 (ix2 r d) = v (ix2 0 d) := by
  refine broadcastTo_apply _ _ _ _ fun a => ?_
  match a with
  | ⟨0, _⟩ => rfl
  | ⟨1, _⟩ => rfl

/-- One token of the blocks in on-chip memory. -/
def rowOf (x : Blocks Ideal) (r : Fin 256) : Row where
  ac k := x.ac (ix2 r k)
  o k := x.o (ix2 r k)
  ap k := x.ap (ix2 r k)
  ag k := x.ag (ix2 r k)
  g0 d := x.gl (ix2 r ⟨d.val, by omega⟩)
  g1 d := if h : d.val < 512 then x.gl (ix2 r ⟨1024 + d.val, by omega⟩) else x.gh (ix2 r ⟨d.val - 512, by omega⟩)
  g2 d := x.gh (ix2 r ⟨512 + d.val, by omega⟩)
  yc d := x.yc (ix2 r d)
  ya d := x.ya (ix2 r d)
  yp d := x.yp (ix2 r d)
  y d := x.y (ix2 r d)
  ct d := x.ct (ix2 r d)

/-- The weights in on-chip memory. -/
def wtsOf (x : Blocks Ideal) : Wts where
  wco k d := x.wco (ix2 k d)
  wao k d := x.wao (ix2 k d)
  wpo k d := x.wpo (ix2 k d)
  wout d e := x.wout (ix2 d e)
  pg d := x.pg (ix2 0 d)

variable (x : Blocks Ideal) (r : Fin 256)

theorem pay11_apply (v : Vec Ideal S256x512 .bf16) (i : S256x512.Idx) : k0_pay11 (F := Ideal) v i = sg (v i) := half_tanh (v i)
theorem pay14_apply (v : Vec Ideal S256x1536 .bf16) (i : S256x1536.Idx) : k0_pay14 (F := Ideal) v i = sg (v i) := half_tanh (v i)
theorem pay16_apply (v : Vec Ideal S256x1536 .bf16) (i : S256x1536.Idx) :
    k0_pay16 (F := Ideal) (k0_pay15 v) (Scalar.ofBits .f32 0x3F000000#32) i = sg (v i) := half_tanh (v i)

theorem g0_apply (d : Fin 1024) : x.g0 (ix2 r d) = sg ((rowOf x r).g0 d) := by
  unfold Blocks.g0 k0_pay17
  rw [extractStridedSlice_apply (k := ix2 r (⟨d.val, by omega⟩ : Fin 1536)) (hk := fun a => by
    match a with
    | ⟨0, _⟩ => exact (Nat.zero_add _).symm
    | ⟨1, _⟩ => exact (Nat.zero_add _).symm)]
  exact pay14_apply _ _

theorem g2_apply (d : Fin 1024) : x.g2 (ix2 r d) = sg ((rowOf x r).g2 d) := by
  unfold Blocks.g2 k0_pay19
  rw [extractStridedSlice_apply (k := ix2 r (⟨512 + d.val, by omega⟩ : Fin 1536)) (hk := fun a => by
    match a with
    | ⟨0, _⟩ => exact (Nat.zero_add _).symm
    | ⟨1, _⟩ => rfl)]
  exact pay16_apply _ _

theorem g1_apply (d : Fin 1024) : x.g1 (ix2 r d) = sg ((rowOf x r).g1 d) := by
  unfold Blocks.g1 k0_pay18
  by_cases h : d.val < 512
  · refine (concatenate_pair_apply_left (t := S256x1024) (s₁ := S256x512) (s₂ := S256x512) 1 _ _ _ (ix2 r d) rfl (ix2 r (⟨d.val, h⟩ : Fin 512)) (fun b => by
      match b with
      | ⟨0, _⟩ => rfl
      | ⟨1, _⟩ => rfl)).trans ?_
    rw [extractStridedSlice_apply (k := ix2 r (⟨1024 + d.val, by omega⟩ : Fin 1536)) (hk := fun a => by
      match a with
      | ⟨0, _⟩ => exact (Nat.zero_add _).symm
      | ⟨1, _⟩ => rfl)]
    rw [pay14_apply]
    simp only [rowOf, dif_pos h]
  · refine (concatenate_pair_apply_right (t := S256x1024) (s₁ := S256x512) (s₂ := S256x512) 1 _ _ _ (ix2 r d) rfl rfl (ix2 r (⟨d.val - 512, by omega⟩ : Fin 512)) (fun b hb => by
      match b with
      | ⟨0, _⟩ => rfl
      | ⟨1, _⟩ => exact absurd rfl hb) (by show d.val - 512 + 512 = d.val; omega)).trans ?_
    rw [extractStridedSlice_apply (k := ix2 r (⟨d.val - 512, by omega⟩ : Fin 1536)) (hk := fun a => by
      match a with
      | ⟨0, _⟩ => exact (Nat.zero_add _).symm
      | ⟨1, _⟩ => exact (Nat.zero_add _).symm)]
    rw [pay16_apply]
    simp only [rowOf, dif_neg h]

theorem ry_apply : k0_pay25 (F := Ideal) x.y (ix2 r 0) = (rowOf x r).ry := by
  unfold k0_pay25
  refine congrArg Ideal.rsqrt (congrArg₂ (· + ·) (congrArg₂ Ideal.div ?_ rfl) rfl)
  refine (rowSum _ r).trans (Finset.sum_congr rfl fun d _ => ?_)
  rw [mulf_apply]; unfold k0_pay24; rw [shapeCast_self]; rfl

theorem yn_apply (d : Fin 1024) : k0_pay26 (F := Ideal) x.y (ix2 r d) = (rowOf x r).yn d := by
  unfold k0_pay26
  refine congrArg₂ (· * ·) ?_ ((bcol _ r d).trans (ry_apply x r))
  unfold k0_pay24; rw [shapeCast_self]; rfl

theorem mg_apply (d : Fin 1024) : x.mg (ix2 r d) = (rowOf x r).mg d := by
  unfold Blocks.mg k0_pay23
  have e0 := g0_apply x r d
  have e1 := g1_apply x r d
  have e2 := g2_apply x r d
  unfold Blocks.g0 at e0; unfold Blocks.g1 at e1; unfold Blocks.g2 at e2
  rw [truncf_apply, addf_apply, addf_apply, mulf_apply, mulf_apply, mulf_apply, e0, e1, e2]
  unfold k0_pay20 k0_pay21 k0_pay22
  rw [shapeCast_self, shapeCast_self, shapeCast_self]
  rfl

theorem dy_apply (d : Fin 1024) :
    k0_pay28 (F := Ideal) (k0_pay25 x.y) (k0_pay26 x.y) x.ct x.pg (ix2 r d) = (rowOf x r).dy (wtsOf x) d := by
  unfold k0_pay28
  rw [truncf_apply, mulf_apply, bcol, ry_apply, subf_apply, mulf_apply, brow, mulf_apply, bcol, yn_apply, divf_apply, rowSum]
  refine congrArg₂ (· * ·) rfl (congrArg₂ (· - ·) rfl (congrArg₂ (· * ·) rfl (congrArg₂ Ideal.div ?_ rfl)))
  refine Finset.sum_congr rfl fun d _ => ?_
  rw [mulf_apply, mulf_apply, brow, yn_apply]
  rfl

theorem dm_apply (d : Fin 1024) : x.dm (ix2 r d) = (rowOf x r).dm (wtsOf x) d := by
  unfold Blocks.dm k0_pay29
  rw [shapeCast_self]
  refine (nt1024 _ _ r d).trans (Finset.sum_congr rfl fun e _ => ?_)
  rw [dy_apply]; rfl

theorem dy0_apply (d : Fin 1024) : x.dy0 (ix2 r d) = (rowOf x r).dyb0 (wtsOf x) d := by
  unfold Blocks.dy0 k0_pay32
  have e := dm_apply x r d
  unfold Blocks.dm at e
  rw [truncf_apply, mulf_apply, e, g0_apply]; rfl

theorem dy1_apply (d : Fin 1024) : k0_pay36 x.g1 x.dm (ix2 r d) = (rowOf x r).dyb1 (wtsOf x) d := by
  unfold k0_pay36
  rw [truncf_apply, mulf_apply, dm_apply, g1_apply]; rfl

theorem dy2_apply (d : Fin 1024) : k0_pay40 x.g2 x.dm (ix2 r d) = (rowOf x r).dyb2 (wtsOf x) d := by
  unfold k0_pay40
  rw [truncf_apply, mulf_apply, dm_apply, g2_apply]; rfl

theorem da1_apply (k : Fin 512) : x.da1 (ix2 r k) = (rowOf x r).da1 (wtsOf x) k := by
  unfold Blocks.da1 k0_pay38
  rw [shapeCast_self]
  refine (nt512 _ _ r k).trans (Finset.sum_congr rfl fun e _ => ?_)
  rw [dy1_apply]; rfl

theorem dac_apply (k : Fin 512) : x.dac (ix2 r k) = (rowOf x r).dac (wtsOf x) k := by
  unfold Blocks.dac k0_pay1 k0_pay34
  rw [shapeCast_self, truncf_apply]
  refine (nt512 _ _ r k).trans (Finset.sum_congr rfl fun e _ => ?_)
  rw [dy0_apply]; rfl

theorem dap_apply (k : Fin 512) : x.dap (ix2 r k) = (rowOf x r).dap (wtsOf x) k := by
  unfold Blocks.dap k0_pay2
  rw [shapeCast_self, truncf_apply]
  refine (nt512 _ _ r k).trans (Finset.sum_congr rfl fun e _ => ?_)
  rw [dy2_apply]; rfl

theorem dao_apply (k : Fin 512) : x.dao (ix2 r k) = (rowOf x r).dao (wtsOf x) k := by
  unfold Blocks.dao k0_pay3
  rw [truncf_apply, mulf_apply, mulf_apply, da1_apply, pay11_apply]; rfl

theorem dag_apply (k : Fin 512) : x.dag (ix2 r k) = (rowOf x r).dag (wtsOf x) k := by
  unfold Blocks.dag k0_pay4
  rw [truncf_apply, mulf_apply, mulf_apply, mulf_apply, addf_apply, mulf_apply, subf_apply, da1_apply, pay11_apply]
  unfold Row.dag
  rw [← lit_one]; rfl

theorem band0_apply (d : Fin 1024) : x.band0 (ix2 r d) = (rowOf x r).band0 (wtsOf x) d := by
  unfold Blocks.band0 k0_pay31
  have e := dm_apply x r d
  unfold Blocks.dm at e
  rw [truncf_apply, mulf_apply, mulf_apply, mulf_apply, subf_apply, e, g0_apply]
  unfold k0_pay20 Row.band0
  rw [shapeCast_self, ← lit_one]; rfl

theorem band1_apply (d : Fin 1024) : x.band1 (ix2 r d) = (rowOf x r).band1 (wtsOf x) d := by
  unfold Blocks.band1 k0_pay35
  rw [truncf_apply, mulf_apply, mulf_apply, mulf_apply, subf_apply, dm_apply, g1_apply]
  unfold k0_pay21 Row.band1
  rw [shapeCast_self, ← lit_one]; rfl

theorem band2_apply (d : Fin 1024) : x.band2 (ix2 r d) = (rowOf x r).band2 (wtsOf x) d := by
  unfold Blocks.band2 k0_pay39
  rw [truncf_apply, mulf_apply, mulf_apply, mulf_apply, subf_apply, dm_apply, g2_apply]
  unfold k0_pay22 Row.band2
  rw [shapeCast_self, ← lit_one]; rfl

theorem dwco_apply (a : FVec Ideal S512x1024 .f32) (k : Fin 512) (d : Fin 1024) :
    x.dwco a (ix2 k d) = a (ix2 k d) + ∑ r, (rowOf x r).pwco (wtsOf x) k d := by
  unfold Blocks.dwco k0_pay33
  rw [shapeCast_self, addf_apply, tn512]
  refine congrArg₂ (· + ·) rfl (Finset.sum_congr rfl fun r _ => ?_)
  exact congrArg₂ (· * ·) rfl (dy0_apply x r d)

theorem dwao_apply (a : FVec Ideal S512x1024 .f32) (k : Fin 512) (d : Fin 1024) :
    x.dwao a (ix2 k d) = a (ix2 k d) + ∑ r, (rowOf x r).pwao (wtsOf x) k d := by
  unfold Blocks.dwao k0_pay37
  rw [shapeCast_self, addf_apply, tn512]
  refine congrArg₂ (· + ·) rfl (Finset.sum_congr rfl fun r _ => ?_)
  refine congrArg₂ (· * ·) ?_ (dy1_apply x r d)
  unfold k0_pay13
  rw [truncf_apply, mulf_apply, mulf_apply, pay11_apply]; rfl

theorem dwpo_apply (a : FVec Ideal S512x1024 .f32) (k : Fin 512) (d : Fin 1024) :
    x.dwpo a (ix2 k d) = a (ix2 k d) + ∑ r, (rowOf x r).pwpo (wtsOf x) k d := by
  unfold Blocks.dwpo k0_pay41
  rw [shapeCast_self, addf_apply, tn512]
  refine congrArg₂ (· + ·) rfl (Finset.sum_congr rfl fun r _ => ?_)
  exact congrArg₂ (· * ·) rfl (dy2_apply x r d)

theorem dwout_apply (a : FVec Ideal S1024x1024 .f32) (d e : Fin 1024) :
    x.dwout a (ix2 d e) = a (ix2 d e) + ∑ r, (rowOf x r).pwout (wtsOf x) d e := by
  unfold Blocks.dwout k0_pay30
  rw [shapeCast_self, addf_apply, tn1024]
  refine congrArg₂ (· + ·) rfl (Finset.sum_congr rfl fun r _ => ?_)
  exact congrArg₂ (· * ·) (mg_apply x r d) (dy_apply x r e)

theorem dpg_apply (a : FVec Ideal S1x1024 .f32) (d : Fin 1024) :
    x.dpg a (ix2 0 d) = a (ix2 0 d) + ∑ r, (rowOf x r).ppg d := by
  unfold Blocks.dpg k0_pay27
  rw [shapeCast_self, addf_apply, colSum]
  refine congrArg₂ (· + ·) rfl (Finset.sum_congr rfl fun r _ => ?_)
  rw [mulf_apply, yn_apply]; rfl

end Cert.KernelIdeal.Hand

end
-- ==== Proof.Band.lean ====
module

public import proofs.«01_k».proof.Proof.Pay
public import proofs.«01_k».proof.Proof.Ref

@[expose] public section

/-! The three bands of the merge gates' gradient read at one index, and the sum over the tokens as the kernel takes it: block by block. -/

open Idealize.ShloMosaic Idealize.ShloMosaic.ValueIdx Cert.Spec

noncomputable section

namespace Cert.KernelIdeal.Hand

open Cert.KernelIdeal Cert.KernelIdeal.Gen
open Cert.ReferenceIdeal.Hand (ext2)

variable (x : Blocks Ideal) (r : Fin 256) (d : Fin 1024)

/-- The third band, stored last. -/
theorem dgm_2 : x.dgm (ix2 r ⟨2048 + d.val, by omega⟩) = x.band2 (ix2 r d) := by
  unfold Blocks.dgm Blocks.bands
  rw [show (ix2 r ⟨2048 + d.val, by omega⟩ : S256x3072.Idx)
    = (Rect.unit (s := S256x3072) ![0, 2048] S256x1024.size inb_S256x3072_S256x1024_0_2048).emb (ix2 r d) from
      ext2 (by show r.val = 0 + 1 * r.val; omega) (by show 2048 + d.val = 2048 + 1 * d.val; omega)]
  exact View.canon_cons_emb ..

/-- The second band. -/
theorem dgm_1 : x.dgm (ix2 r ⟨1024 + d.val, by omega⟩) = x.band1 (ix2 r d) := by
  unfold Blocks.dgm Blocks.bands
  refine (View.canon_cons_of_not_mem _ _ fun hm => ?_).trans ?_
  · have h := ((Rect.mem_set_unit (inb := inb_S256x3072_S256x1024_0_2048)).1 hm (1 : Fin 2)).1
    have h' : 2048 ≤ 1024 + d.val := h
    omega
  rw [show (ix2 r ⟨1024 + d.val, by omega⟩ : S256x3072.Idx)
    = (Rect.unit (s := S256x3072) ![0, 1024] S256x1024.size inb_S256x3072_S256x1024_0_1024).emb (ix2 r d) from
      ext2 (by show r.val = 0 + 1 * r.val; omega) (by show 1024 + d.val = 1024 + 1 * d.val; omega)]
  exact View.canon_cons_emb ..

/-- The first band. -/
theorem dgm_0 : x.dgm (ix2 r ⟨d.val, by omega⟩) = x.band0 (ix2 r d) := by
  unfold Blocks.dgm Blocks.bands
  refine (View.canon_cons_of_not_mem _ _ fun hm => ?_).trans ((View.canon_cons_of_not_mem _ _ fun hm => ?_).trans ?_)
  · have h := ((Rect.mem_set_unit (inb := inb_S256x3072_S256x1024_0_2048)).1 hm (1 : Fin 2)).1
    have h' : 2048 ≤ d.val := h
    omega
  · have h := ((Rect.mem_set_unit (inb := inb_S256x3072_S256x1024_0_1024)).1 hm (1 : Fin 2)).1
    have h' : 1024 ≤ d.val := h
    omega
  rw [show (ix2 r ⟨d.val, by omega⟩ : S256x3072.Idx)
    = (Rect.unit (s := S256x3072) ![0, 0] S256x1024.size inb_S256x3072_S256x1024_0_0).emb (ix2 r d) from
      ext2 (by show r.val = 0 + 1 * r.val; omega) (by show d.val = 0 + 1 * d.val; omega)]
  exact View.canon_cons_emb ..

/-- Row `r` of block `t` is this token. -/
def tokOf (t : Fin 32) (r : Fin 256) : Fin 8192 := ⟨t.val * 256 + r.val, by omega⟩

/-- The sum over the blocks of the sums over their rows is the sum over the tokens. -/
theorem sum_tok (g : Fin 8192 → EReal) : ∑ t : Fin 32, ∑ r : Fin 256, g (tokOf t r) = ∑ t, g t := by
  rw [← Fintype.sum_prod_type' (fun t r => g (tokOf t r))]
  refine Fintype.sum_equiv (finProdFinEquiv (m := 32) (n := 256)) _ _ fun p => congrArg g (Fin.ext ?_)
  show p.1.val * 256 + p.2.val = p.2.val + 256 * p.1.val
  omega

end Cert.KernelIdeal.Hand

end
-- ==== Proof.Rows.lean ====
module

public import proofs.«01_k».proof.Proof.Run
public import proofs.«01_k».proof.Proof.Host
public import proofs.«01_k».proof.Proof.Band
public import Idealize.ShloMosaic.Lib.Pipeline.ValueKit

@[expose] public section

/-! The kernel's input blocks at a grid point are the rows of the point's tokens. -/

open Idealize.ShloMosaic hiding ix2
open Idealize.ShloMosaic.ValueIdx Idealize.ShloMosaic.TcCoe Idealize.SL.Sem Cert.Spec

set_option maxRecDepth 8192
set_option maxHeartbeats 2000000

noncomputable section

namespace Cert.KernelIdeal.Hand

open Cert.KernelIdeal Cert.KernelIdeal.Gen
open Cert.ReferenceIdeal.Hand (ext2 argsOf)

variable (m : (ℓ : Loc nD τ sig) → Buf (Elt Ideal) ℓ) (c : Dev nD) (t : Fin cfg0.N) (r : Fin 256)

/-! Where each window lies at each grid point. -/

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 6] := (by decide +kernel : ∀ t : Fin grid0.N, _)
theorem e4 : ∀ t : Fin cfg0.N, win0_4.index t = ![t.val, 3] := (by decide +kernel : ∀ t : Fin grid0.N, _)
theorem e5 : ∀ t : Fin cfg0.N, win0_5.index t = ![t.val, 4] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![t.val, 0] := (by decide +kernel : ∀ t : Fin grid0.N, _)
theorem e13 : ∀ t : Fin cfg0.N, win0_13.index t = ![t.val, 0] := (by decide +kernel : ∀ t : Fin grid0.N, _)
theorem e14 : ∀ t : Fin cfg0.N, win0_14.index t = ![t.val, 0] := (by decide +kernel : ∀ t : Fin grid0.N, _)
theorem e15 : ∀ t : Fin cfg0.N, win0_15.index t = ![t.val, 0] := (by decide +kernel : ∀ t : Fin grid0.N, _)
theorem e16 : ∀ t : Fin cfg0.N, win0_16.index t = ![t.val, 0] := (by decide +kernel : ∀ t : Fin grid0.N, _)
theorem e17 : ∀ t : Fin cfg0.N, win0_17.index t = ![t.val, 0] := (by decide +kernel : ∀ t : Fin grid0.N, _)
theorem e18 : ∀ t : Fin cfg0.N, win0_18.index t = ![t.val, 0] := (by decide +kernel : ∀ t : Fin grid0.N, _)
theorem e19 : ∀ t : Fin cfg0.N, win0_19.index t = ![t.val, 0] := (by decide +kernel : ∀ t : Fin grid0.N, _)
theorem e20 : ∀ t : Fin cfg0.N, win0_20.index t = ![t.val, 0] := (by decide +kernel : ∀ t : Fin grid0.N, _)
theorem e21 : ∀ t : Fin cfg0.N, win0_21.index t = ![0, 0] := (by decide +kernel : ∀ t : Fin grid0.N, _)
theorem e22 : ∀ t : Fin cfg0.N, win0_22.index t = ![0, 0] := (by decide +kernel : ∀ t : Fin grid0.N, _)
theorem e23 : ∀ t : Fin cfg0.N, win0_23.index t = ![0, 0] := (by decide +kernel : ∀ t : Fin grid0.N, _)
theorem e24 : ∀ t : Fin cfg0.N, win0_24.index t = ![0, 0] := (by decide +kernel : ∀ t : Fin grid0.N, _)
theorem e25 : ∀ t : Fin cfg0.N, win0_25.index t = ![0, 0] := (by decide +kernel : ∀ t : Fin grid0.N, _)

/-- The token in row `r` of block `t`. -/
def tok : Fin 8192 := tokOf ⟨t.val, lt_of_lt_of_eq t.isLt N_0⟩ r

/-- The kernel's arguments. -/
def args : Args := argsOf (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5)) (m ((c : Thread nD τ).loc main_arg6)) (m ((c : Thread nD τ).loc main_arg7))
  (m ((c : Thread nD τ).loc main_arg8)) (m ((c : Thread nD τ).loc main_arg9))

/-- The first branch's activations. -/
theorem b_ac (k : Fin 512) : (blocksAt m c t).ac (ix2 r k) = (args m c).ac (tok t r) k := by
  show iblk m c 0 t (ix2 r k) = m ((c : Thread nD τ).loc main_arg0) (ix2 (tok t r) k)
  blk_simp [iblk]
  rw [V_main_arg0]
  refine congrArg _ ?_
  blk_ext [e0, tok, tokOf]

/-- The second branch's activations. -/
theorem b_o (k : Fin 512) : (blocksAt m c t).o (ix2 r k) = (args m c).o (tok t r) k := by
  show iblk m c 1 t (ix2 r k) = m ((c : Thread nD τ).loc main_arg1) (ix2 (tok t r) k)
  blk_simp [iblk]
  rw [V_main_arg1]
  refine congrArg _ ?_
  blk_ext [e1, tok, tokOf]

/-- The third branch's activations. -/
theorem b_ap (k : Fin 512) : (blocksAt m c t).ap (ix2 r k) = (args m c).ap (tok t r) k := by
  show iblk m c 2 t (ix2 r k) = m ((c : Thread nD τ).loc main_arg2) (ix2 (tok t r) k)
  blk_simp [iblk]
  rw [V_main_arg2]
  refine congrArg _ ?_
  blk_ext [e2, tok, tokOf]

/-- The second branch's gate. -/
theorem b_ag (k : Fin 512) : (blocksAt m c t).ag (ix2 r k) = (args m c).z (tok t r) ⟨3072 + k.val, by omega⟩ := by
  show iblk m c 3 t (ix2 r k) = m ((c : Thread nD τ).loc main_arg3) (ix2 (tok t r) ⟨3072 + k.val, by omega⟩)
  blk_simp [iblk]
  rw [V_main_arg3]
  refine congrArg _ ?_
  blk_ext [e3, tok, tokOf]

/-- The merge gates, first half. -/
theorem b_gl (k : Fin 1536) : (blocksAt m c t).gl (ix2 r k) = (args m c).z (tok t r) ⟨4608 + k.val, by omega⟩ := by
  show iblk m c 4 t (ix2 r k) = m ((c : Thread nD τ).loc main_arg3) (ix2 (tok t r) ⟨4608 + k.val, by omega⟩)
  blk_simp [iblk]
  rw [V_main_arg3]
  refine congrArg _ ?_
  blk_ext [e4, tok, tokOf]

/-- The merge gates, second half. -/
theorem b_gh (k : Fin 1536) : (blocksAt m c t).gh (ix2 r k) = (args m c).z (tok t r) ⟨6144 + k.val, by omega⟩ := by
  show iblk m c 5 t (ix2 r k) = m ((c : Thread nD τ).loc main_arg3) (ix2 (tok t r) ⟨6144 + k.val, by omega⟩)
  blk_simp [iblk]
  rw [V_main_arg3]
  refine congrArg _ ?_
  blk_ext [e5, tok, tokOf]

/-- The incoming gradient. -/
theorem b_ct (k : Fin 1024) : (blocksAt m c t).ct (ix2 r k) = (args m c).ct (tok t r) k := by
  show iblk m c 11 t (ix2 r k) = m ((c : Thread nD τ).loc main_arg9) (ix2 (tok t r) k)
  blk_simp [iblk]
  rw [V_main_arg9]
  refine congrArg _ ?_
  blk_ext [e11, tok, tokOf]

/-- The norm's scale. -/
theorem b_pg (k : Fin 1024) : (blocksAt m c t).pg (ix2 0 k) = (args m c).pg k := by
  show iblk m c 10 t (ix2 0 k) = m ((c : Thread nD τ).loc main_arg8) (ix2 0 k)
  blk_simp [iblk]
  rw [V_main_arg8]
  refine congrArg _ ?_
  blk_ext [e10, tok, tokOf]

/-- The first branch's weight. -/
theorem b_wco (k : Fin 512) (d : Fin 1024) : (blocksAt m c t).wco (ix2 k d) = (args m c).wco k d := by
  show iblk m c 6 t (ix2 k d) = m ((c : Thread nD τ).loc main_arg4) (ix2 k d)
  blk_simp [iblk]
  refine (congrFun (V_v0 m c) _).trans (congrArg _ ?_)
  blk_ext [e6]

/-- The second branch's weight. -/
theorem b_wao (k : Fin 512) (d : Fin 1024) : (blocksAt m c t).wao (ix2 k d) = (args m c).wao k d := by
  show iblk m c 7 t (ix2 k d) = m ((c : Thread nD τ).loc main_arg5) (ix2 k d)
  blk_simp [iblk]
  refine (congrFun (V_v1 m c) _).trans (congrArg _ ?_)
  blk_ext [e7]

/-- The third branch's weight. -/
theorem b_wpo (k : Fin 512) (d : Fin 1024) : (blocksAt m c t).wpo (ix2 k d) = (args m c).wpo k d := by
  show iblk m c 8 t (ix2 k d) = m ((c : Thread nD τ).loc main_arg6) (ix2 k d)
  blk_simp [iblk]
  refine (congrFun (V_v2 m c) _).trans (congrArg _ ?_)
  blk_ext [e8]

/-- The output's weight. -/
theorem b_wout (k : Fin 1024) (d : Fin 1024) : (blocksAt m c t).wout (ix2 k d) = (args m c).wout k d := by
  show iblk m c 9 t (ix2 k d) = m ((c : Thread nD τ).loc main_arg7) (ix2 k d)
  blk_simp [iblk]
  refine (congrFun (V_v3 m c) _).trans (congrArg _ ?_)
  blk_ext [e9]

/-- The first branch's output. -/
theorem b_yc (k : Fin 1024) : (blocksAt m c t).yc (ix2 r k) = (args m c).yc (tok t r) k := by
  refine Eq.trans ?_ (Cert.ReferenceIdeal.Hand.r_yc (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tok t r) k)
  show iblk m c 12 t (ix2 r k) = _
  blk_simp [iblk]
  refine (congrFun (V_yc m c) _).trans (congrArg _ ?_)
  blk_ext [e12, tok, tokOf]

/-- The second branch's output. -/
theorem b_ya (k : Fin 1024) : (blocksAt m c t).ya (ix2 r k) = (args m c).ya (tok t r) k := by
  refine Eq.trans ?_ (Cert.ReferenceIdeal.Hand.r_ya (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tok t r) k)
  show iblk m c 13 t (ix2 r k) = _
  blk_simp [iblk]
  refine (congrFun (V_ya m c) _).trans (congrArg _ ?_)
  blk_ext [e13, tok, tokOf]

/-- The third branch's output. -/
theorem b_yp (k : Fin 1024) : (blocksAt m c t).yp (ix2 r k) = (args m c).yp (tok t r) k := by
  refine Eq.trans ?_ (Cert.ReferenceIdeal.Hand.r_yp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tok t r) k)
  show iblk m c 14 t (ix2 r k) = _
  blk_simp [iblk]
  refine (congrFun (V_yp m c) _).trans (congrArg _ ?_)
  blk_ext [e14, tok, tokOf]

/-- The merged output. -/
theorem b_y (k : Fin 1024) : (blocksAt m c t).y (ix2 r k) = (args m c).y (tok t r) k := by
  refine Eq.trans ?_ (Cert.ReferenceIdeal.Hand.r_y (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tok t r) k)
  show iblk m c 15 t (ix2 r k) = _
  blk_simp [iblk]
  refine (congrFun (V_y m c) _).trans (congrArg _ ?_)
  blk_ext [e15, tok, tokOf]

/-- A block's row is its token's. -/
theorem rowOf_eq : rowOf (blocksAt m c t) r = (args m c).row (tok t r) := by
  unfold rowOf Args.row
  simp only [Row.mk.injEq]
  refine ⟨funext fun k => b_ac m c t r k, funext fun k => b_o m c t r k, funext fun k => b_ap m c t r k, funext fun k => b_ag m c t r k,
    funext fun d => b_gl m c t r _, funext fun d => ?_, funext fun d => ?_, funext fun d => b_yc m c t r d,
    funext fun d => b_ya m c t r d, funext fun d => b_yp m c t r d, funext fun d => b_y m c t r d, funext fun d => b_ct m c t r d⟩
  · split_ifs with h
    · exact b_gl m c t r _
    · refine (b_gh m c t r _).trans (congrArg ((args m c).z (tok t r)) (Fin.ext ?_))
      show 6144 + (d.val - 512) = 4608 + (1024 + d.val)
      omega
  · refine (b_gh m c t r _).trans (congrArg ((args m c).z (tok t r)) (Fin.ext ?_))
    show 6144 + (512 + d.val) = 4608 + (2048 + d.val)
    omega

/-- A block's weights are the arguments. -/
theorem wtsOf_eq : wtsOf (blocksAt m c t) = (args m c).wts := by
  unfold wtsOf Args.wts
  simp only [Wts.mk.injEq]
  exact ⟨funext fun k => funext fun d => b_wco m c t k d, funext fun k => funext fun d => b_wao m c t k d,
    funext fun k => funext fun d => b_wpo m c t k d, funext fun k => funext fun d => b_wout m c t k d, funext fun d => b_pg m c t d⟩

end Cert.KernelIdeal.Hand

end
-- ==== Proof.Arr.lean ====
module

public import proofs.«01_k».proof.Proof.Rows

@[expose] public section

/-! What the kernel leaves in its ten output arrays: the reference's values at the kernel's arguments. -/

open Idealize.ShloMosaic hiding ix2
open Idealize.ShloMosaic.ValueIdx Idealize.ShloMosaic.TcCoe Idealize.SL.Sem Cert.Spec

set_option maxRecDepth 8192
set_option maxHeartbeats 2000000

noncomputable section

namespace Cert.KernelIdeal.Hand

open Cert.KernelIdeal Cert.KernelIdeal.Gen Cert.ReferenceIdeal.Read
open Cert.ReferenceIdeal.Hand (ext2 argsOf lit_zero)

variable (m : (ℓ : Loc nD τ sig) → Buf (Elt Ideal) ℓ) (c : Dev nD)

/-- A quantity that the first point clears and each point adds a block's share to is, after point `n`, the sum of the shares so far. -/
theorem acc_sum (get : Acc Ideal → EReal) (P : ℕ → EReal) (h0 : get Acc.zero = 0)
    (hs : ∀ (a : Acc Ideal) (t : Fin cfg0.N), get (a.step (blocksAt m c t)) = get a + P t.val) :
    ∀ (n : ℕ) (h : n < cfg0.N), get (accAt m c n h) = ∑ s ∈ Finset.range (n + 1), P s
  | 0, h => by
    show get (Acc.zero.step (blocksAt m c ⟨0, h⟩)) = _
    rw [hs, h0, zero_add, Finset.sum_range_one]
  | n + 1, h => by
    show get ((accAt m c n _).step (blocksAt m c ⟨n + 1, h⟩)) = _
    rw [hs, acc_sum get P h0 hs n, ← Finset.sum_range_succ]

/-- The block of a token's row, by its number. -/
def tokN (s : ℕ) (r : Fin 256) : Fin 8192 := if h : s < 32 then tokOf ⟨s, h⟩ r else 0

theorem tokN_eq (t : Fin cfg0.N) (r : Fin 256) : tokN t.val r = tok t r := dif_pos (lt_of_lt_of_eq t.isLt N_0)

/-- After the last point the quantity is the sum over all tokens. -/
theorem acc_last (get : Acc Ideal → EReal) (g : Fin 8192 → EReal) (h0 : get Acc.zero = 0)
    (hs : ∀ (a : Acc Ideal) (t : Fin cfg0.N), get (a.step (blocksAt m c t)) = get a + ∑ r, g (tok t r)) (h : 31 < cfg0.N) :
    get (accAt m c 31 h) = ∑ t, g t := by
  rw [acc_sum m c get (fun s => ∑ r, g (tokN s r)) h0 (fun a t => (hs a t).trans
    (congrArg _ (Finset.sum_congr rfl fun r _ => congrArg g (tokN_eq t r).symm))) 31 h, Finset.sum_range, ← sum_tok g]
  exact Finset.sum_congr rfl fun t _ => Finset.sum_congr rfl fun r _ => congrArg g (dif_pos t.isLt)

variable (h : (args m c).Finite)

include h in
/-- The gradient of the first branch's activations. -/
theorem arr_dac : (dats m 0 c).arrAt 16 cfg0.N = val_main_v111 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 16 _ (by decide +kernel) fun t hf y => ?_
  blk_simp
  rw [after16]
  obtain ⟨r, k, rfl⟩ : ∃ (r : Fin 256) (k : Fin 512), y = ix2 r k := ⟨y 0, y 1, ValueIdx.eq_ix2 y⟩
  refine (dac_apply (blocksAt m c t) r k).trans ?_
  rw [rowOf_eq, wtsOf_eq]
  refine (Cert.ReferenceIdeal.Hand.r_dac (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tok t r) k h).symm.trans (congrArg _ ?_)
  blk_ext [e16, tok, tokOf]

include h in
/-- The gradient of the second branch's activations. -/
theorem arr_dao : (dats m 0 c).arrAt 17 cfg0.N = val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 17 _ (by decide +kernel) fun t hf y => ?_
  blk_simp
  rw [after17]
  obtain ⟨r, k, rfl⟩ : ∃ (r : Fin 256) (k : Fin 512), y = ix2 r k := ⟨y 0, y 1, ValueIdx.eq_ix2 y⟩
  refine (dao_apply (blocksAt m c t) r k).trans ?_
  rw [rowOf_eq, wtsOf_eq]
  refine (Cert.ReferenceIdeal.Hand.r_dao (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tok t r) k h).symm.trans (congrArg _ ?_)
  blk_ext [e17, tok, tokOf]

include h in
/-- The gradient of the second branch's gate. -/
theorem arr_dag : (dats m 0 c).arrAt 18 cfg0.N = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 18 _ (by decide +kernel) fun t hf y => ?_
  blk_simp
  rw [after18]
  obtain ⟨r, k, rfl⟩ : ∃ (r : Fin 256) (k : Fin 512), y = ix2 r k := ⟨y 0, y 1, ValueIdx.eq_ix2 y⟩
  refine (dag_apply (blocksAt m c t) r k).trans ?_
  rw [rowOf_eq, wtsOf_eq]
  refine (Cert.ReferenceIdeal.Hand.r_dag (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tok t r) k h).symm.trans (congrArg _ ?_)
  blk_ext [e18, tok, tokOf]

include h in
/-- The gradient of the third branch's activations. -/
theorem arr_dap : (dats m 0 c).arrAt 19 cfg0.N = val_main_v99 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 19 _ (by decide +kernel) fun t hf y => ?_
  blk_simp
  rw [after19]
  obtain ⟨r, k, rfl⟩ : ∃ (r : Fin 256) (k : Fin 512), y = ix2 r k := ⟨y 0, y 1, ValueIdx.eq_ix2 y⟩
  refine (dap_apply (blocksAt m c t) r k).trans ?_
  rw [rowOf_eq, wtsOf_eq]
  refine (Cert.ReferenceIdeal.Hand.r_dap (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tok t r) k h).symm.trans (congrArg _ ?_)
  blk_ext [e19, tok, tokOf]

include h in
/-- The gradient of the merge gates. -/
theorem arr_dgm : (dats m 0 c).arrAt 20 cfg0.N = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_covers 20 _ (by decide +kernel) fun t hf y => ?_
  blk_simp
  rw [after20]
  obtain ⟨r, k, rfl⟩ : ∃ (r : Fin 256) (k : Fin 3072), y = ix2 r k := ⟨y 0, y 1, ValueIdx.eq_ix2 y⟩
  have hv : val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (ix2 (tok t r) k) = (blocksAt m c t).dgm (ix2 r k) := by
    by_cases h0 : k.val < 1024
    · have hk : k = ⟨(⟨k.val, h0⟩ : Fin 1024).val, by omega⟩ := rfl
      rw [hk, dgm_0, band0_apply, rowOf_eq, wtsOf_eq]
      exact Cert.ReferenceIdeal.Hand.r_band0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tok t r) ⟨k.val, h0⟩ h
    by_cases h1 : k.val < 2048
    · have hk : k = ⟨1024 + (⟨k.val - 1024, by omega⟩ : Fin 1024).val, by show 1024 + (k.val - 1024) < 3072; omega⟩ :=
        Fin.ext (by show k.val = 1024 + (k.val - 1024); omega)
      rw [hk, dgm_1, band1_apply, rowOf_eq, wtsOf_eq]
      exact Cert.ReferenceIdeal.Hand.r_band1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tok t r) ⟨k.val - 1024, by omega⟩ h
    · have hk : k = ⟨2048 + (⟨k.val - 2048, by omega⟩ : Fin 1024).val, by show 2048 + (k.val - 2048) < 3072; omega⟩ :=
        Fin.ext (by show k.val = 2048 + (k.val - 2048); omega)
      rw [hk, dgm_2, band2_apply, rowOf_eq, wtsOf_eq]
      exact Cert.ReferenceIdeal.Hand.r_band2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (tok t r) ⟨k.val - 2048, by omega⟩ h
  refine hv.symm.trans (congrArg _ ?_)
  blk_ext [e20, tok, tokOf]

include h in
/-- The gradient of the first branch's weight. -/
theorem arr_dwco : (dats m 0 c).arrAt 21 cfg0.N = val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 21 ⟨31, by decide +kernel⟩ (by decide +kernel) _ fun y => ?_
  obtain ⟨k, d, rfl⟩ : ∃ (k : Fin 512) (d : Fin 1024), y = ix2 k d := ⟨y 0, y 1, ValueIdx.eq_ix2 y⟩
  refine Eq.trans (b := (accAt m c 31 (by decide +kernel)).wco (ix2 k d)) ?_ ?_
  · rw [after21]; rfl
  refine (acc_last m c (fun a => a.wco (ix2 k d)) (fun t => ((args m c).row t).pwco (args m c).wts k d) lit_zero
    (fun a t => (dwco_apply (blocksAt m c t) a.wco k d).trans (congrArg _ (Finset.sum_congr rfl fun r _ => ?_))) _).trans ?_
  · rw [rowOf_eq, wtsOf_eq]
  · exact (Cert.ReferenceIdeal.Hand.r_dwco (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) k d h).symm

include h in
/-- The gradient of the second branch's weight. -/
theorem arr_dwao : (dats m 0 c).arrAt 22 cfg0.N = val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 22 ⟨31, by decide +kernel⟩ (by decide +kernel) _ fun y => ?_
  obtain ⟨k, d, rfl⟩ : ∃ (k : Fin 512) (d : Fin 1024), y = ix2 k d := ⟨y 0, y 1, ValueIdx.eq_ix2 y⟩
  refine Eq.trans (b := (accAt m c 31 (by decide +kernel)).wao (ix2 k d)) ?_ ?_
  · rw [after22]; rfl
  refine (acc_last m c (fun a => a.wao (ix2 k d)) (fun t => ((args m c).row t).pwao (args m c).wts k d) lit_zero
    (fun a t => (dwao_apply (blocksAt m c t) a.wao k d).trans (congrArg _ (Finset.sum_congr rfl fun r _ => ?_))) _).trans ?_
  · rw [rowOf_eq, wtsOf_eq]
  · exact (Cert.ReferenceIdeal.Hand.r_dwao (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) k d h).symm

include h in
/-- The gradient of the third branch's weight. -/
theorem arr_dwpo : (dats m 0 c).arrAt 23 cfg0.N = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 23 ⟨31, by decide +kernel⟩ (by decide +kernel) _ fun y => ?_
  obtain ⟨k, d, rfl⟩ : ∃ (k : Fin 512) (d : Fin 1024), y = ix2 k d := ⟨y 0, y 1, ValueIdx.eq_ix2 y⟩
  refine Eq.trans (b := (accAt m c 31 (by decide +kernel)).wpo (ix2 k d)) ?_ ?_
  · rw [after23]; rfl
  refine (acc_last m c (fun a => a.wpo (ix2 k d)) (fun t => ((args m c).row t).pwpo (args m c).wts k d) lit_zero
    (fun a t => (dwpo_apply (blocksAt m c t) a.wpo k d).trans (congrArg _ (Finset.sum_congr rfl fun r _ => ?_))) _).trans ?_
  · rw [rowOf_eq, wtsOf_eq]
  · exact (Cert.ReferenceIdeal.Hand.r_dwpo (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) k d h).symm

include h in
/-- The gradient of the output's weight. -/
theorem arr_dwout : (dats m 0 c).arrAt 24 cfg0.N = val_main_v77 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (dats m 0 c).arrAt_eq_of_after_last 24 ⟨31, by decide +kernel⟩ (by decide +kernel) _ fun y => ?_
  obtain ⟨k, d, rfl⟩ : ∃ (k : Fin 1024) (d : Fin 1024), y = ix2 k d := ⟨y 0, y 1, ValueIdx.eq_ix2 y⟩
  refine Eq.trans (b := (accAt m c 31 (by decide +kernel)).wout (ix2 k d)) ?_ ?_
  · rw [after24]; rfl
  refine (acc_last m c (fun a => a.wout (ix2 k d)) (fun t => ((args m c).row t).pwout (args m c).wts k d) lit_zero
    (fun a t => (dwout_apply (blocksAt m c t) a.wout k d).trans (congrArg _ (Finset.sum_congr rfl fun r _ => ?_))) _).trans ?_
  · rw [rowOf_eq, wtsOf_eq]
  · exact (Cert.ReferenceIdeal.Hand.r_dwout (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) k d h).symm

/-- The gradient of the norm's scale. -/
theorem arr_dpg : (dats m 0 c).arrAt 25 cfg0.N = val_main_v59 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) := by
  refine (dats m 0 c).arrAt_eq_of_after_last 25 ⟨31, by decide +kernel⟩ (by decide +kernel) _ fun y => ?_
  obtain ⟨k, d, rfl⟩ : ∃ (k : Fin 1) (d : Fin 1024), y = ix2 k d := ⟨y 0, y 1, ValueIdx.eq_ix2 y⟩
  obtain rfl : k = 0 := Subsingleton.elim _ _
  refine Eq.trans (b := (accAt m c 31 (by decide +kernel)).pg (ix2 0 d)) ?_ ?_
  · rw [after25]; rfl
  refine (acc_last m c (fun a => a.pg (ix2 0 d)) (fun t => ((args m c).row t).ppg d) lit_zero
    (fun a t => (dpg_apply (blocksAt m c t) a.pg d).trans (congrArg _ (Finset.sum_congr rfl fun r _ => ?_))) _).trans ?_
  · rw [rowOf_eq]
  · exact (Cert.ReferenceIdeal.Hand.r_ppg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) d).symm

end Cert.KernelIdeal.Hand

end
-- ==== Proof.Equation.lean ====
module

public import proofs.«01_k».proof.Defs
public import proofs.«01_k».proof.Proof.Arr
public import proofs.«01_k».proof.Proof.Frames

@[expose] public section

/-! The kernel and the reference return the same values when every argument is finite. -/

open Idealize.ShloMosaic hiding ix2
open Idealize.ShloMosaic.ValueIdx Idealize.ShloMosaic.TcCoe Idealize.SL.Sem Cert.Spec

set_option maxRecDepth 8192
set_option maxHeartbeats 2000000

noncomputable section

namespace Cert.Pre_finite

/-- The side conditions of the precondition's function. -/
theorem facts : Cert.Pre_finite.Facts where
  bcast_S_S8192x512 := by decide
  bcast_S_S8192x7680 := by decide
  bcast_S_S512x1024 := by decide
  bcast_S_S1024x1024 := by decide
  bcast_S_S1x1024 := by decide
  bcast_S_S8192x1024 := by decide

end Cert.Pre_finite

namespace Cert.Proof

/-- The bf16 pattern of infinity. -/
theorem inf16 : Ideal.ofBits .bf16 0x7F80#16 = ⊤ := by simp [Ideal.ofBits, Ideal.ieee]
/-- The f32 pattern of infinity. -/
theorem inf32 : Ideal.ofBits .f32 0x7F800000#32 = ⊤ := by simp [Ideal.ofBits, Ideal.ieee]

/-- A value whose absolute value is below infinity is finite. -/
theorem fin_of_lt {b x : EReal} (hb : b = ⊤) (h : Ideal.cmp .olt (max x (-x)) b = 1#1) : Fin' x := by
  subst hb
  induction x using EReal.rec with
  | bot => exact absurd h (by simp [Ideal.cmp])
  | coe r => exact ⟨r, rfl⟩
  | top => exact absurd h (by simp [Ideal.cmp])

section
open Cert.KernelIdeal Cert.KernelIdeal.Gen Cert.KernelIdeal.Hand

/-- Under the precondition every argument is finite. -/
theorem args_finite (m : (ℓ : Loc nD τ sig) → Buf (Elt Ideal) ℓ) (h : @Cert.Pre_KernelIdeal_finite Cert.Pre_finite.facts m) (c : Dev nD) :
    (args m c).Finite := by
  obtain ⟨h0, h1, h2, h3, h4, h5, h6, h7, h8, h9⟩ := h c
  exact ⟨fun t k => fin_of_lt inf16 (congrFun h0 (ix2 t k)),
    fun t k => fin_of_lt inf16 (congrFun h1 (ix2 t k)),
    fun t k => fin_of_lt inf16 (congrFun h2 (ix2 t k)),
    fun t k => fin_of_lt inf16 (congrFun h3 (ix2 t k)),
    fun t k => fin_of_lt inf32 (congrFun h4 (ix2 t k)),
    fun t k => fin_of_lt inf32 (congrFun h5 (ix2 t k)),
    fun t k => fin_of_lt inf32 (congrFun h6 (ix2 t k)),
    fun t k => fin_of_lt inf32 (congrFun h7 (ix2 t k)),
    fun k => fin_of_lt inf32 (congrFun h8 (ix2 0 k)),
    fun t k => fin_of_lt inf32 (congrFun h9 (ix2 t k))⟩

/-- The kernel's run: its ten results are the reference's values at its arguments, and its arguments are unchanged. -/
theorem kernel_run (m : (ℓ : Loc nD τ sig) → Buf (Elt Ideal) ℓ) (ρ : Dev nD → PrngReg) (hf : ∀ c, (args m c).Finite) :
    θ_run defs (onTc (τ := τ) (main (F := Ideal))) ⟨m, fun _ => 0, ρ⟩ (fun r => ∀ c : Dev nD,
      r.2.mem ((c.tc : Thread nD τ).loc main_v39_0) = Cert.ReferenceIdeal.Read.val_main_v111 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v39_1) = Cert.ReferenceIdeal.Read.val_main_v107 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v39_2) = Cert.ReferenceIdeal.Read.val_main_v106 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v39_3) = Cert.ReferenceIdeal.Read.val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v39_4) = Cert.ReferenceIdeal.Read.val_main_v95 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v39_5) = Cert.ReferenceIdeal.Read.val_main_v109 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v39_6) = Cert.ReferenceIdeal.Read.val_main_v101 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v39_7) = Cert.ReferenceIdeal.Read.val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v39_8) = Cert.ReferenceIdeal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v39_9) = Cert.ReferenceIdeal.Read.val_main_v59 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono
    (fun r h c => ⟨(h.1.out_eq c 16).trans (arr_dac m c (hf c)),
      (h.1.out_eq c 17).trans (arr_dao m c (hf c)),
      (h.1.out_eq c 18).trans (arr_dag m c (hf c)),
      (h.1.out_eq c 19).trans (arr_dap m c (hf c)),
      (h.1.out_eq c 20).trans (arr_dgm m c (hf c)),
      (h.1.out_eq c 21).trans (arr_dwco m c (hf c)),
      (h.1.out_eq c 22).trans (arr_dwao m c (hf c)),
      (h.1.out_eq c 23).trans (arr_dwpo m c (hf c)),
      (h.1.out_eq c 24).trans (arr_dwout m c (hf c)),
      (h.1.out_eq c 25).trans (arr_dpg m c), h.2 c⟩)
    (θ_run_and (run m ρ) (frame_of m ρ (dats m) (A_eq m) (run m ρ)))

end

/-- Ten arguments replaced by equal ones. -/
theorem congr10 {A0 A1 A2 A3 A4 A5 A6 A7 A8 A9 B : Type} (f : A0 → A1 → A2 → A3 → A4 → A5 → A6 → A7 → A8 → A9 → B)
    {a0 b0 : A0} {a1 b1 : A1} {a2 b2 : A2} {a3 b3 : A3} {a4 b4 : A4} {a5 b5 : A5} {a6 b6 : A6} {a7 b7 : A7} {a8 b8 : A8} {a9 b9 : A9}
    (h0 : a0 = b0) (h1 : a1 = b1) (h2 : a2 = b2) (h3 : a3 = b3) (h4 : a4 = b4) (h5 : a5 = b5) (h6 : a6 = b6) (h7 : a7 = b7)
    (h8 : a8 = b8) (h9 : a9 = b9) : f a0 a1 a2 a3 a4 a5 a6 a7 a8 a9 = f b0 b1 b2 b3 b4 b5 b6 b7 b8 b9 := by
  subst h0 h1 h2 h3 h4 h5 h6 h7 h8 h9; rfl

/-- The kernel's ten results are the reference's, at finite arguments. -/
theorem algebraic : @Cert.algebraic_KernelIdeal_ReferenceIdeal_pre_finite Cert.KernelIdeal.Gen.facts Cert.ReferenceIdeal.Gen.facts
    Cert.Pre_finite.facts := by
  intro m g m' g' hpre hagree
  refine ⟨_, _, _, _, _, _, _, _, _, _, kernel_run m g (args_finite m hpre), ?_⟩
  refine (θ_run Cert.ReferenceIdeal.defs _ _).mono (fun r h c => ?_) (Cert.ReferenceIdeal.Value.run (F := Ideal) m' g')
  obtain ⟨a0, a1, a2, a3, a4, a5, a6, a7, a8, a9⟩ := hagree c
  obtain ⟨r0, r1, r2, r3, r4, r5, r6, r7, r8, r9, hargs⟩ := h c
  exact ⟨r0.trans ((Cert.ReferenceIdeal.Read.val_main_v111_eq (StableHlo.launchContents m' c)).trans (congr10 (Cert.ReferenceIdeal.Read.val_main_v111 (F := Ideal)) a0 a1 a2 a3 a4 a5 a6 a7 a8 a9)),
    r1.trans ((Cert.ReferenceIdeal.Read.val_main_v107_eq (StableHlo.launchContents m' c)).trans (congr10 (Cert.ReferenceIdeal.Read.val_main_v107 (F := Ideal)) a0 a1 a2 a3 a4 a5 a6 a7 a8 a9)),
    r2.trans ((Cert.ReferenceIdeal.Read.val_main_v106_eq (StableHlo.launchContents m' c)).trans (congr10 (Cert.ReferenceIdeal.Read.val_main_v106 (F := Ideal)) a0 a1 a2 a3 a4 a5 a6 a7 a8 a9)),
    r3.trans ((Cert.ReferenceIdeal.Read.val_main_v99_eq (StableHlo.launchContents m' c)).trans (congr10 (Cert.ReferenceIdeal.Read.val_main_v99 (F := Ideal)) a0 a1 a2 a3 a4 a5 a6 a7 a8 a9)),
    r4.trans ((Cert.ReferenceIdeal.Read.val_main_v95_eq (StableHlo.launchContents m' c)).trans (congr10 (Cert.ReferenceIdeal.Read.val_main_v95 (F := Ideal)) a0 a1 a2 a3 a4 a5 a6 a7 a8 a9)),
    r5.trans ((Cert.ReferenceIdeal.Read.val_main_v109_eq (StableHlo.launchContents m' c)).trans (congr10 (Cert.ReferenceIdeal.Read.val_main_v109 (F := Ideal)) a0 a1 a2 a3 a4 a5 a6 a7 a8 a9)),
    r6.trans ((Cert.ReferenceIdeal.Read.val_main_v101_eq (StableHlo.launchContents m' c)).trans (congr10 (Cert.ReferenceIdeal.Read.val_main_v101 (F := Ideal)) a0 a1 a2 a3 a4 a5 a6 a7 a8 a9)),
    r7.trans ((Cert.ReferenceIdeal.Read.val_main_v97_eq (StableHlo.launchContents m' c)).trans (congr10 (Cert.ReferenceIdeal.Read.val_main_v97 (F := Ideal)) a0 a1 a2 a3 a4 a5 a6 a7 a8 a9)),
    r8.trans ((Cert.ReferenceIdeal.Read.val_main_v77_eq (StableHlo.launchContents m' c)).trans (congr10 (Cert.ReferenceIdeal.Read.val_main_v77 (F := Ideal)) a0 a1 a2 a3 a4 a5 a6 a7 a8 a9)),
    r9.trans ((Cert.ReferenceIdeal.Read.val_main_v59_eq (StableHlo.launchContents m' c)).trans (congr10 (fun x0 x1 x2 x3 x4 x5 x6 x7 (_ : Unit) x9 => Cert.ReferenceIdeal.Read.val_main_v59 (F := Ideal) x0 x1 x2 x3 x4 x5 x6 x7 x9) a0 a1 a2 a3 a4 a5 a6 a7 (rfl : () = ()) a9)), hargs⟩

end Cert.Proof

end
-- ==== Proof.Norm.lean ====
module

public import proofs.«01_k».proof.Proof.Math

@[expose] public section

/-! The root-mean-square norm of one row of 1024 numbers. -/

open Idealize.ShloMosaic

noncomputable section

namespace Cert.Spec

/-- The mean square of a row plus the norm's small constant. -/
def nv (x : Fin 1024 → EReal) : EReal :=
  Ideal.div (∑ d, x d * x d) (Ideal.ofBits .f32 0x44800000#32) + Ideal.ofBits .f32 0x358637BD#32
/-- The reciprocal root mean square of a row. -/
def nr (x : Fin 1024 → EReal) : EReal := Ideal.rsqrt (nv x)
/-- The normalised row. -/
def nx (x : Fin 1024 → EReal) (d : Fin 1024) : EReal := x d * nr x
/-- The normalised row times the norm's weight. -/
def nh (x g : Fin 1024 → EReal) (d : Fin 1024) : EReal := nx x d * g d

/-- Two indices of two axes with the same coordinates are one. -/
theorem idx2 {n0 n1 : Nat} {i j : (⟨2, ![n0, n1]⟩ : Shape).Idx} (h0 : (i 0).val = (j 0).val) (h1 : (i 1).val = (j 1).val) : i = j :=
  funext fun a => Fin.ext (by match a with | ⟨0, _⟩ => exact h0 | ⟨1, _⟩ => exact h1)

/-- The zero constant. -/
theorem lit_0 : Ideal.ofBits .f32 0x00000000#32 = 0 := by simp [Ideal.ofBits, Ideal.ieee]

end Cert.Spec

end
-- ==== Proof.In.lean ====
module

public import proofs.«01_k».proof.Proof.Norm
public import proofs.«01_k».proof.Proof.Gen.Kernel3Ideal.Value
public import proofs.«01_k».proof.Proof.Gen.Reference3Ideal.Read
public import Idealize.ShloMosaic.Lib.MatmulPlain
public import Idealize.ShloMosaic.Lib.ValueLayout
public import Idealize.ShloMosaic.Lib.ValueLayoutCasts
public import Idealize.ShloMosaic.Lib.Pipeline.ValueKit

@[expose] public section

/-! The forward projection: the kernel's two arrays are the reference's values at the kernel's arguments. -/

open Idealize.ShloMosaic hiding ix2
open Idealize.ShloMosaic.ValueIdx Idealize.ShloMosaic.TcCoe Idealize.SL.Sem Cert.Spec

set_option maxRecDepth 8192
set_option maxHeartbeats 2000000

noncomputable section

namespace Cert.Kernel3Ideal.Hand

open Cert.Kernel3Ideal Cert.Kernel3Ideal.Gen Cert.Kernel3Ideal.Value

/-! The body's values at one index. -/

/-- A product with the right side transposed. -/
theorem nt (l : FVec Ideal S512x1024 .bf16) (r : FVec Ideal S1536x1024 .bf16) (a : Fin 512) (b : Fin 1536) :
    matmul dot_S512x1024_S1536x1024_S512x1536_1_1_0_0_n_n none l r (constant S512x1536 .f32 0x00000000#32) (ix2 a b)
      = ∑ k : Fin 1024, l (ix2 a k) * r (ix2 b k) := by
  refine (Ideal.matmul_transposedRhs_apply none l r (constant S512x1536 .f32 0x00000000#32) a b).trans ?_
  rw [constant_apply, Ideal.ofBits_zero_f32, zero_add]

/-- A row's sum. -/
theorem rowSum (v : FVec Ideal S512x1024 .f32) (r : Fin 512) :
    shapeCast S512x1 (multiReduction .add [1] S512 v 0x00000000#32 reduces_S512x1024_S512 (.inl rfl) rfl) shapeCasts_S512_S512x1
        (ix2 r 0) = ∑ d : Fin 1024, v (ix2 r d) := by
  rw [shapeCast_a_a1_apply]
  refine (Ideal.multiReduction_add_single v _ _ _ _ _).trans ?_
  refine Finset.sum_congr rfl fun d _ => congrArg v ?_
  funext c; apply Fin.ext
  match c with
  | ⟨0, _⟩ => rfl
  | ⟨1, _⟩ => rfl

/-- A column copied along its rows. -/
theorem bcol (v : FVec Ideal S512x1 .f32) (r : Fin 512) (d : Fin 1024) :
    broadcastTo S512x1024 v broadcasts_S512x1_S512x1024 (ix2 r d) = v (ix2 r 0) := by
  refine broadcastTo_apply _ _ _ _ fun a => ?_
  match a with
  | ⟨0, _⟩ => rfl
  | ⟨1, _⟩ => rfl

/-- A row copied along its columns. -/
theorem brow (v : FVec Ideal S1x1024 .f32) (r : Fin 512) (d : Fin 1024) :
    broadcastTo S512x1024 v broadcasts_S1x1024_S512x1024 (ix2 r d) = v (ix2 0 d) := by
  refine broadcastTo_apply _ _ _ _ fun a => ?_
  match a with
  | ⟨0, _⟩ => rfl
  | ⟨1, _⟩ => rfl

/-- The normalised block. -/
theorem h_apply (x : Vec Ideal S512x1024 .f32) (g : Vec Ideal S1x1024 .f32) (r : Fin 512) (d : Fin 1024) :
    k0_pay3 (F := Ideal) x g (ix2 r d) = nh (fun d => x (ix2 r d)) (fun d => g (ix2 0 d)) d := by
  unfold k0_pay3
  refine congrArg₂ (· * ·) (congrArg₂ (· * ·) rfl ((bcol _ r d).trans ?_)) (brow _ r d)
  refine congrArg Ideal.rsqrt (congrArg₂ (· + ·) (congrArg₂ Ideal.div (rowSum _ r) rfl) rfl)

/-- A block loaded whole. -/
theorem ld_x (x : Vec Ideal S512x1024 .f32) : View.ld x r0_0 = x := funext fun i => congrArg x (idx2 (Nat.zero_add _ |>.trans (Nat.one_mul _)) (Nat.zero_add _ |>.trans (Nat.one_mul _)))
theorem ld_g (x : Vec Ideal S1x1024 .f32) : View.ld x r0_1 = x := funext fun i => congrArg x (idx2 (Nat.zero_add _ |>.trans (Nat.one_mul _)) (Nat.zero_add _ |>.trans (Nat.one_mul _)))

/-- The projection's block: the normalised rows times the weight's columns. -/
theorem z_apply (x : Vec Ideal S512x1024 .f32) (g : Vec Ideal S1x1024 .f32) (w : Vec Ideal S7680x1024 .bf16) (y : S512x7680.Idx) :
    out0_3 (F := Ideal) x g w y = ∑ k : Fin 1024, nh (fun d => x (ix2 (y 0) d)) (fun d => g (ix2 0 d)) k * w (ix2 (y 1) k) := by
  unfold out0_3
  refine View.canon_apply_of_pieces (Val := Elt Ideal) (S := S512x7680) (e := .bf16) (fun y : S512x7680.Idx => ∑ k : Fin 1024, nh (fun d => x (ix2 (y 0) d)) (fun d => g (ix2 0 d)) k * w (ix2 (y 1) k))
    _ ?_ y (cover0_3 _ _ _ _ _ y)
  rw [ld_x, ld_g]
  have key : ∀ (p : FVec Ideal S512x1024 .bf16) (v : Vec Ideal S1536x1024 .bf16) (o : Nat) (ho : o + 1536 ≤ 7680) (i : S512x1536.Idx)
      (hp : ∀ r d, p (ix2 r d) = nh (fun d => x (ix2 r d)) (fun d => g (ix2 0 d)) d)
      (hv : ∀ (b : Fin 1536) k, v (ix2 b k) = w (ix2 ⟨o + b.val, by omega⟩ k)) (y : S512x7680.Idx)
      (h0 : (y 0).val = (i 0).val) (h1 : (y 1).val = o + (i 1).val),
      matmul (φ₂ := .bf16) dot_S512x1024_S1536x1024_S512x1536_1_1_0_0_n_n none p (shapeCast S1536x1024 v shapeCasts_S1536x1024_S1536x1024)
        (constant S512x1536 .f32 0x00000000#32) i = ∑ k : Fin 1024, nh (fun d => x (ix2 (y 0) d)) (fun d => g (ix2 0 d)) k * w (ix2 (y 1) k) := by
    intro p v o ho i hp hv y h0 h1
    obtain ⟨a, b, rfl⟩ : ∃ (a : Fin 512) (b : Fin 1536), i = ix2 a b := ⟨i 0, i 1, ValueIdx.eq_ix2 i⟩
    have e0 : y 0 = a := Fin.ext h0
    rw [nt, shapeCast_self]
    refine Finset.sum_congr rfl fun k _ => ?_
    rw [hp, hv]
    exact congrArg₂ (· * ·) (by rw [e0]) (congrArg w (idx2 h1.symm rfl))
  have hld : ∀ (o : Nat) (inb) (hq : o + 1536 ≤ 7680) (b : Fin 1536) (k : Fin 1024),
      View.ld w (Rect.unit (s := S7680x1024) ![o, 0] S1536x1024.size inb) (ix2 b k) = w (ix2 ⟨o + b.val, by omega⟩ k) :=
    fun o inb hq b k => congrArg w (idx2 (by show o + 1 * b.val = o + b.val; omega) (by show 0 + 1 * k.val = k.val; omega))
  intro pc hpc
  simp only [List.mem_cons, List.not_mem_nil, or_false] at hpc
  rcases hpc with rfl | rfl | rfl | rfl | rfl
  · exact fun i => key _ _ 6144 (by decide) i (fun r d => by unfold k0_pay9 k0_pay4; rw [ld_x, ld_g]; exact h_apply x g r d) (hld 6144 _ (by decide)) _
      (by show 0 + 1 * (i 0).val = (i 0).val; omega) (by show 6144 + 1 * (i 1).val = 6144 + (i 1).val; omega)
  · exact fun i => key _ _ 4608 (by decide) i (fun r d => by unfold k0_pay9 k0_pay4; rw [ld_x, ld_g]; exact h_apply x g r d) (hld 4608 _ (by decide)) _
      (by show 0 + 1 * (i 0).val = (i 0).val; omega) (by show 4608 + 1 * (i 1).val = 4608 + (i 1).val; omega)
  · exact fun i => key _ _ 3072 (by decide) i (fun r d => h_apply x g r d) (hld 3072 _ (by decide)) _
      (by show 0 + 1 * (i 0).val = (i 0).val; omega) (by show 3072 + 1 * (i 1).val = 3072 + (i 1).val; omega)
  · exact fun i => key _ _ 1536 (by decide) i (fun r d => h_apply x g r d) (hld 1536 _ (by decide)) _
      (by show 0 + 1 * (i 0).val = (i 0).val; omega) (by show 1536 + 1 * (i 1).val = 1536 + (i 1).val; omega)
  · exact fun i => key _ _ 0 (by decide) i (fun r d => h_apply x g r d) (hld 0 _ (by decide)) _
      (by show 0 + 1 * (i 0).val = (i 0).val; omega) (by show 0 + 1 * (i 1).val = 0 + (i 1).val; omega)

/-- The transposed normalised block. -/
theorem ht_apply (x : Vec Ideal S512x1024 .f32) (g : Vec Ideal S1x1024 .f32) (w : Vec Ideal S7680x1024 .bf16) (d : Fin 1024) (r : Fin 512) :
    out0_4 (F := Ideal) x g w (ix2 d r) = nh (fun d => x (ix2 r d)) (fun d => g (ix2 0 d)) d := by
  unfold out0_4
  rw [ld_x, ld_g]
  rw [show (ix2 d r : S1024x512.Idx) = r0_2.emb (ix2 d r) from idx2 (by show d.val = 0 + 1 * d.val; omega) (by show r.val = 0 + 1 * r.val; omega)]
  refine (View.canon_cons_emb ..).trans ?_
  unfold k0_pay5
  refine Eq.trans (transpose_apply [1, 0] (k0_pay3 x g) transposes_S512x1024_p1_0_S1024x512 (ix2 d r) (ix2 r d) (fun b => by
    match b with
    | ⟨0, _⟩ => rfl
    | ⟨1, _⟩ => rfl)) (h_apply x g r d)

/-! The reference's values at one index. -/

section
open Cert.Reference3Ideal Cert.Reference3Ideal.Read

variable (x0 : (⟨S8192x1024, .f32⟩ : BufTy).Contents (Elt Ideal)) (x1 : (⟨S1x1024, .f32⟩ : BufTy).Contents (Elt Ideal))
  (x2 : (⟨S1024x7680, .f32⟩ : BufTy).Contents (Elt Ideal))

theorem r_h (t : Fin 8192) (d : Fin 1024) :
    val_main_v11 (F := Ideal) x0 x1 (ix2 t d) = nh (fun d => x0 (ix2 t d)) (fun d => x1 (ix2 0 d)) d := by
  rw [val_main_v11_apply, val_main_v9_apply, val_main_v8_apply, val_main_v7_apply, val_main_v6_apply, val_main_v4_apply,
    val_main_v2_apply, val_main_v1_apply, val_main_v10_apply]
  refine congrArg₂ (· * ·) (congrArg₂ (· * ·) rfl ?_) (congrArg x1 (idx2 rfl rfl))
  refine congrArg Ideal.rsqrt (congrArg₂ (· + ·) (congrArg₂ Ideal.div ?_ rfl) rfl)
  refine Eq.trans (congrArg₂ (· + ·) lit_0 (Finset.sum_congr rfl fun j _ => ?_)) (zero_add _)
  exact congrArg (fun i => x0 i * x0 i) (idx2 rfl rfl)

theorem r_z (t : Fin 8192) (j : Fin 7680) :
    val_main_v13 (F := Ideal) x0 x1 x2 (ix2 t j) = ∑ k : Fin 1024, nh (fun d => x0 (ix2 t d)) (fun d => x1 (ix2 0 d)) k * x2 (ix2 k j) := by
  refine (val_main_v12_apply x0 x1 x2 (ix2 t j)).trans (Finset.sum_congr rfl fun k _ => ?_)
  refine congrArg₂ (· * ·) (Eq.trans (congrArg _ (idx2 (j := ix2 t k) rfl rfl)) (r_h x0 x1 t k)) (congrArg x2 (idx2 rfl rfl))

theorem r_ht (d : Fin 1024) (t : Fin 8192) :
    val_main_v15 (F := Ideal) x0 x1 (ix2 d t) = nh (fun d => x0 (ix2 t d)) (fun d => x1 (ix2 0 d)) d := by
  refine (val_main_v14_apply x0 x1 (ix2 d t)).trans (Eq.trans (congrArg _ (idx2 (j := ix2 t d) rfl rfl)) (r_h x0 x1 t d))

end

/-! The kernel's arrays. -/

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, t.val] := (by decide +kernel : ∀ t : Fin grid0.N, _)

/-- The token in row `r` of block `t`. -/
def tok (t : Fin cfg0.N) (r : Fin 512) : Fin 8192 := ⟨t.val * 512 + r.val, by have := lt_of_lt_of_eq t.isLt N_0; omega⟩

/-- The weight as the kernel reads it: the argument transposed. -/
theorem V_w (j : Fin 7680) (k : Fin 1024) :
    (V m c main_v1 : S7680x1024.Idx → EReal) (ix2 j k) = m ((c : Thread nD τ).loc main_arg2) (ix2 k j) := by
  have h : (V m c main_v1 : S7680x1024.Idx → EReal) = transpose S7680x1024 [1, 0] (m ((c : Thread nD τ).loc main_arg2) : S1024x7680.Idx → EReal) transposes_S1024x7680_S7680x1024_1_0 := by
    sl_kernel_rfl
  rw [h]
  exact transpose_apply [1, 0] _ _ _ _ (fun b => by
    match b with
    | ⟨0, _⟩ => rfl
    | ⟨1, _⟩ => rfl)

theorem b_x (t : Fin cfg0.N) (r : Fin 512) (d : Fin 1024) :
    iblk m c 0 t (ix2 r d) = m ((c : Thread nD τ).loc main_arg0) (ix2 (tok t r) d) := by
  blk_simp [iblk]
  rw [V_main_arg0]
  refine congrArg _ ?_
  blk_ext [e0, tok]

theorem b_g (t : Fin cfg0.N) (d : Fin 1024) :
    iblk m c 1 t (ix2 0 d) = m ((c : Thread nD τ).loc main_arg1) (ix2 0 d) := by
  blk_simp [iblk]
  rw [V_main_arg1]
  refine congrArg _ ?_
  blk_ext [e1]

theorem b_w (t : Fin cfg0.N) (j : Fin 7680) (k : Fin 1024) :
    iblk m c 2 t (ix2 j k) = m ((c : Thread nD τ).loc main_arg2) (ix2 k j) := by
  blk_simp [iblk]
  refine Eq.trans (congrArg _ ?_) (V_w m c j k)
  blk_ext [e2]

/-- The projection. -/
theorem arr_z : (dats m 0 c).arrAt 3 cfg0.N = Cert.Reference3Ideal.Read.val_main_v13 (F := Ideal)
    (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, k, rfl⟩ : ∃ (r : Fin 512) (k : Fin 7680), y = ix2 r k := ⟨y 0, y 1, ValueIdx.eq_ix2 y⟩
  refine (z_apply _ _ _ _).trans ?_
  refine Eq.trans (Finset.sum_congr rfl fun d _ => ?_) ((r_z _ _ _ (tok t r) k).symm.trans (congrArg _ ?_))
  · refine congrArg₂ (· * ·) (congrFun (congrArg₂ nh (funext fun d => b_x m c t r d) (funext fun d => b_g m c t d)) d) (b_w m c t k d)
  · blk_ext [e3, tok]

/-- The transposed normalised rows. -/
theorem arr_ht : (dats m 0 c).arrAt 4 cfg0.N = Cert.Reference3Ideal.Read.val_main_v15 (F := Ideal)
    (m ((c : Thread nD τ).loc main_arg0)) (m ((c : Thread nD τ).loc main_arg1)) := by
  refine (dats m 0 c).arrAt_eq_of_covers 4 _ (by decide +kernel) fun t hf y => ?_
  blk_simp
  rw [after0_4]
  obtain ⟨d, r, rfl⟩ : ∃ (d : Fin 1024) (r : Fin 512), y = ix2 d r := ⟨y 0, y 1, ValueIdx.eq_ix2 y⟩
  refine (ht_apply _ _ _ d r).trans ?_
  refine Eq.trans ?_ ((r_ht _ _ d (tok t r)).symm.trans (congrArg _ ?_))
  · exact congrFun (congrArg₂ nh (funext fun d => b_x m c t r d) (funext fun d => b_g m c t d)) d
  · blk_ext [e4, tok]

end Cert.Kernel3Ideal.Hand

end
-- ==== Proof.NormBwd.lean ====
module

public import proofs.«01_k».proof.Proof.Norm
public import proofs.«01_k».proof.Proof.Tok

@[expose] public section

/-! The norm's input gradient at one row: the reference's sum of three terms is the kernel's difference, for every row of extended
    reals. A row of finite numbers has a positive real reciprocal root, which distributes over any sum; a row with an infinite number has
    the reciprocal root zero, and both forms are zero. -/

open Idealize.ShloMosaic

noncomputable section

namespace Cert.Spec

/-- The kernel's mean of the weighted gradient along the normalised row. -/
def nm (x q : Fin 1024 → EReal) : EReal := Ideal.div (∑ d, q d * nx x d) (Ideal.ofBits .f32 0x44800000#32)
/-- The kernel's gradient of the row. -/
def ng (x q : Fin 1024 → EReal) (d : Fin 1024) : EReal := nr x * (q d - nx x d * nm x q)
/-- The factor by which the reference carries the gradient back through the mean of squares. -/
def nc (x q : Fin 1024 → EReal) : EReal :=
  Ideal.div ((∑ d, x d * q d) * (Ideal.ofBits .f32 0xBF000000#32 * Ideal.div (nr x) (nv x))) (Ideal.ofBits .f32 0x44800000#32)

theorem div_1024 (a : EReal) : Ideal.div a (Ideal.ofBits .f32 0x44800000#32) = a * ((1024⁻¹ : ℝ) : EReal) := by
  rw [lit_1024]
  simp only [Ideal.div]
  rw [if_neg (by exact_mod_cast (by norm_num : (1024 : ℝ) ≠ 0)), EReal.coe_inv]

/-- A positive real distributes over a sum of extended reals. -/
theorem mul_add_pos {r : ℝ} (hr : 0 ≤ r) (a b : EReal) : (r : EReal) * (a + b) = r * a + r * b :=
  EReal.left_distrib_of_nonneg_of_ne_top (by exact_mod_cast hr) (EReal.coe_ne_top r) a b

theorem sum_mul_pos {r : ℝ} (hr : 0 ≤ r) {ι : Type} (s : Finset ι) (f : ι → EReal) : ∑ i ∈ s, (r : EReal) * f i = r * ∑ i ∈ s, f i := by
  classical
  induction s using Finset.induction_on with
  | empty => simp
  | insert a s h ih => rw [Finset.sum_insert h, Finset.sum_insert h, ih, mul_add_pos hr]

/-- An extended real is minus infinity, a real or infinity. -/
theorem cases3 (a : EReal) : a = ⊥ ∨ (∃ r : ℝ, a = r) ∨ a = ⊤ := by
  induction a with
  | bot => exact .inl rfl
  | top => exact .inr (.inr rfl)
  | coe a => exact .inr (.inl ⟨a, rfl⟩)

/-- A square is never negative. -/
theorem sq_nonneg' (a : EReal) : 0 ≤ a * a := by
  induction a with
  | bot => simp
  | top => simp
  | coe a => exact_mod_cast mul_self_nonneg a

/-- A row of finite numbers: the two forms of the gradient. -/
theorem ng_fin {x : Fin 1024 → EReal} (y : Fin 1024 → ℝ) (hy : ∀ d, x d = y d) (q : Fin 1024 → EReal) (d : Fin 1024) :
    q d * nr x + (x d * nc x q + nc x q * x d) = ng x q d := by
  obtain ⟨e, he, hE⟩ := lit_eps
  have hv : nv x = (((∑ d, y d * y d) / 1024 + e : ℝ) : EReal) := by
    rw [nv, lit_1024, hE]
    simp only [hy, ← EReal.coe_mul]
    rw [← coe_sum, div_coe_pos _ _ (by norm_num), EReal.coe_add]
  have hpos : 0 < (∑ d, y d * y d) / 1024 + e :=
    add_pos_of_nonneg_of_pos (div_nonneg (Finset.sum_nonneg fun i _ => mul_self_nonneg (y i)) (by norm_num)) he
  generalize (∑ d, y d * y d) / 1024 + e = v at hv hpos
  have hr : nr x = (((√v)⁻¹ : ℝ) : EReal) := by rw [nr, hv, rsqrt_coe_pos v hpos]
  have h0 : 0 < √v := Real.sqrt_pos.2 hpos
  have h2 : v = √v * √v := (Real.mul_self_sqrt hpos.le).symm
  have hrp : 0 ≤ (√v)⁻¹ := (inv_pos.2 h0).le
  have hS : ∑ d, q d * nx x d = (((√v)⁻¹ : ℝ) : EReal) * ∑ d, x d * q d := by
    rw [← sum_mul_pos hrp]
    exact Finset.sum_congr rfl fun i _ => by rw [nx, hr]; ac_rfl
  rw [ng, nm, nc, hS, nx, hv, hr, div_coe_pos _ v hpos, lit_neg_half, div_1024, div_1024, hy d]
  generalize (∑ d, x d * q d) = S
  generalize q d = Q
  generalize y d = Y
  rw [sub_eq_add_neg, mul_add_pos hrp]
  refine congrArg₂ (· + ·) (mul_comm _ _) ?_
  have e1 : ∀ a : EReal, a + a = ((2 : ℝ) : EReal) * a := fun a => by
    induction a with
    | bot => rw [EReal.coe_mul_bot_of_pos (by norm_num)]; rfl
    | top => rw [EReal.coe_mul_top_of_pos (by norm_num)]; rfl
    | coe a => rw [← EReal.coe_add, ← EReal.coe_mul]; congr 1; ring
  rw [mul_comm _ (Y : EReal), e1, ← EReal.neg_mul, ← EReal.neg_mul, ← EReal.coe_neg]
  generalize √v = r at *
  subst h2
  refine Eq.trans (b := ((2 * Y * (-2⁻¹) * (r⁻¹ / (r * r)) * 1024⁻¹ : ℝ) : EReal) * S) ?_ (Eq.trans (b := ((r⁻¹ * (-Y) * r⁻¹ * r⁻¹ * 1024⁻¹ : ℝ) : EReal) * S) ?_ ?_)
  · simp only [EReal.coe_mul]; ac_rfl
  · congr 2; field_simp
  · simp only [EReal.coe_mul]; ac_rfl

/-- The two forms of the gradient are one for every row. -/
theorem ng_eq (x q : Fin 1024 → EReal) (d : Fin 1024) : q d * nr x + (x d * nc x q + nc x q * x d) = ng x q d := by
  by_cases h : ∀ d, ∃ y : ℝ, x d = y
  · choose y hy using h
    exact ng_fin y hy q d
  · obtain ⟨k, hk⟩ := not_forall.1 h
    have hkk : x k * x k = ⊤ := by
      rcases cases3 (x k) with h | ⟨r, h⟩ | h
      · rw [h]; rfl
      · exact absurd ⟨r, h⟩ hk
      · rw [h]; rfl
    have hs : ∑ d, x d * x d = ⊤ := top_le_iff.1 (hkk ▸ Finset.single_le_sum (f := fun d => x d * x d) (fun i _ => sq_nonneg' (x i)) (Finset.mem_univ k))
    obtain ⟨e, he, hE⟩ := lit_eps
    have hv : nv x = ⊤ := by
      rw [nv, hs, div_1024, hE, EReal.top_mul_coe_of_pos (by norm_num)]
      exact EReal.top_add_coe e
    have hr : nr x = 0 := by rw [nr, hv]; rfl
    have hc : nc x q = 0 := by
      rw [nc, hr, hv, div_1024]
      simp [Ideal.div]
    rw [ng, hc, hr]
    simp

end Cert.Spec

end
-- ==== Proof.Out2.lean ====
module

public import proofs.«01_k».proof.Proof.Gen.Kernel2Ideal.Value
public import Idealize.ShloMosaic.Lib.WholeRead

@[expose] public section

/-! What one grid point of the input gradient's kernel leaves in its two outputs, as functions of the blocks it reads. -/

open Idealize.ShloMosaic Idealize.ShloMosaic.TcCoe Idealize.SL.Sem

set_option maxRecDepth 65536
set_option maxHeartbeats 2000000

noncomputable section

namespace Cert.Kernel2Ideal.Hand

open Cert.Kernel2Ideal Cert.Kernel2Ideal.Gen

variable {F : FTy → Type} [FloatOps F]

/-- The sum of the first five products. -/
def p5 (x0 : Vec F S512x1536 .bf16) (x1 : Vec F S512x512 .bf16) (x2 : Vec F S512x512 .bf16) (x3 : Vec F S512x512 .bf16) (x4 : Vec F S512x512 .bf16) (x7 : Vec F S7680x1024 .bf16) : FVec F S512x1024 .f32 :=
  k0_pay3 (View.ld x0 (Rect.unit (s := S512x1536) ![0, 0] S512x1536.size inb_S512x1536_S512x1536_0_0)) (View.ld x7 (Rect.unit (s := S7680x1024) ![0, 0] S1536x1024.size inb_S7680x1024_S1536x1024_0_0)) (View.ld x1 (Rect.unit (s := S512x512) ![0, 0] S512x512.size inb_S512x512_S512x512_0_0)) (View.ld x7 (Rect.unit (s := S7680x1024) ![1536, 0] S512x1024.size inb_S7680x1024_S512x1024_1536_0)) (View.ld x2 (Rect.unit (s := S512x512) ![0, 0] S512x512.size inb_S512x512_S512x512_0_0)) (View.ld x7 (Rect.unit (s := S7680x1024) ![2048, 0] S512x1024.size inb_S7680x1024_S512x1024_2048_0)) (View.ld x3 (Rect.unit (s := S512x512) ![0, 0] S512x512.size inb_S512x512_S512x512_0_0)) (View.ld x7 (Rect.unit (s := S7680x1024) ![2560, 0] S512x1024.size inb_S7680x1024_S512x1024_2560_0)) (View.ld x4 (Rect.unit (s := S512x512) ![0, 0] S512x512.size inb_S512x512_S512x512_0_0)) (View.ld x7 (Rect.unit (s := S7680x1024) ![3072, 0] S512x1024.size inb_S7680x1024_S512x1024_3072_0))

/-- The gradient's block. -/
def dxv (x0 : Vec F S512x1536 .bf16) (x1 : Vec F S512x512 .bf16) (x2 : Vec F S512x512 .bf16) (x3 : Vec F S512x512 .bf16) (x4 : Vec F S512x512 .bf16) (x5 : Vec F S512x1024 .bf16) (x6 : Vec F S512x3072 .bf16) (x7 : Vec F S7680x1024 .bf16) (x8 : Vec F S512x1024 .f32) (x9 : Vec F S1x1024 .f32) (x10 : Vec F S512x1024 .f32) : FVec F S512x1024 .f32 :=
  k0_pay1 (k0_pay5 (View.ld x8 (Rect.unit (s := S512x1024) ![0, 0] S512x1024.size inb_S512x1024_S512x1024_0_0))) (k0_pay6 (View.ld x8 (Rect.unit (s := S512x1024) ![0, 0] S512x1024.size inb_S512x1024_S512x1024_0_0))) (k0_pay8 (p5 x0 x1 x2 x3 x4 x7) (View.ld x5 (Rect.unit (s := S512x1024) ![0, 0] S512x1024.size inb_S512x1024_S512x1024_0_0)) (View.ld x7 (Rect.unit (s := S7680x1024) ![3584, 0] S1024x1024.size inb_S7680x1024_S1024x1024_3584_0)) (View.ld x6 (Rect.unit (s := S512x3072) ![0, 0] S512x3072.size inb_S512x3072_S512x3072_0_0)) (View.ld x7 (Rect.unit (s := S7680x1024) ![4608, 0] S3072x1024.size inb_S7680x1024_S3072x1024_4608_0)) (View.ld x9 (Rect.unit (s := S1x1024) ![0, 0] S1x1024.size inb_S1x1024_S1x1024_0_0))) (View.ld x10 (Rect.unit (s := S512x1024) ![0, 0] S512x1024.size inb_S512x1024_S512x1024_0_0))
    (k0_pay9 (p5 x0 x1 x2 x3 x4 x7) (View.ld x5 (Rect.unit (s := S512x1024) ![0, 0] S512x1024.size inb_S512x1024_S512x1024_0_0)) (View.ld x7 (Rect.unit (s := S7680x1024) ![3584, 0] S1024x1024.size inb_S7680x1024_S1024x1024_3584_0)) (View.ld x6 (Rect.unit (s := S512x3072) ![0, 0] S512x3072.size inb_S512x3072_S512x3072_0_0)) (View.ld x7 (Rect.unit (s := S7680x1024) ![4608, 0] S3072x1024.size inb_S7680x1024_S3072x1024_4608_0)) (View.ld x8 (Rect.unit (s := S512x1024) ![0, 0] S512x1024.size inb_S512x1024_S512x1024_0_0)) (View.ld x9 (Rect.unit (s := S1x1024) ![0, 0] S1x1024.size inb_S1x1024_S1x1024_0_0)))

/-- The weight gradient's row after the point, from the row before it. -/
def dgv (x0 : Vec F S512x1536 .bf16) (x1 : Vec F S512x512 .bf16) (x2 : Vec F S512x512 .bf16) (x3 : Vec F S512x512 .bf16) (x4 : Vec F S512x512 .bf16) (x5 : Vec F S512x1024 .bf16) (x6 : Vec F S512x3072 .bf16) (x7 : Vec F S7680x1024 .bf16) (x8 : Vec F S512x1024 .f32) (acc : Vec F S1x1024 .f32) : FVec F S1x1024 .f32 :=
  k0_pay7 (p5 x0 x1 x2 x3 x4 x7) (View.ld x5 (Rect.unit (s := S512x1024) ![0, 0] S512x1024.size inb_S512x1024_S512x1024_0_0)) (View.ld x7 (Rect.unit (s := S7680x1024) ![3584, 0] S1024x1024.size inb_S7680x1024_S1024x1024_3584_0)) (View.ld x6 (Rect.unit (s := S512x3072) ![0, 0] S512x3072.size inb_S512x3072_S512x3072_0_0)) (View.ld x7 (Rect.unit (s := S7680x1024) ![4608, 0] S3072x1024.size inb_S7680x1024_S3072x1024_4608_0)) (View.ld x8 (Rect.unit (s := S512x1024) ![0, 0] S512x1024.size inb_S512x1024_S512x1024_0_0)) acc

/-- A load from a window that holds known contents. -/
theorem ld_read {sg : RefSig} {κ : Kind} {sp : Space} {s : Shape} {e : EltTy} {m : Memref sg κ sp s e} (h : m.IsWhole) (X : s.Idx → Elt F e) (B : Rect s) :
    View.readAt (Elt F) m.view B.toLoadRect (h.unread X) = View.ld X B := funext fun x => h.readAt_unread X B.toLoadRect x

theorem z2 : (![0, 0] : Fin 2 → Nat) = fun _ => 0 := by
  funext a; match a with | ⟨0, _⟩ => rfl | ⟨1, _⟩ => rfl

theorem o_A_11 (c : Dev nD) (i : grid0.Coords) (arg1 : Memref sig .tc .vmem S512x1536 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x3072 .bf16) (harg7 : arg7.IsWhole) (arg8 : Memref sig .tc .vmem S7680x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (hc0 : cond0_0 i)
    (x0 : Vec F S512x1536 .bf16) (x1 : Vec F S512x512 .bf16) (x2 : Vec F S512x512 .bf16) (x3 : Vec F S512x512 .bf16) (x4 : Vec F S512x512 .bf16) (x5 : Vec F S512x1024 .bf16) (x6 : Vec F S512x3072 .bf16) (x7 : Vec F S7680x1024 .bf16) (x8 : Vec F S512x1024 .f32) (x9 : Vec F S1x1024 .f32) (x10 : Vec F S512x1024 .f32) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 = dxv x0 x1 x2 x3 x4 x5 x6 x7 x8 x9 x10 := by
  unfold out0_A_11
  rw [View.read_writes_junk_eq_canon]
  unfold kernelRun0_A
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  try unfold kernelRun0_A.sl.r_1
  try unfold kernelRun0_A.sl.v48
  try unfold kernelRun0_A.sl.H12_1
  dsimp only
  refine (View.canon_unit_zero z2 _ _).trans ?_
  simp only [ld_read]
  rfl

theorem o_A_12 (c : Dev nD) (i : grid0.Coords) (arg1 : Memref sig .tc .vmem S512x1536 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x3072 .bf16) (harg7 : arg7.IsWhole) (arg8 : Memref sig .tc .vmem S7680x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (hc0 : cond0_0 i)
    (x0 : Vec F S512x1536 .bf16) (x1 : Vec F S512x512 .bf16) (x2 : Vec F S512x512 .bf16) (x3 : Vec F S512x512 .bf16) (x4 : Vec F S512x512 .bf16) (x5 : Vec F S512x1024 .bf16) (x6 : Vec F S512x3072 .bf16) (x7 : Vec F S7680x1024 .bf16) (x8 : Vec F S512x1024 .f32) (x9 : Vec F S1x1024 .f32) (x10 : Vec F S512x1024 .f32) :
    out0_A_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 = dgv x0 x1 x2 x3 x4 x5 x6 x7 x8 k0_pay2 := by
  unfold out0_A_12
  rw [View.read_writes_junk_eq_canon]
  unfold kernelRun0_A
  try unfold kernelRun0_A.sl.r_8
  try unfold kernelRun0_A.sl.r_7
  try unfold kernelRun0_A.sl.r_6
  try unfold kernelRun0_A.sl.r_5
  try unfold kernelRun0_A.sl.r_4
  try unfold kernelRun0_A.sl.r_3
  try unfold kernelRun0_A.sl.r_2
  try unfold kernelRun0_A.sl.r_1
  try unfold kernelRun0_A.sl.r
  try unfold kernelRun0_A.sl.r_1
  try unfold kernelRun0_A.sl.v48
  try unfold kernelRun0_A.sl.H12_1
  dsimp only
  refine (View.canon_cons_unit_zero z2 _ _ _).trans ?_
  simp only [ld_read, View.readCov_cons_toLoadRect]
  rfl

theorem o_B_11 (c : Dev nD) (i : grid0.Coords) (arg1 : Memref sig .tc .vmem S512x1536 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x3072 .bf16) (harg7 : arg7.IsWhole) (arg8 : Memref sig .tc .vmem S7680x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (hc0 : ¬cond0_0 i)
    (x0 : Vec F S512x1536 .bf16) (x1 : Vec F S512x512 .bf16) (x2 : Vec F S512x512 .bf16) (x3 : Vec F S512x512 .bf16) (x4 : Vec F S512x512 .bf16) (x5 : Vec F S512x1024 .bf16) (x6 : Vec F S512x3072 .bf16) (x7 : Vec F S7680x1024 .bf16) (x8 : Vec F S512x1024 .f32) (x9 : Vec F S1x1024 .f32) (x10 : Vec F S512x1024 .f32) (xo12 : Vec F S1x1024 .f32) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xo12 = dxv x0 x1 x2 x3 x4 x5 x6 x7 x8 x9 x10 := by
  unfold out0_B_11
  rw [View.read_writes_junk_eq_canon]
  unfold kernelRun0_B
  try unfold kernelRun0_B.sl.r_8
  try unfold kernelRun0_B.sl.r_7
  try unfold kernelRun0_B.sl.r_6
  try unfold kernelRun0_B.sl.r_5
  try unfold kernelRun0_B.sl.r_4
  try unfold kernelRun0_B.sl.r_3
  try unfold kernelRun0_B.sl.r_2
  try unfold kernelRun0_B.sl.r_1
  try unfold kernelRun0_B.sl.r
  try unfold kernelRun0_B.sl.r_1
  try unfold kernelRun0_B.sl.v48
  try unfold kernelRun0_B.sl.H12_1
  dsimp only
  refine (View.canon_unit_zero z2 _ _).trans ?_
  simp only [ld_read]
  rfl

theorem o_B_12 (c : Dev nD) (i : grid0.Coords) (arg1 : Memref sig .tc .vmem S512x1536 .bf16) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x1024 .bf16) (harg6 : arg6.IsWhole) (arg7 : Memref sig .tc .vmem S512x3072 .bf16) (harg7 : arg7.IsWhole) (arg8 : Memref sig .tc .vmem S7680x1024 .bf16) (harg8 : arg8.IsWhole) (arg9 : Memref sig .tc .vmem S512x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole) (arg13 : Memref sig .tc .vmem S1x1024 .f32) (harg13 : arg13.IsWhole) (hc0 : ¬cond0_0 i)
    (x0 : Vec F S512x1536 .bf16) (x1 : Vec F S512x512 .bf16) (x2 : Vec F S512x512 .bf16) (x3 : Vec F S512x512 .bf16) (x4 : Vec F S512x512 .bf16) (x5 : Vec F S512x1024 .bf16) (x6 : Vec F S512x3072 .bf16) (x7 : Vec F S7680x1024 .bf16) (x8 : Vec F S512x1024 .f32) (x9 : Vec F S1x1024 .f32) (x10 : Vec F S512x1024 .f32) (xo12 : Vec F S1x1024 .f32) :
    out0_B_12 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 x9 x10 xo12 = dgv x0 x1 x2 x3 x4 x5 x6 x7 x8 (View.ld xo12 (Rect.unit (s := S1x1024) ![0, 0] S1x1024.size inb_S1x1024_S1x1024_0_0)) := by
  unfold out0_B_12
  rw [View.read_writes_junk_eq_canon]
  unfold kernelRun0_B
  try unfold kernelRun0_B.sl.r_8
  try unfold kernelRun0_B.sl.r_7
  try unfold kernelRun0_B.sl.r_6
  try unfold kernelRun0_B.sl.r_5
  try unfold kernelRun0_B.sl.r_4
  try unfold kernelRun0_B.sl.r_3
  try unfold kernelRun0_B.sl.r_2
  try unfold kernelRun0_B.sl.r_1
  try unfold kernelRun0_B.sl.r
  try unfold kernelRun0_B.sl.r_1
  try unfold kernelRun0_B.sl.v48
  try unfold kernelRun0_B.sl.H12_1
  dsimp only
  refine (View.canon_unit_zero z2 _ _).trans ?_
  simp only [ld_read]
  rfl

end Cert.Kernel2Ideal.Hand

end
-- ==== Proof.Pay2.lean ====
module

public import proofs.«01_k».proof.Proof.NormBwd
public import proofs.«01_k».proof.Proof.Out2
public import Idealize.ShloMosaic.Lib.MatmulPlain
public import Idealize.ShloMosaic.Lib.ValueLayout
public import Idealize.ShloMosaic.Lib.ValueLayoutCasts
public import Idealize.ShloMosaic.Lib.Pipeline.ValueKit

@[expose] public section

/-! The input gradient's kernel at one index of a block: the seven products are one product with the seven gradients side by side, and
    the two outputs are the norm's gradients of that product. -/

open Idealize.ShloMosaic hiding ix2
open Idealize.ShloMosaic.ValueIdx Idealize.ShloMosaic.TcCoe Idealize.SL.Sem Cert.Spec

set_option maxRecDepth 8192
set_option maxHeartbeats 2000000

noncomputable section

namespace Cert.Kernel2Ideal.Hand

open Cert.Kernel2Ideal Cert.Kernel2Ideal.Gen

/-- A sum over the 7680 columns, piece by piece. -/
theorem sum7 (f : Fin 7680 → EReal) : ∑ j, f j
    = (((((∑ k : Fin 1536, f ⟨0 + k.val, by omega⟩ + ∑ k : Fin 512, f ⟨1536 + k.val, by omega⟩) + ∑ k : Fin 512, f ⟨2048 + k.val, by omega⟩)
      + ∑ k : Fin 512, f ⟨2560 + k.val, by omega⟩) + ∑ k : Fin 512, f ⟨3072 + k.val, by omega⟩) + ∑ k : Fin 1024, f ⟨3584 + k.val, by omega⟩)
      + ∑ k : Fin 3072, f ⟨4608 + k.val, by omega⟩ := by
  refine (Fin.sum_univ_add (a := 4608) (b := 3072) f).trans (congrArg₂ (· + ·) ?_ rfl)
  refine (Fin.sum_univ_add (a := 3584) (b := 1024) _).trans (congrArg₂ (· + ·) ?_ rfl)
  refine (Fin.sum_univ_add (a := 3072) (b := 512) _).trans (congrArg₂ (· + ·) ?_ rfl)
  refine (Fin.sum_univ_add (a := 2560) (b := 512) _).trans (congrArg₂ (· + ·) ?_ rfl)
  refine (Fin.sum_univ_add (a := 2048) (b := 512) _).trans (congrArg₂ (· + ·) ?_ rfl)
  refine (Fin.sum_univ_add (a := 1536) (b := 512) _).trans (congrArg₂ (· + ·) ?_ rfl)
  exact Finset.sum_congr rfl fun k _ => congrArg f (Fin.ext (by show k.val = 0 + k.val; omega))

/-! The body's values at one index. -/

theorem mm1536 (l : FVec Ideal S512x1536 .bf16) (v : Vec Ideal S1536x1024 .bf16) (a : Fin 512) (b : Fin 1024) :
    matmul (φ₂ := .bf16) dot_S512x1536_S1536x1024_S512x1024_1_0_0_1_n_n none l (shapeCast S1536x1024 v shapeCasts_S1536x1024_S1536x1024) (constant S512x1024 .f32 0x00000000#32) (ix2 a b)
      = ∑ k : Fin 1536, l (ix2 a k) * v (ix2 k b) := by
  rw [shapeCast_self]
  refine (Ideal.matmul_plain_apply none l v (constant S512x1024 .f32 0x00000000#32) a b).trans ?_
  rw [constant_apply, Ideal.ofBits_zero_f32, zero_add]

theorem mm512 (l : FVec Ideal S512x512 .bf16) (v : Vec Ideal S512x1024 .bf16) (a : Fin 512) (b : Fin 1024) :
    matmul (φ₂ := .bf16) dot_S512x512_S512x1024_S512x1024_1_0_0_1_n_n none l (shapeCast S512x1024 v shapeCasts_S512x1024_S512x1024) (constant S512x1024 .f32 0x00000000#32) (ix2 a b)
      = ∑ k : Fin 512, l (ix2 a k) * v (ix2 k b) := by
  rw [shapeCast_self]
  refine (Ideal.matmul_plain_apply none l v (constant S512x1024 .f32 0x00000000#32) a b).trans ?_
  rw [constant_apply, Ideal.ofBits_zero_f32, zero_add]

theorem mm1024 (l : FVec Ideal S512x1024 .bf16) (v : Vec Ideal S1024x1024 .bf16) (a : Fin 512) (b : Fin 1024) :
    matmul (φ₂ := .bf16) dot_S512x1024_S1024x1024_S512x1024_1_0_0_1_n_n none l (shapeCast S1024x1024 v shapeCasts_S1024x1024_S1024x1024) (constant S512x1024 .f32 0x00000000#32) (ix2 a b)
      = ∑ k : Fin 1024, l (ix2 a k) * v (ix2 k b) := by
  rw [shapeCast_self]
  refine (Ideal.matmul_plain_apply none l v (constant S512x1024 .f32 0x00000000#32) a b).trans ?_
  rw [constant_apply, Ideal.ofBits_zero_f32, zero_add]

theorem mm3072 (l : FVec Ideal S512x3072 .bf16) (v : Vec Ideal S3072x1024 .bf16) (a : Fin 512) (b : Fin 1024) :
    matmul (φ₂ := .bf16) dot_S512x3072_S3072x1024_S512x1024_1_0_0_1_n_n none l (shapeCast S3072x1024 v shapeCasts_S3072x1024_S3072x1024) (constant S512x1024 .f32 0x00000000#32) (ix2 a b)
      = ∑ k : Fin 3072, l (ix2 a k) * v (ix2 k b) := by
  rw [shapeCast_self]
  refine (Ideal.matmul_plain_apply none l v (constant S512x1024 .f32 0x00000000#32) a b).trans ?_
  rw [constant_apply, Ideal.ofBits_zero_f32, zero_add]

/-- A row's sum. -/
theorem rowSum (v : FVec Ideal S512x1024 .f32) (r : Fin 512) :
    shapeCast S512x1 (multiReduction .add [1] S512 v 0x00000000#32 reduces_S512x1024_S512 (.inl rfl) rfl) shapeCasts_S512_S512x1
        (ix2 r 0) = ∑ d : Fin 1024, v (ix2 r d) := by
  rw [shapeCast_a_a1_apply]
  refine (Ideal.multiReduction_add_single v _ _ _ _ _).trans ?_
  refine Finset.sum_congr rfl fun d _ => congrArg v ?_
  funext c; apply Fin.ext
  match c with
  | ⟨0, _⟩ => rfl
  | ⟨1, _⟩ => rfl

/-- A column copied along its rows. -/
theorem bcol (v : FVec Ideal S512x1 .f32) (r : Fin 512) (d : Fin 1024) :
    broadcastTo S512x1024 v broadcasts_S512x1_S512x1024 (ix2 r d) = v (ix2 r 0) := by
  refine broadcastTo_apply _ _ _ _ fun a => ?_
  match a with
  | ⟨0, _⟩ => rfl
  | ⟨1, _⟩ => rfl

/-- A row copied along its columns. -/
theorem brow (v : FVec Ideal S1x1024 .f32) (r : Fin 512) (d : Fin 1024) :
    broadcastTo S512x1024 v broadcasts_S1x1024_S512x1024 (ix2 r d) = v (ix2 0 d) := by
  refine broadcastTo_apply _ _ _ _ fun a => ?_
  match a with
  | ⟨0, _⟩ => rfl
  | ⟨1, _⟩ => rfl

/-- A column's sum. -/
theorem colSum (v : FVec Ideal S512x1024 .f32) (d : Fin 1024) :
    shapeCast S1x1024 (multiReduction .add [0] S1024 v 0x00000000#32 reduces_S512x1024_S1024 (.inl rfl) rfl) shapeCasts_S1024_S1x1024
        (ix2 0 d) = ∑ r : Fin 512, v (ix2 r d) := by
  rw [shapeCast_a_1a_apply]
  refine (Ideal.multiReduction_add_single v _ _ _ _ _).trans ?_
  refine Finset.sum_congr rfl fun r _ => congrArg v ?_
  funext c; apply Fin.ext
  match c with
  | ⟨0, _⟩ => rfl
  | ⟨1, _⟩ => rfl

/-- Loads of a whole block. -/
theorem ldw {n0 n1 : Nat} {e : EltTy} (x : Vec Ideal ⟨2, ![n0, n1]⟩ e) (inb) : View.ld x (Rect.unit (s := ⟨2, ![n0, n1]⟩) ![0, 0] ![n0, n1] inb) = x :=
  funext fun i => congrArg x (idx2 (Nat.zero_add _ |>.trans (Nat.one_mul _)) (Nat.zero_add _ |>.trans (Nat.one_mul _)))

/-- A load of some rows of the weight. -/
theorem ldo (w : Vec Ideal S7680x1024 .bf16) (o n : Nat) (inb) (k : Fin n) (d : Fin 1024) (h : o + k.val < 7680) :
    View.ld w (Rect.unit (s := S7680x1024) ![o, 0] ![n, 1024] inb) (ix2 k d) = w (ix2 ⟨o + k.val, h⟩ d) :=
  congrArg w (idx2 (by show o + 1 * k.val = o + k.val; omega) (by show 0 + 1 * d.val = d.val; omega))

/-- The gradient of the normalised rows, at one index. -/
theorem dh_apply (x0 : Vec Ideal S512x1536 .bf16) (x1 : Vec Ideal S512x512 .bf16) (x2 : Vec Ideal S512x512 .bf16) (x3 : Vec Ideal S512x512 .bf16) (x4 : Vec Ideal S512x512 .bf16) (x5 : Vec Ideal S512x1024 .bf16) (x6 : Vec Ideal S512x3072 .bf16) (x7 : Vec Ideal S7680x1024 .bf16) (r : Fin 512) (z : Fin 7680 → EReal)
    (h0 : ∀ k : Fin 1536, x0 (ix2 r k) = z ⟨0 + k.val, by omega⟩) (h1 : ∀ k : Fin 512, x1 (ix2 r k) = z ⟨1536 + k.val, by omega⟩) (h2 : ∀ k : Fin 512, x2 (ix2 r k) = z ⟨2048 + k.val, by omega⟩) (h3 : ∀ k : Fin 512, x3 (ix2 r k) = z ⟨2560 + k.val, by omega⟩) (h4 : ∀ k : Fin 512, x4 (ix2 r k) = z ⟨3072 + k.val, by omega⟩) (h5 : ∀ k : Fin 1024, x5 (ix2 r k) = z ⟨3584 + k.val, by omega⟩) (h6 : ∀ k : Fin 3072, x6 (ix2 r k) = z ⟨4608 + k.val, by omega⟩) (d : Fin 1024) :
    k0_pay4 (F := Ideal) (p5 x0 x1 x2 x3 x4 x7) (View.ld x5 (Rect.unit (s := S512x1024) ![0, 0] S512x1024.size inb_S512x1024_S512x1024_0_0)) (View.ld x7 (Rect.unit (s := S7680x1024) ![3584, 0] S1024x1024.size inb_S7680x1024_S1024x1024_3584_0)) (View.ld x6 (Rect.unit (s := S512x3072) ![0, 0] S512x3072.size inb_S512x3072_S512x3072_0_0)) (View.ld x7 (Rect.unit (s := S7680x1024) ![4608, 0] S3072x1024.size inb_S7680x1024_S3072x1024_4608_0)) (ix2 r d)
      = ∑ j, z j * x7 (ix2 j d) := by
  rw [sum7]
  unfold k0_pay4 p5 k0_pay3
  refine congrArg₂ (· + ·) (congrArg₂ (· + ·) (congrArg₂ (· + ·) (congrArg₂ (· + ·) (congrArg₂ (· + ·) (congrArg₂ (· + ·) (mm1536 _ _ r d) (mm512 _ _ r d)) (mm512 _ _ r d))
    (mm512 _ _ r d)) (mm512 _ _ r d)) (mm1024 _ _ r d)) (mm3072 _ _ r d) |>.trans ?_
  refine congrArg₂ (· + ·) (congrArg₂ (· + ·) (congrArg₂ (· + ·) (congrArg₂ (· + ·) (congrArg₂ (· + ·) (congrArg₂ (· + ·) ?_ ?_) ?_) ?_) ?_) ?_) ?_
  · exact Finset.sum_congr rfl fun k _ => congrArg₂ (· * ·) ((congrFun (ldw x0 _) (ix2 r k)).trans (h0 k)) (ldo x7 0 1536 _ k d (by omega))
  · exact Finset.sum_congr rfl fun k _ => congrArg₂ (· * ·) ((congrFun (ldw x1 _) (ix2 r k)).trans (h1 k)) (ldo x7 1536 512 _ k d (by omega))
  · exact Finset.sum_congr rfl fun k _ => congrArg₂ (· * ·) ((congrFun (ldw x2 _) (ix2 r k)).trans (h2 k)) (ldo x7 2048 512 _ k d (by omega))
  · exact Finset.sum_congr rfl fun k _ => congrArg₂ (· * ·) ((congrFun (ldw x3 _) (ix2 r k)).trans (h3 k)) (ldo x7 2560 512 _ k d (by omega))
  · exact Finset.sum_congr rfl fun k _ => congrArg₂ (· * ·) ((congrFun (ldw x4 _) (ix2 r k)).trans (h4 k)) (ldo x7 3072 512 _ k d (by omega))
  · exact Finset.sum_congr rfl fun k _ => congrArg₂ (· * ·) ((congrFun (ldw x5 _) (ix2 r k)).trans (h5 k)) (ldo x7 3584 1024 _ k d (by omega))
  · exact Finset.sum_congr rfl fun k _ => congrArg₂ (· * ·) ((congrFun (ldw x6 _) (ix2 r k)).trans (h6 k)) (ldo x7 4608 3072 _ k d (by omega))

/-- The reciprocal root mean square of a row. -/
theorem r_apply (x : Vec Ideal S512x1024 .f32) (r : Fin 512) : k0_pay5 (F := Ideal) x (ix2 r 0) = nr fun d => x (ix2 r d) := by
  unfold k0_pay5
  exact congrArg Ideal.rsqrt (congrArg₂ (· + ·) (congrArg₂ Ideal.div (rowSum _ r) rfl) rfl)

/-- The normalised row. -/
theorem xn_apply (x : Vec Ideal S512x1024 .f32) (r : Fin 512) (d : Fin 1024) : k0_pay6 (F := Ideal) x (ix2 r d) = nx (fun d => x (ix2 r d)) d := by
  unfold k0_pay6
  exact congrArg₂ (· * ·) rfl ((bcol _ r d).trans (r_apply x r))

/-- The input's gradient, at one index. -/
theorem dx_apply (x0 : Vec Ideal S512x1536 .bf16) (x1 : Vec Ideal S512x512 .bf16) (x2 : Vec Ideal S512x512 .bf16) (x3 : Vec Ideal S512x512 .bf16) (x4 : Vec Ideal S512x512 .bf16) (x5 : Vec Ideal S512x1024 .bf16) (x6 : Vec Ideal S512x3072 .bf16) (x7 : Vec Ideal S7680x1024 .bf16) (x8 : Vec Ideal S512x1024 .f32) (x9 : Vec Ideal S1x1024 .f32) (x10 : Vec Ideal S512x1024 .f32) (r : Fin 512) (z : Fin 7680 → EReal)
    (h0 : ∀ k : Fin 1536, x0 (ix2 r k) = z ⟨0 + k.val, by omega⟩) (h1 : ∀ k : Fin 512, x1 (ix2 r k) = z ⟨1536 + k.val, by omega⟩) (h2 : ∀ k : Fin 512, x2 (ix2 r k) = z ⟨2048 + k.val, by omega⟩) (h3 : ∀ k : Fin 512, x3 (ix2 r k) = z ⟨2560 + k.val, by omega⟩) (h4 : ∀ k : Fin 512, x4 (ix2 r k) = z ⟨3072 + k.val, by omega⟩) (h5 : ∀ k : Fin 1024, x5 (ix2 r k) = z ⟨3584 + k.val, by omega⟩) (h6 : ∀ k : Fin 3072, x6 (ix2 r k) = z ⟨4608 + k.val, by omega⟩) (d : Fin 1024) :
    dxv (F := Ideal) x0 x1 x2 x3 x4 x5 x6 x7 x8 x9 x10 (ix2 r d)
      = x10 (ix2 r d) + ng (fun d => x8 (ix2 r d)) (fun d => (∑ j, z j * x7 (ix2 j d)) * x9 (ix2 0 d)) d := by
  have hq : ∀ d, k0_pay8 (F := Ideal) (p5 x0 x1 x2 x3 x4 x7) (View.ld x5 (Rect.unit (s := S512x1024) ![0, 0] S512x1024.size inb_S512x1024_S512x1024_0_0)) (View.ld x7 (Rect.unit (s := S7680x1024) ![3584, 0] S1024x1024.size inb_S7680x1024_S1024x1024_3584_0)) (View.ld x6 (Rect.unit (s := S512x3072) ![0, 0] S512x3072.size inb_S512x3072_S512x3072_0_0)) (View.ld x7 (Rect.unit (s := S7680x1024) ![4608, 0] S3072x1024.size inb_S7680x1024_S3072x1024_4608_0)) (View.ld x9 (Rect.unit (s := S1x1024) ![0, 0] S1x1024.size inb_S1x1024_S1x1024_0_0)) (ix2 r d)
      = (∑ j, z j * x7 (ix2 j d)) * x9 (ix2 0 d) := fun d => by
    unfold k0_pay8
    exact congrArg₂ (· * ·) (dh_apply x0 x1 x2 x3 x4 x5 x6 x7 r z h0 h1 h2 h3 h4 h5 h6 d) ((brow _ r d).trans (congrFun (ldw x9 _) (ix2 0 d)))
  have e8 := ldw (e := .f32) x8 inb_S512x1024_S512x1024_0_0
  have e10 := ldw (e := .f32) x10 inb_S512x1024_S512x1024_0_0
  unfold dxv k0_pay1
  refine congrArg₂ (· + ·) (congrFun e10 (ix2 r d)) (congrArg₂ (· * ·) ((bcol _ r d).trans ((r_apply _ r).trans (congrArg (fun x : Vec Ideal S512x1024 .f32 => nr fun d => x (ix2 r d)) e8)))
    (congrArg₂ (· - ·) (hq d) (congrArg₂ (· * ·) ((xn_apply _ r d).trans (congrArg (fun x : Vec Ideal S512x1024 .f32 => nx (fun d => x (ix2 r d)) d) e8)) ((bcol _ r d).trans ?_))))
  unfold k0_pay9
  refine congrArg₂ Ideal.div ((rowSum _ r).trans (Finset.sum_congr rfl fun k _ => congrArg₂ (· * ·) (hq k)
    ((xn_apply _ r k).trans (congrArg (fun x : Vec Ideal S512x1024 .f32 => nx (fun d => x (ix2 r d)) k) e8)))) rfl

/-- The norm weight's gradient after one point. -/
theorem dg_apply (x0 : Vec Ideal S512x1536 .bf16) (x1 : Vec Ideal S512x512 .bf16) (x2 : Vec Ideal S512x512 .bf16) (x3 : Vec Ideal S512x512 .bf16) (x4 : Vec Ideal S512x512 .bf16) (x5 : Vec Ideal S512x1024 .bf16) (x6 : Vec Ideal S512x3072 .bf16) (x7 : Vec Ideal S7680x1024 .bf16) (x8 : Vec Ideal S512x1024 .f32) (acc : Vec Ideal S1x1024 .f32) (z : Fin 512 → Fin 7680 → EReal)
    (h0 : ∀ r, ∀ k : Fin 1536, x0 (ix2 r k) = z r ⟨0 + k.val, by omega⟩) (h1 : ∀ r, ∀ k : Fin 512, x1 (ix2 r k) = z r ⟨1536 + k.val, by omega⟩) (h2 : ∀ r, ∀ k : Fin 512, x2 (ix2 r k) = z r ⟨2048 + k.val, by omega⟩) (h3 : ∀ r, ∀ k : Fin 512, x3 (ix2 r k) = z r ⟨2560 + k.val, by omega⟩) (h4 : ∀ r, ∀ k : Fin 512, x4 (ix2 r k) = z r ⟨3072 + k.val, by omega⟩) (h5 : ∀ r, ∀ k : Fin 1024, x5 (ix2 r k) = z r ⟨3584 + k.val, by omega⟩) (h6 : ∀ r, ∀ k : Fin 3072, x6 (ix2 r k) = z r ⟨4608 + k.val, by omega⟩) (d : Fin 1024) :
    dgv (F := Ideal) x0 x1 x2 x3 x4 x5 x6 x7 x8 acc (ix2 0 d)
      = acc (ix2 0 d) + ∑ r, (∑ j, z r j * x7 (ix2 j d)) * nx (fun d => x8 (ix2 r d)) d := by
  have e8 := ldw (e := .f32) x8 inb_S512x1024_S512x1024_0_0
  unfold dgv k0_pay7
  refine congrArg₂ (· + ·) (congrFun (shapeCast_self _ _) _) ((colSum _ d).trans (Finset.sum_congr rfl fun r _ => congrArg₂ (· * ·)
    (dh_apply x0 x1 x2 x3 x4 x5 x6 x7 r (z r) (h0 r) (h1 r) (h2 r) (h3 r) (h4 r) (h5 r) (h6 r) d)
    ((xn_apply _ r d).trans (congrArg (fun x : Vec Ideal S512x1024 .f32 => nx (fun d => x (ix2 r d)) d) e8))))

end Cert.Kernel2Ideal.Hand

end
-- ==== Proof.RefBwd.lean ====
module

public import proofs.«01_k».proof.Proof.NormBwd
public import proofs.«01_k».proof.Proof.Gen.Reference2Ideal.Read
public import Idealize.ShloMosaic.Lib.ValueLayout
public import Idealize.ShloMosaic.Lib.ValueLayoutCasts
public import Idealize.ShloMosaic.Lib.Pipeline.ValueKit

@[expose] public section

/-! The reference of the input gradient, at one index: the seven gradients laid side by side, their product with the weight, and the
    norm's gradient. -/

open Idealize.ShloMosaic hiding ix2
open Idealize.ShloMosaic.ValueIdx Idealize.ShloMosaic.TcCoe Idealize.SL.Sem Cert.Spec

set_option maxRecDepth 8192
set_option maxHeartbeats 2000000

noncomputable section

namespace Cert.Reference2Ideal.Hand

open Cert.Reference2Ideal Cert.Reference2Ideal.Read

variable (x0 : (⟨S8192x1024, .f32⟩ : BufTy).Contents (Elt Ideal)) (x1 : (⟨S1x1024, .f32⟩ : BufTy).Contents (Elt Ideal))
  (x2 : (⟨S1024x7680, .f32⟩ : BufTy).Contents (Elt Ideal)) (x3 : (⟨S8192x1536, .bf16⟩ : BufTy).Contents (Elt Ideal))
  (x4 x5 x6 x7 : (⟨S8192x512, .bf16⟩ : BufTy).Contents (Elt Ideal)) (x8 : (⟨S8192x1024, .bf16⟩ : BufTy).Contents (Elt Ideal))
  (x9 : (⟨S8192x3072, .bf16⟩ : BufTy).Contents (Elt Ideal)) (x10 : (⟨S8192x1024, .f32⟩ : BufTy).Contents (Elt Ideal))

/-- The gradient of the projection's columns: the seven pieces side by side. -/
def dz (t : Fin 8192) (j : Fin 7680) : EReal := val_main_v7 (F := Ideal) x3 x4 x5 x6 x7 x8 x9 (ix2 t j)

theorem dz_0 (t : Fin 8192) (k : Fin 1536) : dz x3 x4 x5 x6 x7 x8 x9 t ⟨0 + k.val, by omega⟩ = x3 (ix2 t k) := by
  unfold dz val_main_v7
  refine concatenate_apply_piece (t := S8192x7680) 1 _ _ _ 0 ?_ S8192x1536 x3 ?_ rfl 0 ?_ (ix2 t k) (fun b hb => ?_) ?_
  · show 0 < 7; decide
  · rfl
  · rfl
  · match b, hb with
    | ⟨0, _⟩, _ => rfl
    | ⟨1, _⟩, hb => exact absurd rfl hb
  · rfl

theorem dz_1 (t : Fin 8192) (k : Fin 512) : dz x3 x4 x5 x6 x7 x8 x9 t ⟨1536 + k.val, by omega⟩ = x4 (ix2 t k) := by
  unfold dz val_main_v7
  refine concatenate_apply_piece (t := S8192x7680) 1 _ _ _ 1 ?_ S8192x512 x4 ?_ rfl 1536 ?_ (ix2 t k) (fun b hb => ?_) ?_
  · show 1 < 7; decide
  · rfl
  · rfl
  · match b, hb with
    | ⟨0, _⟩, _ => rfl
    | ⟨1, _⟩, hb => exact absurd rfl hb
  · rfl

theorem dz_2 (t : Fin 8192) (k : Fin 512) : dz x3 x4 x5 x6 x7 x8 x9 t ⟨2048 + k.val, by omega⟩ = x5 (ix2 t k) := by
  unfold dz val_main_v7
  refine concatenate_apply_piece (t := S8192x7680) 1 _ _ _ 2 ?_ S8192x512 x5 ?_ rfl 2048 ?_ (ix2 t k) (fun b hb => ?_) ?_
  · show 2 < 7; decide
  · rfl
  · rfl
  · match b, hb with
    | ⟨0, _⟩, _ => rfl
    | ⟨1, _⟩, hb => exact absurd rfl hb
  · rfl

theorem dz_3 (t : Fin 8192) (k : Fin 512) : dz x3 x4 x5 x6 x7 x8 x9 t ⟨2560 + k.val, by omega⟩ = x6 (ix2 t k) := by
  unfold dz val_main_v7
  refine concatenate_apply_piece (t := S8192x7680) 1 _ _ _ 3 ?_ S8192x512 x6 ?_ rfl 2560 ?_ (ix2 t k) (fun b hb => ?_) ?_
  · show 3 < 7; decide
  · rfl
  · rfl
  · match b, hb with
    | ⟨0, _⟩, _ => rfl
    | ⟨1, _⟩, hb => exact absurd rfl hb
  · rfl

theorem dz_4 (t : Fin 8192) (k : Fin 512) : dz x3 x4 x5 x6 x7 x8 x9 t ⟨3072 + k.val, by omega⟩ = x7 (ix2 t k) := by
  unfold dz val_main_v7
  refine concatenate_apply_piece (t := S8192x7680) 1 _ _ _ 4 ?_ S8192x512 x7 ?_ rfl 3072 ?_ (ix2 t k) (fun b hb => ?_) ?_
  · show 4 < 7; decide
  · rfl
  · rfl
  · match b, hb with
    | ⟨0, _⟩, _ => rfl
    | ⟨1, _⟩, hb => exact absurd rfl hb
  · rfl

theorem dz_5 (t : Fin 8192) (k : Fin 1024) : dz x3 x4 x5 x6 x7 x8 x9 t ⟨3584 + k.val, by omega⟩ = x8 (ix2 t k) := by
  unfold dz val_main_v7
  refine concatenate_apply_piece (t := S8192x7680) 1 _ _ _ 5 ?_ S8192x1024 x8 ?_ rfl 3584 ?_ (ix2 t k) (fun b hb => ?_) ?_
  · show 5 < 7; decide
  · rfl
  · rfl
  · match b, hb with
    | ⟨0, _⟩, _ => rfl
    | ⟨1, _⟩, hb => exact absurd rfl hb
  · rfl

theorem dz_6 (t : Fin 8192) (k : Fin 3072) : dz x3 x4 x5 x6 x7 x8 x9 t ⟨4608 + k.val, by omega⟩ = x9 (ix2 t k) := by
  unfold dz val_main_v7
  refine concatenate_apply_piece (t := S8192x7680) 1 _ _ _ 6 ?_ S8192x3072 x9 ?_ rfl 4608 ?_ (ix2 t k) (fun b hb => ?_) ?_
  · show 6 < 7; decide
  · rfl
  · rfl
  · match b, hb with
    | ⟨0, _⟩, _ => rfl
    | ⟨1, _⟩, hb => exact absurd rfl hb
  · rfl

/-- The gradient of the normalised rows. -/
def dh (t : Fin 8192) (d : Fin 1024) : EReal := ∑ j, dz x3 x4 x5 x6 x7 x8 x9 t j * x2 (ix2 d j)

theorem r_dh (t : Fin 8192) (d : Fin 1024) : val_main_v24 (F := Ideal) x2 x3 x4 x5 x6 x7 x8 x9 (ix2 t d) = dh x2 x3 x4 x5 x6 x7 x8 x9 t d := by
  refine (val_main_v24_apply x2 x3 x4 x5 x6 x7 x8 x9 (ix2 t d)).trans (Finset.sum_congr rfl fun k _ => ?_)
  exact congrArg₂ (· * ·) (congrArg (val_main_v7 (F := Ideal) x3 x4 x5 x6 x7 x8 x9) (idx2 (j := ix2 t k) rfl rfl)) (congrArg x2 (idx2 rfl rfl))

theorem r_v (t : Fin 8192) : val_main_v14 (F := Ideal) x0 (ix2 t 0) = nv fun d => x0 (ix2 t d) := by
  rw [val_main_v14_apply, val_main_v12_apply, val_main_v10_apply, val_main_v9_apply]
  refine congrArg₂ (· + ·) (congrArg₂ Ideal.div ?_ rfl) rfl
  refine Eq.trans (congrArg₂ (· + ·) lit_0 (Finset.sum_congr rfl fun j _ => ?_)) (zero_add _)
  exact congrArg (fun i => x0 i * x0 i) (idx2 rfl rfl)

theorem r_r (t : Fin 8192) : val_main_v15 (F := Ideal) x0 (ix2 t 0) = nr fun d => x0 (ix2 t d) :=
  congrArg Ideal.rsqrt (r_v x0 t)

/-- The row of the gradient times the norm's weight. -/
def dq (t : Fin 8192) (d : Fin 1024) : EReal := dh x2 x3 x4 x5 x6 x7 x8 x9 t d * x1 (ix2 0 d)

theorem r_q (t : Fin 8192) (d : Fin 1024) : val_main_v29 (F := Ideal) x1 x2 x3 x4 x5 x6 x7 x8 x9 (ix2 t d) = dq x1 x2 x3 x4 x5 x6 x7 x8 x9 t d := by
  rw [val_main_v29_apply, val_main_v28_apply, r_dh]
  exact congrArg₂ (· * ·) rfl (congrArg x1 (idx2 rfl rfl))

theorem r_c (t : Fin 8192) : val_main_v38 (F := Ideal) x0 x1 x2 x3 x4 x5 x6 x7 x8 x9 (ix2 t 0)
    = nc (fun d => x0 (ix2 t d)) (dq x1 x2 x3 x4 x5 x6 x7 x8 x9 t) := by
  rw [val_main_v38_apply, val_main_v36_apply, val_main_v32_apply, val_main_v31_apply, val_main_v18_apply, val_main_v16_apply, r_r, r_v]
  refine congrArg₂ Ideal.div (congrArg₂ (· * ·) ?_ rfl) rfl
  refine Eq.trans (congrArg₂ (· + ·) lit_0 (Finset.sum_congr rfl fun j _ => ?_)) (zero_add _)
  have e : idx_main_v31 (idx_main_v32 (ix2 t 0)) j = ix2 t j := idx2 (by show t.val * 1 + 0 = t.val; omega) rfl
  rw [e]
  rw [val_main_v30_apply, r_q]
  rfl

theorem r_c' (t : Fin 8192) (d : Fin 1024) : val_main_v40 (F := Ideal) x0 x1 x2 x3 x4 x5 x6 x7 x8 x9 (ix2 t d)
    = nc (fun d => x0 (ix2 t d)) (dq x1 x2 x3 x4 x5 x6 x7 x8 x9 t) := by
  rw [val_main_v40_apply, val_main_v39_apply]
  refine Eq.trans (congrArg₂ (· + ·) lit_0 (Fin.sum_univ_one _)) ((zero_add _).trans ?_)
  have e : idx_main_v39 (idx_main_v40 (ix2 t d)) 0 = ix2 t 0 := idx2 rfl rfl
  rw [e, r_c]

/-- The input's gradient, at one index. -/
theorem r_dx (t : Fin 8192) (d : Fin 1024) : val_main_v44 (F := Ideal) x0 x1 x2 x3 x4 x5 x6 x7 x8 x9 x10 (ix2 t d)
    = x10 (ix2 t d) + ng (fun d => x0 (ix2 t d)) (dq x1 x2 x3 x4 x5 x6 x7 x8 x9 t) d := by
  have e : idx_main_v33 (ix2 t d) = ix2 t 0 := idx2 rfl rfl
  rw [val_main_v44_apply, val_main_v42_apply, val_main_v35_apply, val_main_v34_apply, val_main_v33_apply, val_main_v43_apply,
    val_main_v41_apply, r_c', r_q, e, r_r, ← ng_eq, ← add_assoc, ← add_assoc]
  rfl

/-- The norm weight's gradient, at one index. -/
theorem r_dg (d : Fin 1024) : val_main_v27 (F := Ideal) x0 x2 x3 x4 x5 x6 x7 x8 x9 (ix2 0 d)
    = ∑ t, dh x2 x3 x4 x5 x6 x7 x8 x9 t d * nx (fun d => x0 (ix2 t d)) d := by
  rw [val_main_v27_apply, val_main_v26_apply]
  refine Eq.trans (congrArg₂ (· + ·) lit_0 (Finset.sum_congr rfl fun t _ => ?_)) (zero_add _)
  have e : idx_main_v26 (idx_main_v27 (ix2 0 d)) t = ix2 t d := idx2 rfl (by show 0 * 1024 + d.val = d.val; omega)
  have e' : idx_main_v19 (ix2 t d) = ix2 t 0 := idx2 rfl rfl
  rw [e, val_main_v25_apply, val_main_v20_apply, val_main_v19_apply, r_dh, e', r_r]
  exact mul_comm _ _

end Cert.Reference2Ideal.Hand

end
-- ==== Proof.Blk2.lean ====
module

public import proofs.«01_k».proof.Proof.Pay2
public import proofs.«01_k».proof.Proof.RefBwd

@[expose] public section

/-! What the input gradient's kernel leaves in its two arrays: the reference's values at the kernel's arguments. -/

open Idealize.ShloMosaic hiding ix2
open Idealize.ShloMosaic.ValueIdx Idealize.ShloMosaic.TcCoe Idealize.SL.Sem Cert.Spec

set_option maxRecDepth 8192
set_option maxHeartbeats 2000000

noncomputable section

namespace Cert.Kernel2Ideal.Hand

open Cert.Kernel2Ideal Cert.Kernel2Ideal.Gen Cert.Kernel2Ideal.Value

variable (m : (ℓ : Loc nD τ sig) → Buf (Elt Ideal) ℓ) (c : Dev nD)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![t.val, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val, 0] := (by decide +kernel : ∀ t : Fin grid0.N, _)
theorem e11 : ∀ t : Fin cfg0.N, win0_11.index t = ![t.val, 0] := (by decide +kernel : ∀ t : Fin grid0.N, _)
theorem e12 : ∀ t : Fin cfg0.N, win0_12.index t = ![0, 0] := (by decide +kernel : ∀ t : Fin grid0.N, _)

/-! The arguments and the blocks a point reads. -/

def a0 : (⟨S8192x1024, .f32⟩ : BufTy).Contents (Elt Ideal) := m ((c : Thread nD τ).loc main_arg0)
def a1 : (⟨S1x1024, .f32⟩ : BufTy).Contents (Elt Ideal) := m ((c : Thread nD τ).loc main_arg1)
def a2 : (⟨S1024x7680, .f32⟩ : BufTy).Contents (Elt Ideal) := m ((c : Thread nD τ).loc main_arg2)
def a3 : (⟨S8192x1536, .bf16⟩ : BufTy).Contents (Elt Ideal) := m ((c : Thread nD τ).loc main_arg3)
def a4 : (⟨S8192x512, .bf16⟩ : BufTy).Contents (Elt Ideal) := m ((c : Thread nD τ).loc main_arg4)
def a5 : (⟨S8192x512, .bf16⟩ : BufTy).Contents (Elt Ideal) := m ((c : Thread nD τ).loc main_arg5)
def a6 : (⟨S8192x512, .bf16⟩ : BufTy).Contents (Elt Ideal) := m ((c : Thread nD τ).loc main_arg6)
def a7 : (⟨S8192x512, .bf16⟩ : BufTy).Contents (Elt Ideal) := m ((c : Thread nD τ).loc main_arg7)
def a8 : (⟨S8192x1024, .bf16⟩ : BufTy).Contents (Elt Ideal) := m ((c : Thread nD τ).loc main_arg8)
def a9 : (⟨S8192x3072, .bf16⟩ : BufTy).Contents (Elt Ideal) := m ((c : Thread nD τ).loc main_arg9)
def a10 : (⟨S8192x1024, .f32⟩ : BufTy).Contents (Elt Ideal) := m ((c : Thread nD τ).loc main_arg10)
def y0 (t : Fin cfg0.N) : Vec Ideal S512x1536 .bf16 := iblk m c 0 t
def y1 (t : Fin cfg0.N) : Vec Ideal S512x512 .bf16 := iblk m c 1 t
def y2 (t : Fin cfg0.N) : Vec Ideal S512x512 .bf16 := iblk m c 2 t
def y3 (t : Fin cfg0.N) : Vec Ideal S512x512 .bf16 := iblk m c 3 t
def y4 (t : Fin cfg0.N) : Vec Ideal S512x512 .bf16 := iblk m c 4 t
def y5 (t : Fin cfg0.N) : Vec Ideal S512x1024 .bf16 := iblk m c 5 t
def y6 (t : Fin cfg0.N) : Vec Ideal S512x3072 .bf16 := iblk m c 6 t
def y7 (t : Fin cfg0.N) : Vec Ideal S7680x1024 .bf16 := iblk m c 7 t
def y8 (t : Fin cfg0.N) : Vec Ideal S512x1024 .f32 := iblk m c 8 t
def y9 (t : Fin cfg0.N) : Vec Ideal S1x1024 .f32 := iblk m c 9 t
def y10 (t : Fin cfg0.N) : Vec Ideal S512x1024 .f32 := iblk m c 10 t

/-- The token in row `r` of block `t`. -/
def tok (t : Fin cfg0.N) (r : Fin 512) : Fin 8192 := ⟨t.val * 512 + r.val, by have := lt_of_lt_of_eq t.isLt N_0; omega⟩

/-- The weight as the kernel reads it: the argument transposed. -/
theorem V_w (j : Fin 7680) (k : Fin 1024) :
    (V m c main_v1 : S7680x1024.Idx → EReal) (ix2 j k) = m ((c : Thread nD τ).loc main_arg2) (ix2 k j) := by
  have h : (V m c main_v1 : S7680x1024.Idx → EReal) = transpose S7680x1024 [1, 0] (m ((c : Thread nD τ).loc main_arg2) : S1024x7680.Idx → EReal) transposes_S1024x7680_S7680x1024_1_0 := by
    sl_kernel_rfl
  rw [h]
  exact transpose_apply [1, 0] _ _ _ _ (fun b => by
    match b with
    | ⟨0, _⟩ => rfl
    | ⟨1, _⟩ => rfl)

theorem b0 (t : Fin cfg0.N) (r : Fin 512) (k : Fin 1536) :
    y0 m c t (ix2 r k) = a3 m c (ix2 (tok t r) k) := by
  unfold y0 a3
  blk_simp [iblk]
  rw [V_main_arg3]
  refine congrArg _ ?_
  blk_ext [e0, tok]

theorem b1 (t : Fin cfg0.N) (r : Fin 512) (k : Fin 512) :
    y1 m c t (ix2 r k) = a4 m c (ix2 (tok t r) k) := by
  unfold y1 a4
  blk_simp [iblk]
  rw [V_main_arg4]
  refine congrArg _ ?_
  blk_ext [e1, tok]

theorem b2 (t : Fin cfg0.N) (r : Fin 512) (k : Fin 512) :
    y2 m c t (ix2 r k) = a5 m c (ix2 (tok t r) k) := by
  unfold y2 a5
  blk_simp [iblk]
  rw [V_main_arg5]
  refine congrArg _ ?_
  blk_ext [e2, tok]

theorem b3 (t : Fin cfg0.N) (r : Fin 512) (k : Fin 512) :
    y3 m c t (ix2 r k) = a6 m c (ix2 (tok t r) k) := by
  unfold y3 a6
  blk_simp [iblk]
  rw [V_main_arg6]
  refine congrArg _ ?_
  blk_ext [e3, tok]

theorem b4 (t : Fin cfg0.N) (r : Fin 512) (k : Fin 512) :
    y4 m c t (ix2 r k) = a7 m c (ix2 (tok t r) k) := by
  unfold y4 a7
  blk_simp [iblk]
  rw [V_main_arg7]
  refine congrArg _ ?_
  blk_ext [e4, tok]

theorem b5 (t : Fin cfg0.N) (r : Fin 512) (k : Fin 1024) :
    y5 m c t (ix2 r k) = a8 m c (ix2 (tok t r) k) := by
  unfold y5 a8
  blk_simp [iblk]
  rw [V_main_arg8]
  refine congrArg _ ?_
  blk_ext [e5, tok]

theorem b6 (t : Fin cfg0.N) (r : Fin 512) (k : Fin 3072) :
    y6 m c t (ix2 r k) = a9 m c (ix2 (tok t r) k) := by
  unfold y6 a9
  blk_simp [iblk]
  rw [V_main_arg9]
  refine congrArg _ ?_
  blk_ext [e6, tok]

theorem b8 (t : Fin cfg0.N) (r : Fin 512) (k : Fin 1024) :
    y8 m c t (ix2 r k) = a0 m c (ix2 (tok t r) k) := by
  unfold y8 a0
  blk_simp [iblk]
  rw [V_main_arg0]
  refine congrArg _ ?_
  blk_ext [e8, tok]

theorem b10 (t : Fin cfg0.N) (r : Fin 512) (k : Fin 1024) :
    y10 m c t (ix2 r k) = a10 m c (ix2 (tok t r) k) := by
  unfold y10 a10
  blk_simp [iblk]
  rw [V_main_arg10]
  refine congrArg _ ?_
  blk_ext [e10, tok]

theorem b9 (t : Fin cfg0.N) (d : Fin 1024) :
    y9 m c t (ix2 0 d) = a1 m c (ix2 0 d) := by
  unfold y9 a1
  blk_simp [iblk]
  rw [V_main_arg1]
  refine congrArg _ ?_
  blk_ext [e9]

theorem b7 (t : Fin cfg0.N) (j : Fin 7680) (k : Fin 1024) :
    y7 m c t (ix2 j k) = a2 m c (ix2 k j) := by
  unfold y7 a2
  blk_simp [iblk]
  refine Eq.trans (congrArg _ ?_) (V_w m c j k)
  blk_ext [e7]

end Cert.Kernel2Ideal.Hand

end
-- ==== Proof.Share2.lean ====
module

public import proofs.«01_k».proof.Proof.Blk2

@[expose] public section

/-! What the input gradient's kernel leaves in its two arrays: the reference's values at the kernel's arguments. -/

open Idealize.ShloMosaic hiding ix2
open Idealize.ShloMosaic.ValueIdx Idealize.ShloMosaic.TcCoe Idealize.SL.Sem Cert.Spec

set_option maxRecDepth 8192
set_option maxHeartbeats 2000000

noncomputable section

namespace Cert.Kernel2Ideal.Hand

open Cert.Kernel2Ideal Cert.Kernel2Ideal.Gen Cert.Kernel2Ideal.Value

variable (m : (ℓ : Loc nD τ sig) → Buf (Elt Ideal) ℓ) (c : Dev nD)

/-- The product with the weight's block is the reference's gradient of the normalised rows. -/
theorem dh_eq (t : Fin cfg0.N) (r : Fin 512) (d : Fin 1024) :
    ∑ j, Cert.Reference2Ideal.Hand.dz (a3 m c) (a4 m c) (a5 m c) (a6 m c) (a7 m c) (a8 m c) (a9 m c) (tok t r) j * y7 m c t (ix2 j d) = Cert.Reference2Ideal.Hand.dh (a2 m c) (a3 m c) (a4 m c) (a5 m c) (a6 m c) (a7 m c) (a8 m c) (a9 m c) (tok t r) d :=
  Finset.sum_congr rfl fun j _ => congrArg _ (b7 m c t j d)

/-- The input's gradient's block. -/
theorem dx_blk (t : Fin cfg0.N) (r : Fin 512) (d : Fin 1024) :
    dxv (F := Ideal) (y0 m c t) (y1 m c t) (y2 m c t) (y3 m c t) (y4 m c t) (y5 m c t) (y6 m c t) (y7 m c t) (y8 m c t) (y9 m c t) (y10 m c t) (ix2 r d)
      = (a10 m c) (ix2 (tok t r) d) + ng (fun d => (a0 m c) (ix2 (tok t r) d)) (Cert.Reference2Ideal.Hand.dq (a1 m c) (a2 m c) (a3 m c) (a4 m c) (a5 m c) (a6 m c) (a7 m c) (a8 m c) (a9 m c) (tok t r)) d := by
  refine (dx_apply (y0 m c t) (y1 m c t) (y2 m c t) (y3 m c t) (y4 m c t) (y5 m c t) (y6 m c t) (y7 m c t) (y8 m c t) (y9 m c t) (y10 m c t) r (Cert.Reference2Ideal.Hand.dz (a3 m c) (a4 m c) (a5 m c) (a6 m c) (a7 m c) (a8 m c) (a9 m c) (tok t r)) (fun k => (b0 m c t r k).trans (Cert.Reference2Ideal.Hand.dz_0 (a3 m c) (a4 m c) (a5 m c) (a6 m c) (a7 m c) (a8 m c) (a9 m c) (tok t r) k).symm) (fun k => (b1 m c t r k).trans (Cert.Reference2Ideal.Hand.dz_1 (a3 m c) (a4 m c) (a5 m c) (a6 m c) (a7 m c) (a8 m c) (a9 m c) (tok t r) k).symm) (fun k => (b2 m c t r k).trans (Cert.Reference2Ideal.Hand.dz_2 (a3 m c) (a4 m c) (a5 m c) (a6 m c) (a7 m c) (a8 m c) (a9 m c) (tok t r) k).symm) (fun k => (b3 m c t r k).trans (Cert.Reference2Ideal.Hand.dz_3 (a3 m c) (a4 m c) (a5 m c) (a6 m c) (a7 m c) (a8 m c) (a9 m c) (tok t r) k).symm) (fun k => (b4 m c t r k).trans (Cert.Reference2Ideal.Hand.dz_4 (a3 m c) (a4 m c) (a5 m c) (a6 m c) (a7 m c) (a8 m c) (a9 m c) (tok t r) k).symm) (fun k => (b5 m c t r k).trans (Cert.Reference2Ideal.Hand.dz_5 (a3 m c) (a4 m c) (a5 m c) (a6 m c) (a7 m c) (a8 m c) (a9 m c) (tok t r) k).symm) (fun k => (b6 m c t r k).trans (Cert.Reference2Ideal.Hand.dz_6 (a3 m c) (a4 m c) (a5 m c) (a6 m c) (a7 m c) (a8 m c) (a9 m c) (tok t r) k).symm) d).trans ?_
  refine congrArg₂ (· + ·) (b10 m c t r d) (congrFun (congrArg₂ ng (funext fun d => b8 m c t r d) (funext fun d => ?_)) d)
  exact congrArg₂ (· * ·) (dh_eq m c t r d) (b9 m c t d)

/-- One token's share of the norm weight's gradient. -/
def share (d : Fin 1024) (t : Fin 8192) : EReal := Cert.Reference2Ideal.Hand.dh (a2 m c) (a3 m c) (a4 m c) (a5 m c) (a6 m c) (a7 m c) (a8 m c) (a9 m c) t d * nx (fun d => (a0 m c) (ix2 t d)) d

/-- The norm weight's gradient after one point. -/
theorem dg_blk (t : Fin cfg0.N) (acc : Vec Ideal S1x1024 .f32) (d : Fin 1024) :
    dgv (F := Ideal) (y0 m c t) (y1 m c t) (y2 m c t) (y3 m c t) (y4 m c t) (y5 m c t) (y6 m c t) (y7 m c t) (y8 m c t) acc (ix2 0 d) = acc (ix2 0 d) + ∑ r, share m c d (tok t r) := by
  refine (dg_apply (y0 m c t) (y1 m c t) (y2 m c t) (y3 m c t) (y4 m c t) (y5 m c t) (y6 m c t) (y7 m c t) (y8 m c t) acc (fun r => Cert.Reference2Ideal.Hand.dz (a3 m c) (a4 m c) (a5 m c) (a6 m c) (a7 m c) (a8 m c) (a9 m c) (tok t r)) (fun r k => (b0 m c t r k).trans (Cert.Reference2Ideal.Hand.dz_0 (a3 m c) (a4 m c) (a5 m c) (a6 m c) (a7 m c) (a8 m c) (a9 m c) (tok t r) k).symm) (fun r k => (b1 m c t r k).trans (Cert.Reference2Ideal.Hand.dz_1 (a3 m c) (a4 m c) (a5 m c) (a6 m c) (a7 m c) (a8 m c) (a9 m c) (tok t r) k).symm) (fun r k => (b2 m c t r k).trans (Cert.Reference2Ideal.Hand.dz_2 (a3 m c) (a4 m c) (a5 m c) (a6 m c) (a7 m c) (a8 m c) (a9 m c) (tok t r) k).symm) (fun r k => (b3 m c t r k).trans (Cert.Reference2Ideal.Hand.dz_3 (a3 m c) (a4 m c) (a5 m c) (a6 m c) (a7 m c) (a8 m c) (a9 m c) (tok t r) k).symm) (fun r k => (b4 m c t r k).trans (Cert.Reference2Ideal.Hand.dz_4 (a3 m c) (a4 m c) (a5 m c) (a6 m c) (a7 m c) (a8 m c) (a9 m c) (tok t r) k).symm) (fun r k => (b5 m c t r k).trans (Cert.Reference2Ideal.Hand.dz_5 (a3 m c) (a4 m c) (a5 m c) (a6 m c) (a7 m c) (a8 m c) (a9 m c) (tok t r) k).symm) (fun r k => (b6 m c t r k).trans (Cert.Reference2Ideal.Hand.dz_6 (a3 m c) (a4 m c) (a5 m c) (a6 m c) (a7 m c) (a8 m c) (a9 m c) (tok t r) k).symm) d).trans ?_
  refine congrArg₂ (· + ·) rfl (Finset.sum_congr rfl fun r _ => congrArg₂ (· * ·) (dh_eq m c t r d) (congrFun (congrArg nx (funext fun d => b8 m c t r d)) d))

end Cert.Kernel2Ideal.Hand

end
-- ==== Proof.Points2.lean ====
module

public import proofs.«01_k».proof.Proof.Blk2

@[expose] public section

/-! What the input gradient's kernel leaves in its two arrays: the reference's values at the kernel's arguments. -/

open Idealize.ShloMosaic hiding ix2
open Idealize.ShloMosaic.ValueIdx Idealize.ShloMosaic.TcCoe Idealize.SL.Sem Cert.Spec

set_option maxRecDepth 8192
set_option maxHeartbeats 2000000

noncomputable section

namespace Cert.Kernel2Ideal.Hand

open Cert.Kernel2Ideal Cert.Kernel2Ideal.Gen Cert.Kernel2Ideal.Value

variable (m : (ℓ : Loc nD τ sig) → Buf (Elt Ideal) ℓ) (c : Dev nD)

/-- The first output at every point. -/
theorem outs_1 (t : Fin cfg0.N) : (outsAt0 m c t.val t.isLt).1 = dxv (y0 m c t) (y1 m c t) (y2 m c t) (y3 m c t) (y4 m c t) (y5 m c t) (y6 m c t) (y7 m c t) (y8 m c t) (y9 m c t) (y10 m c t) := by
  by_cases h0 : t.val % 16 = 0
  · rw [outsAt0_A m c t h0]; dsimp only; exact o_A_11 c (grid0.coords t) _ _ _ _ _ _ _ _ _ _ _ _ _ _ _ _ _ _ _ _ _ _ _ _ _ _ _ (y0 m c t) (y1 m c t) (y2 m c t) (y3 m c t) (y4 m c t) (y5 m c t) (y6 m c t) (y7 m c t) (y8 m c t) (y9 m c t) (y10 m c t)
  · rw [outsAt0_B m c t h0]; dsimp only; exact o_B_11 c (grid0.coords t) _ _ _ _ _ _ _ _ _ _ _ _ _ _ _ _ _ _ _ _ _ _ _ _ _ _ _ (y0 m c t) (y1 m c t) (y2 m c t) (y3 m c t) (y4 m c t) (y5 m c t) (y6 m c t) (y7 m c t) (y8 m c t) (y9 m c t) (y10 m c t) _

/-- The second output at the first point. -/
theorem outs_2A (t : Fin cfg0.N) (h0 : t.val % 16 = 0) : (outsAt0 m c t.val t.isLt).2 = dgv (y0 m c t) (y1 m c t) (y2 m c t) (y3 m c t) (y4 m c t) (y5 m c t) (y6 m c t) (y7 m c t) (y8 m c t) (k0_pay2 (F := Ideal)) := by
  rw [outsAt0_A m c t h0]; dsimp only; exact o_A_12 c (grid0.coords t) _ _ _ _ _ _ _ _ _ _ _ _ _ _ _ _ _ _ _ _ _ _ _ _ _ _ _ (y0 m c t) (y1 m c t) (y2 m c t) (y3 m c t) (y4 m c t) (y5 m c t) (y6 m c t) (y7 m c t) (y8 m c t) (y9 m c t) (y10 m c t)

/-- The second output at a later point, from the point before. -/
theorem outs_2B (t : Fin cfg0.N) (h0 : ¬t.val % 16 = 0) (h : t.val - 1 < cfg0.N) :
    (outsAt0 m c t.val t.isLt).2 = dgv (y0 m c t) (y1 m c t) (y2 m c t) (y3 m c t) (y4 m c t) (y5 m c t) (y6 m c t) (y7 m c t) (y8 m c t) (outsAt0 m c (t.val - 1) h).2 := by
  rw [outsAt0_B m c t h0]
  dsimp only
  refine (o_B_12 c (grid0.coords t) _ _ _ _ _ _ _ _ _ _ _ _ _ _ _ _ _ _ _ _ _ _ _ _ _ _ _ (y0 m c t) (y1 m c t) (y2 m c t) (y3 m c t) (y4 m c t) (y5 m c t) (y6 m c t) (y7 m c t) (y8 m c t) (y9 m c t) (y10 m c t) _).trans ?_
  exact congrArg (dgv (F := Ideal) (y0 m c t) (y1 m c t) (y2 m c t) (y3 m c t) (y4 m c t) (y5 m c t) (y6 m c t) (y7 m c t) (y8 m c t)) (ldw (e := .f32) (outsAt0 m c (t.val - 1) h).2 inb_S1x1024_S1x1024_0_0)

end Cert.Kernel2Ideal.Hand

end
-- ==== Proof.Arr2.lean ====
module

public import proofs.«01_k».proof.Proof.Share2
public import proofs.«01_k».proof.Proof.Points2

@[expose] public section

/-! What the input gradient's kernel leaves in its two arrays: the reference's values at the kernel's arguments. -/

open Idealize.ShloMosaic hiding ix2
open Idealize.ShloMosaic.ValueIdx Idealize.ShloMosaic.TcCoe Idealize.SL.Sem Cert.Spec

set_option maxRecDepth 8192
set_option maxHeartbeats 2000000

noncomputable section

namespace Cert.Kernel2Ideal.Hand

open Cert.Kernel2Ideal Cert.Kernel2Ideal.Gen Cert.Kernel2Ideal.Value

variable (m : (ℓ : Loc nD τ sig) → Buf (Elt Ideal) ℓ) (c : Dev nD)

/-- The tokens of a block, by its number. -/
def tokN (s : ℕ) (r : Fin 512) : Fin 8192 := if h : s < 16 then ⟨s * 512 + r.val, by omega⟩ else 0

theorem tokN_eq (t : Fin cfg0.N) (r : Fin 512) : tokN t.val r = tok t r := dif_pos (lt_of_lt_of_eq t.isLt N_0)

/-- The norm weight's gradient after point `n`. -/
theorem acc_sum (d : Fin 1024) : ∀ (n : ℕ) (h : n < cfg0.N),
    (outsAt0 m c n h).2 (ix2 0 d) = ∑ s ∈ Finset.range (n + 1), ∑ r, share m c d (tokN s r)
  | 0, h => by
    refine (congrFun (outs_2A m c ⟨0, h⟩ rfl) (ix2 0 d)).trans ((dg_blk m c ⟨0, h⟩ _ d).trans ?_)
    rw [Finset.sum_range_one]
    refine Eq.trans (congrArg₂ (· + ·) lit_0 (Finset.sum_congr rfl fun r _ => ?_)) (zero_add _)
    exact congrArg (share m c d) (tokN_eq ⟨0, h⟩ r).symm
  | n + 1, h => by
    have hN : n + 1 < 16 := lt_of_lt_of_eq h N_0
    refine (congrFun (outs_2B m c ⟨n + 1, h⟩ (by show ¬(n + 1) % 16 = 0; omega) (by show n + 1 - 1 < cfg0.N; omega)) (ix2 0 d)).trans ((dg_blk m c ⟨n + 1, h⟩ _ d).trans ?_)
    rw [Finset.sum_range_succ _ (n + 1)]
    refine congrArg₂ (· + ·) (acc_sum d n (by omega)) (Finset.sum_congr rfl fun r _ => ?_)
    exact congrArg (share m c d) (tokN_eq ⟨n + 1, h⟩ r).symm

/-- The sum over the blocks of the sums over their rows is the sum over the tokens. -/
theorem sum_tok (g : Fin 8192 → EReal) : ∑ s ∈ Finset.range 16, ∑ r, g (tokN s r) = ∑ t, g t := by
  rw [Finset.sum_range, ← Fintype.sum_prod_type' (fun (t : Fin 16) (r : Fin 512) => g (tokN t.val r))]
  refine Fintype.sum_equiv (finProdFinEquiv (m := 16) (n := 512)) _ _ fun p => congrArg g (Fin.ext ?_)
  rw [tokN, dif_pos p.1.isLt]
  show p.1.val * 512 + p.2.val = p.2.val + 512 * p.1.val
  omega

/-- The input's gradient. -/
theorem arr_dx : (dats m 0 c).arrAt 11 cfg0.N = Cert.Reference2Ideal.Read.val_main_v44 (F := Ideal) (a0 m c) (a1 m c) (a2 m c) (a3 m c) (a4 m c) (a5 m c) (a6 m c) (a7 m c) (a8 m c) (a9 m c) (a10 m c) := by
  refine (dats m 0 c).arrAt_eq_of_covers 11 _ (by decide +kernel) fun t hf y => ?_
  blk_simp
  rw [after0_11, outs_1]
  obtain ⟨r, d, rfl⟩ : ∃ (r : Fin 512) (d : Fin 1024), y = ix2 r d := ⟨y 0, y 1, ValueIdx.eq_ix2 y⟩
  refine (dx_blk m c t r d).trans ?_
  refine (Cert.Reference2Ideal.Hand.r_dx (a0 m c) (a1 m c) (a2 m c) (a3 m c) (a4 m c) (a5 m c) (a6 m c) (a7 m c) (a8 m c) (a9 m c) (a10 m c) (tok t r) d).symm.trans (congrArg _ ?_)
  blk_ext [e11, tok]

/-- The norm weight's gradient. -/
theorem arr_dg : (dats m 0 c).arrAt 12 cfg0.N = Cert.Reference2Ideal.Read.val_main_v27 (F := Ideal) (a0 m c) (a2 m c) (a3 m c) (a4 m c) (a5 m c) (a6 m c) (a7 m c) (a8 m c) (a9 m c) := by
  refine (dats m 0 c).arrAt_eq_of_after_last 12 ⟨15, by decide +kernel⟩ (by decide +kernel) _ fun y => ?_
  obtain ⟨r, d, rfl⟩ : ∃ (r : Fin 1) (d : Fin 1024), y = ix2 r d := ⟨y 0, y 1, ValueIdx.eq_ix2 y⟩
  obtain rfl : r = 0 := Subsingleton.elim _ _
  refine Eq.trans (b := (outsAt0 m c 15 (by decide +kernel)).2 (ix2 0 d)) ?_ ?_
  · rw [after0_12]; rfl
  exact (acc_sum m c d 15 _).trans ((sum_tok (share m c d)).trans (Cert.Reference2Ideal.Hand.r_dg (a0 m c) (a2 m c) (a3 m c) (a4 m c) (a5 m c) (a6 m c) (a7 m c) (a8 m c) (a9 m c) d).symm)

end Cert.Kernel2Ideal.Hand

end
-- ==== Proof.More.lean ====
module

public import proofs.«01_k».proof.Defs
public import proofs.«01_k».proof.Proof.In
public import proofs.«01_k».proof.Proof.Arr2
public import proofs.«01_k».proof.Proof.Gen.Kernel2
public import proofs.«01_k».proof.Proof.Gen.Kernel3
public import proofs.«01_k».proof.Proof.Gen.Kernel2Ideal.Frame
public import proofs.«01_k».proof.Proof.Gen.Kernel3Ideal.Frame
public import proofs.«01_k».proof.Proof.Gen.Reference2Ideal.Run
public import proofs.«01_k».proof.Proof.Gen.Reference3Ideal.Run

@[expose] public section

/-! The claims of the projection and of the input gradient: the frames and the equations. Each kernel and its idealization are the same
    program (nothing was rewritten), so one run serves both frames. -/

open Idealize.ShloMosaic Idealize.SL.Sem

set_option maxRecDepth 65536
set_option maxHeartbeats 2000000

noncomputable section

namespace Cert.Proof

/-- The kernel's frame, written out. -/
def Kernel2Frame : Prop := ∀ (m : (ℓ : Loc Cert.Kernel2.nD Cert.Kernel2.τ Cert.Kernel2.sig) → Buf (Elt Bits) ℓ) (g : Dev Cert.Kernel2.nD → PrngReg),
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

/-- The idealized kernel's frame at the machine's floats, written out. -/
def Kernel2IdealFrame : Prop := ∀ (m : (ℓ : Loc Cert.Kernel2Ideal.nD Cert.Kernel2Ideal.τ Cert.Kernel2Ideal.sig) → Buf (Elt Bits) ℓ) (g : Dev Cert.Kernel2Ideal.nD → PrngReg),
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

/-- The two programs being one text, the two statements are one. -/
theorem kernel2Frame_eq : Kernel2Frame = Kernel2IdealFrame := by sl_kernel_rfl

/-- The kernel's frame. -/
theorem frame_kernel2 : @Cert.quiescent_Kernel2 Cert.Kernel2.Gen.facts := fun m ρ _ => by
  have h : Kernel2IdealFrame := fun m ρ => Cert.Kernel2Ideal.Gen.frame m ρ
  rw [← kernel2Frame_eq] at h
  exact h m ρ

/-- The idealized kernel's frame. -/
theorem frame_kernel2Ideal : @Cert.quiescent_Kernel2Ideal Cert.Kernel2Ideal.Gen.facts :=
  fun m ρ _ => Cert.Kernel2Ideal.Gen.frame m ρ

/-- The reference's frame: it has no semaphores, and its run keeps its arguments. -/
theorem frame_reference2 : @Cert.quiescent_Reference2Ideal Cert.Reference2Ideal.Gen.facts := fun m ρ _ =>
  (θ_run Cert.Reference2Ideal.defs _ _).mono
    (fun r h => ⟨fun c => (h c).2.2, sem_eq_zero_of_no_sems (by decide) r.2⟩)
    (Cert.Reference2Ideal.Value.run (F := Ideal) m ρ)

/-- The kernel's frame, written out. -/
def Kernel3Frame : Prop := ∀ (m : (ℓ : Loc Cert.Kernel3.nD Cert.Kernel3.τ Cert.Kernel3.sig) → Buf (Elt Bits) ℓ) (g : Dev Cert.Kernel3.nD → PrngReg),
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

/-- The idealized kernel's frame at the machine's floats, written out. -/
def Kernel3IdealFrame : Prop := ∀ (m : (ℓ : Loc Cert.Kernel3Ideal.nD Cert.Kernel3Ideal.τ Cert.Kernel3Ideal.sig) → Buf (Elt Bits) ℓ) (g : Dev Cert.Kernel3Ideal.nD → PrngReg),
    θ_run (Cert.Kernel3Ideal.defs (F := Bits)) (onTc (τ := Cert.Kernel3Ideal.τ) (Cert.Kernel3Ideal.main (F := Bits))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

/-- The two programs being one text, the two statements are one. -/
theorem kernel3Frame_eq : Kernel3Frame = Kernel3IdealFrame := by sl_kernel_rfl

/-- The kernel's frame. -/
theorem frame_kernel3 : @Cert.quiescent_Kernel3 Cert.Kernel3.Gen.facts := fun m ρ _ => by
  have h : Kernel3IdealFrame := fun m ρ => Cert.Kernel3Ideal.Gen.frame m ρ
  rw [← kernel3Frame_eq] at h
  exact h m ρ

/-- The idealized kernel's frame. -/
theorem frame_kernel3Ideal : @Cert.quiescent_Kernel3Ideal Cert.Kernel3Ideal.Gen.facts :=
  fun m ρ _ => Cert.Kernel3Ideal.Gen.frame m ρ

/-- The reference's frame: it has no semaphores, and its run keeps its arguments. -/
theorem frame_reference3 : @Cert.quiescent_Reference3Ideal Cert.Reference3Ideal.Gen.facts := fun m ρ _ =>
  (θ_run Cert.Reference3Ideal.defs _ _).mono
    (fun r h => ⟨fun c => (h c).2.2, sem_eq_zero_of_no_sems (by decide) r.2⟩)
    (Cert.Reference3Ideal.Value.run (F := Ideal) m ρ)

section
open Cert.Kernel2Ideal Cert.Kernel2Ideal.Gen Cert.Kernel2Ideal.Hand

/-- The input gradient's run: its two results are the reference's values at its arguments, and its arguments are unchanged. -/
theorem kernel2_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2_0) = Cert.Reference2Ideal.Read.val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_v2_1) = Cert.Reference2Ideal.Read.val_main_v27 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (arr_dx m c), (h c).2.1.trans (arr_dg m c), (h c).2.2⟩)
    (Cert.Kernel2Ideal.Value.run_blocks m ρ)

end

section
open Cert.Kernel3Ideal Cert.Kernel3Ideal.Gen Cert.Kernel3Ideal.Hand

/-- The projection's run: its two results are the reference's values at its arguments, and its arguments are unchanged. -/
theorem kernel3_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v2_0) = Cert.Reference3Ideal.Read.val_main_v13 (F := Ideal) (m ((c.tc : Thread nD τ).loc main_arg0)) (m ((c.tc : Thread nD τ).loc main_arg1)) (m ((c.tc : Thread nD τ).loc main_arg2))
      ∧ r.2.mem ((c.tc : Thread nD τ).loc main_v2_1) = Cert.Reference3Ideal.Read.val_main_v15 (F := Ideal) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr_z m c), (h c).2.1.trans (arr_ht m c), (h c).2.2⟩)
    (Cert.Kernel3Ideal.Value.run_blocks m ρ)

end

/-- Arguments replaced by equal ones. -/
theorem cong2 {A0 A1 B : Type} (f : A0 → A1 → B) {a0 b0 : A0} {a1 b1 : A1}
    (h0 : a0 = b0) (h1 : a1 = b1) : f a0 a1 = f b0 b1 := by
  subst h0 h1; rfl

/-- Arguments replaced by equal ones. -/
theorem cong3 {A0 A1 A2 B : Type} (f : A0 → A1 → A2 → B) {a0 b0 : A0} {a1 b1 : A1} {a2 b2 : A2}
    (h0 : a0 = b0) (h1 : a1 = b1) (h2 : a2 = b2) : f a0 a1 a2 = f b0 b1 b2 := by
  subst h0 h1 h2; rfl

/-- Arguments replaced by equal ones. -/
theorem cong9 {A0 A1 A2 A3 A4 A5 A6 A7 A8 B : Type} (f : A0 → A1 → A2 → A3 → A4 → A5 → A6 → A7 → A8 → B) {a0 b0 : A0} {a1 b1 : A1} {a2 b2 : A2} {a3 b3 : A3} {a4 b4 : A4} {a5 b5 : A5} {a6 b6 : A6} {a7 b7 : A7} {a8 b8 : A8}
    (h0 : a0 = b0) (h1 : a1 = b1) (h2 : a2 = b2) (h3 : a3 = b3) (h4 : a4 = b4) (h5 : a5 = b5) (h6 : a6 = b6) (h7 : a7 = b7) (h8 : a8 = b8) : f a0 a1 a2 a3 a4 a5 a6 a7 a8 = f b0 b1 b2 b3 b4 b5 b6 b7 b8 := by
  subst h0 h1 h2 h3 h4 h5 h6 h7 h8; rfl

/-- Arguments replaced by equal ones. -/
theorem cong11 {A0 A1 A2 A3 A4 A5 A6 A7 A8 A9 A10 B : Type} (f : A0 → A1 → A2 → A3 → A4 → A5 → A6 → A7 → A8 → A9 → A10 → B) {a0 b0 : A0} {a1 b1 : A1} {a2 b2 : A2} {a3 b3 : A3} {a4 b4 : A4} {a5 b5 : A5} {a6 b6 : A6} {a7 b7 : A7} {a8 b8 : A8} {a9 b9 : A9} {a10 b10 : A10}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) : f a0 a1 a2 a3 a4 a5 a6 a7 a8 a9 a10 = f b0 b1 b2 b3 b4 b5 b6 b7 b8 b9 b10 := by
  subst h0 h1 h2 h3 h4 h5 h6 h7 h8 h9 h10; rfl

/-- The input gradient's two results are the reference's, for all arguments. -/
theorem algebraic2 : @Cert.algebraic_Kernel2Ideal_Reference2Ideal Cert.Kernel2Ideal.Gen.facts Cert.Reference2Ideal.Gen.facts := by
  intro m g m' g' _ hagree
  refine ⟨_, _, kernel2_run m g, ?_⟩
  refine (θ_run Cert.Reference2Ideal.defs _ _).mono (fun r h c => ?_) (Cert.Reference2Ideal.Value.run (F := Ideal) m' g')
  obtain ⟨a0, a1, a2, a3, a4, a5, a6, a7, a8, a9, a10⟩ := hagree c
  obtain ⟨r0, r1, hargs⟩ := h c
  exact ⟨r0.trans ((Cert.Reference2Ideal.Read.val_main_v44_eq m' c).trans (cong11 (Cert.Reference2Ideal.Read.val_main_v44 (F := Ideal)) a0 a1 a2 a3 a4 a5 a6 a7 a8 a9 a10)),
    r1.trans ((Cert.Reference2Ideal.Read.val_main_v27_eq _ _ _ _ _ _ _ _ _).trans (cong9 (Cert.Reference2Ideal.Read.val_main_v27 (F := Ideal)) a0 a2 a3 a4 a5 a6 a7 a8 a9)), hargs⟩

/-- The projection's two results are the reference's, for all arguments. -/
theorem algebraic3 : @Cert.algebraic_Kernel3Ideal_Reference3Ideal Cert.Kernel3Ideal.Gen.facts Cert.Reference3Ideal.Gen.facts := by
  intro m g m' g' _ hagree
  refine ⟨_, _, kernel3_run m g, ?_⟩
  refine (θ_run Cert.Reference3Ideal.defs _ _).mono (fun r h c => ?_) (Cert.Reference3Ideal.Value.run (F := Ideal) m' g')
  obtain ⟨a0, a1, a2⟩ := hagree c
  obtain ⟨r0, r1, hargs⟩ := h c
  exact ⟨r0.trans ((Cert.Reference3Ideal.Read.val_main_v13_eq _ _ _).trans (cong3 (Cert.Reference3Ideal.Read.val_main_v13 (F := Ideal)) a0 a1 a2)),
    r1.trans ((Cert.Reference3Ideal.Read.val_main_v15_eq _ _).trans (cong2 (Cert.Reference3Ideal.Read.val_main_v15 (F := Ideal)) a0 a1)), hargs⟩

end Cert.Proof

end
-- ==== Proof.WBlk.lean ====
module

public import proofs.«01_k».proof.Proof.Norm
public import proofs.«01_k».proof.Proof.Gen.Kernel4Ideal.Value
public import Idealize.ShloMosaic.Lib.WholeRead
public import Idealize.ShloMosaic.Lib.MatmulPlain
public import Idealize.ShloMosaic.Lib.ValueLayout
public import Idealize.ShloMosaic.Lib.ValueLayoutCasts
public import Idealize.ShloMosaic.Lib.Pipeline.ValueKit

@[expose] public section

/-! One grid point of the weight gradient's kernel (merge gates' rows): what it leaves in the accumulator and in the output's block. -/

open Idealize.ShloMosaic hiding ix2
open Idealize.ShloMosaic.ValueIdx Idealize.ShloMosaic.TcCoe Idealize.SL.Sem Cert.Spec

set_option maxRecDepth 65536
set_option maxHeartbeats 2000000

noncomputable section

namespace Cert.Kernel4Ideal.Hand

open Cert.Kernel4Ideal Cert.Kernel4Ideal.Gen

/-- A load from a window that holds known contents. -/
theorem ld_read {F : FTy → Type} [FloatOps F] {sg : RefSig} {κ : Kind} {sp : Space} {s : Shape} {e : EltTy} {m : Memref sg κ sp s e} (h : m.IsWhole) (X : s.Idx → Elt F e) (B : Rect s) :
    View.readAt (Elt F) m.view B.toLoadRect (h.unread X) = View.ld X B := funext fun x => h.readAt_unread X B.toLoadRect x

/-- The zero offsets. -/
theorem z2 : (![0, 0] : Fin 2 → Nat) = fun _ => 0 := by
  funext a; match a with | ⟨0, _⟩ => rfl | ⟨1, _⟩ => rfl

/-- A load of a whole array is the array. -/
theorem ldw {n0 n1 : Nat} {e : EltTy} (x : Vec Ideal ⟨2, ![n0, n1]⟩ e) (inb) : View.ld x (Rect.unit (s := ⟨2, ![n0, n1]⟩) ![0, 0] ![n0, n1] inb) = x :=
  View.ld_unit_zero z2 inb x

/-- The accumulator after a run's first point. -/
theorem s_A (c : Dev nD) (i : grid0.Coords) (arg2 : Memref sig .tc .vmem S1024x2048 .bf16) (harg2 : arg2.IsWhole) (arg3 : Memref sig .tc .vmem S2048x1536 .bf16) (harg3 : arg3.IsWhole) (arg5 : Memref sig .tc .vmem S1536x1024 .bf16) (harg5 : arg5.IsWhole) (arg6 : Memref sig .tc .vmem S1024x1536 .f32) (harg6 : arg6.IsWhole) (hc0 : cond0_0 i) (hc1 : cond0_1 i) (hc2 : ¬cond0_2 i)
    (x0 : Vec Ideal S1024x2048 .bf16) (x1 : Vec Ideal S2048x1536 .bf16) :
    sout0_A_0 c i arg2 harg2 arg3 harg3 arg5 harg5 arg6 harg6 hc0 hc1 hc2 x0 x1 = k0_pay2 (k0_pay1 (F := Ideal)) x0 x1 := by
  unfold sout0_A_0
  rw [View.read_writes_junk_eq_canon]
  unfold kernelRun0_A
  try unfold kernelRun0_A.sl.r_2
  try unfold kernelRun0_A.sl.r_1
  try unfold kernelRun0_A.sl.r
  dsimp only
  refine (View.canon_cons_unit_zero z2 _ _ _).trans ?_
  unfold kernelRun0_A.sl.v26 kernelRun0_A.sl.HS0_1
  simp only [ld_read, View.readCov_cons_toLoadRect, ldw]

/-- The accumulator after a middle point. -/
theorem s_B (c : Dev nD) (i : grid0.Coords) (arg2 : Memref sig .tc .vmem S1024x2048 .bf16) (harg2 : arg2.IsWhole) (arg3 : Memref sig .tc .vmem S2048x1536 .bf16) (harg3 : arg3.IsWhole) (arg5 : Memref sig .tc .vmem S1536x1024 .bf16) (harg5 : arg5.IsWhole) (arg6 : Memref sig .tc .vmem S1024x1536 .f32) (harg6 : arg6.IsWhole) (hc0 : ¬cond0_0 i) (hc1 : cond0_1 i) (hc2 : ¬cond0_2 i)
    (x0 : Vec Ideal S1024x2048 .bf16) (x1 : Vec Ideal S2048x1536 .bf16) (acc : Vec Ideal S1024x1536 .f32) :
    sout0_B_0 c i arg2 harg2 arg3 harg3 arg5 harg5 arg6 harg6 hc0 hc1 hc2 x0 x1 acc = k0_pay2 acc x0 x1 := by
  unfold sout0_B_0
  rw [View.read_writes_junk_eq_canon]
  unfold kernelRun0_B
  try unfold kernelRun0_B.sl.r_2
  try unfold kernelRun0_B.sl.r_1
  try unfold kernelRun0_B.sl.r
  dsimp only
  refine (View.canon_unit_zero z2 _ _).trans ?_
  simp only [ld_read, ldw]

/-- The accumulator after a run's last point. -/
theorem s_C (c : Dev nD) (i : grid0.Coords) (arg2 : Memref sig .tc .vmem S1024x2048 .bf16) (harg2 : arg2.IsWhole) (arg3 : Memref sig .tc .vmem S2048x1536 .bf16) (harg3 : arg3.IsWhole) (arg5 : Memref sig .tc .vmem S1536x1024 .bf16) (harg5 : arg5.IsWhole) (arg6 : Memref sig .tc .vmem S1024x1536 .f32) (harg6 : arg6.IsWhole) (hc0 : ¬cond0_0 i) (hc1 : cond0_1 i) (hc2 : cond0_2 i)
    (x0 : Vec Ideal S1024x2048 .bf16) (x1 : Vec Ideal S2048x1536 .bf16) (acc : Vec Ideal S1024x1536 .f32) :
    sout0_C_0 c i arg2 harg2 arg3 harg3 arg5 harg5 arg6 harg6 hc0 hc1 hc2 x0 x1 acc = k0_pay2 acc x0 x1 := by
  unfold sout0_C_0
  rw [View.read_writes_junk_eq_canon]
  unfold kernelRun0_C
  try unfold kernelRun0_C.sl.r_2
  try unfold kernelRun0_C.sl.r_1
  try unfold kernelRun0_C.sl.r
  dsimp only
  refine (View.canon_unit_zero z2 _ _).trans ?_
  simp only [ld_read, ldw]

/-- The output's block at a run's last point. -/
theorem o_C (c : Dev nD) (i : grid0.Coords) (arg2 : Memref sig .tc .vmem S1024x2048 .bf16) (harg2 : arg2.IsWhole) (arg3 : Memref sig .tc .vmem S2048x1536 .bf16) (harg3 : arg3.IsWhole) (arg5 : Memref sig .tc .vmem S1536x1024 .bf16) (harg5 : arg5.IsWhole) (arg6 : Memref sig .tc .vmem S1024x1536 .f32) (harg6 : arg6.IsWhole) (hc0 : ¬cond0_0 i) (hc1 : cond0_1 i) (hc2 : cond0_2 i)
    (x0 : Vec Ideal S1024x2048 .bf16) (x1 : Vec Ideal S2048x1536 .bf16) (acc : Vec Ideal S1024x1536 .f32) :
    out0_C_2 c i arg2 harg2 arg3 harg3 arg5 harg5 arg6 harg6 hc0 hc1 hc2 x0 x1 acc = k0_pay3 (k0_pay2 acc x0 x1) := by
  unfold out0_C_2
  rw [View.read_writes_junk_eq_canon]
  unfold kernelRun0_C
  try unfold kernelRun0_C.sl.r_2
  try unfold kernelRun0_C.sl.r_1
  try unfold kernelRun0_C.sl.r
  dsimp only
  refine (View.canon_unit_zero z2 _ _).trans ?_
  unfold kernelRun0_C.sl.v26 kernelRun0_C.sl.HS0_1
  simp only [ld_read, View.readCov_cons_toLoadRect, ldw]

/-- One step of the accumulation, at one index. -/
theorem acc_apply (acc : Vec Ideal S1024x1536 .f32) (l : Vec Ideal S1024x2048 .bf16) (r : Vec Ideal S2048x1536 .bf16) (d : Fin 1024) (b : Fin 1536) :
    k0_pay2 (F := Ideal) acc l r (ix2 d b) = acc (ix2 d b) + ∑ q : Fin 2048, l (ix2 d q) * r (ix2 q b) := by
  unfold k0_pay2
  try dsimp only
  try rw [shapeCast_self]
  refine congrArg₂ (· + ·) rfl ((Ideal.matmul_plain_apply none l r (constant S1024x1536 .f32 0x00000000#32) d b).trans ?_)
  rw [constant_apply, Ideal.ofBits_zero_f32, zero_add]

/-- The accumulator's start. -/
theorem zero_apply (d : Fin 1024) (b : Fin 1536) : k0_pay1 (F := Ideal) (ix2 d b) = 0 := by
  unfold k0_pay1
  try dsimp only
  try rw [shapeCast_self]
  exact lit_0

/-- The output's block is the accumulator transposed. -/
theorem out_apply (acc : Vec Ideal S1024x1536 .f32) (b : Fin 1536) (d : Fin 1024) : k0_pay3 (F := Ideal) acc (ix2 b d) = acc (ix2 d b) := by
  unfold k0_pay3
  exact transpose_apply [1, 0] acc transposes_S1024x1536_p1_0_S1536x1024 (ix2 b d) (ix2 d b) (fun b => by
    match b with
    | ⟨0, _⟩ => rfl
    | ⟨1, _⟩ => rfl)

end Cert.Kernel4Ideal.Hand

end
-- ==== Proof.RefW.lean ====
module

public import proofs.«01_k».proof.Proof.Norm
public import proofs.«01_k».proof.Proof.Gen.Reference4Ideal.Read
public import Idealize.ShloMosaic.Lib.ValueLayout
public import Idealize.ShloMosaic.Lib.Pipeline.ValueKit

@[expose] public section

/-! The reference of the merge gates' rows of the input weight's gradient, at one index. -/

open Idealize.ShloMosaic hiding ix2
open Idealize.ShloMosaic.ValueIdx Idealize.ShloMosaic.TcCoe Idealize.SL.Sem Cert.Spec

set_option maxRecDepth 8192
set_option maxHeartbeats 2000000

noncomputable section

namespace Cert.Reference4Ideal.Hand

open Cert.Reference4Ideal Cert.Reference4Ideal.Read

variable (x0 : (⟨S1024x8192, .bf16⟩ : BufTy).Contents (Elt Ideal)) (x1 : (⟨S8192x3072, .bf16⟩ : BufTy).Contents (Elt Ideal))
  (x2 : (⟨S7680x1024, .bf16⟩ : BufTy).Contents (Elt Ideal))

/-- A row before the gates' rows is the buffer's. -/
theorem r_keep (r : Fin 4608) (d : Fin 1024) : val_main_v10 (F := Ideal) x0 x1 x2 (ix2 ⟨r.val, by omega⟩ d) = x2 (ix2 ⟨r.val, by omega⟩ d) := by
  unfold val_main_v10
  refine (concatenate_apply_piece (t := S7680x1024) 0 _ _ (ix2 ⟨r.val, by omega⟩ d) 0 ?_ S4608x1024 (val_main_v7 (F := Ideal) x2) ?_ rfl 0 ?_ (ix2 r d) (fun b hb => ?_) ?_).trans ?_
  · show 0 < 2; decide
  · rfl
  · rfl
  · match b, hb with
    | ⟨0, _⟩, hb => exact absurd rfl hb
    | ⟨1, _⟩, _ => rfl
  · show 0 + r.val = r.val; omega
  · rw [val_main_v7_apply]
    exact congrArg x2 (idx2 rfl rfl)

/-- A row of the gates is the sum over the tokens. -/
theorem r_new (r : Fin 3072) (d : Fin 1024) : val_main_v10 (F := Ideal) x0 x1 x2 (ix2 ⟨4608 + r.val, by omega⟩ d) = ∑ t, x0 (ix2 d t) * x1 (ix2 t r) := by
  unfold val_main_v10
  refine (concatenate_apply_piece (t := S7680x1024) 0 _ _ (ix2 ⟨4608 + r.val, by omega⟩ d) 1 ?_ S3072x1024 (val_main_v9 (F := Ideal) x0 x1) ?_ rfl 4608 ?_ (ix2 r d) (fun b hb => ?_) ?_).trans ?_
  · show 1 < 2; decide
  · rfl
  · rfl
  · match b, hb with
    | ⟨0, _⟩, hb => exact absurd rfl hb
    | ⟨1, _⟩, _ => rfl
  · rfl
  · rw [val_main_v9_apply]
    refine (val_main_v8_apply x0 x1 (ix2 r d)).trans ?_
    rw [val_main_v6_apply]
    refine (val_main_v5_apply x0 x1 _).trans (Finset.sum_congr rfl fun t _ => ?_)
    refine Eq.trans (congrArg₂ (· * ·) (?_ : _ = x1 (ix2 t r)) (?_ : _ = x0 (ix2 d t))) (mul_comm _ _)
    · exact congrArg x1 (idx2 rfl rfl)
    · rw [val_main_v2_apply]
      exact congrArg x0 (idx2 rfl rfl)

end Cert.Reference4Ideal.Hand

end
-- ==== Proof.ArrW.lean ====
module

public import proofs.«01_k».proof.Proof.WBlk
public import proofs.«01_k».proof.Proof.RefW
public import Idealize.ShloMosaic.Lib.Pipeline.ValueKit.Partial

@[expose] public section

/-! What the weight gradient's kernel leaves in its array (merge gates' rows written, the others kept): the reference's value at the
    kernel's arguments. -/

open Idealize.ShloMosaic hiding ix2
open Idealize.ShloMosaic.ValueIdx Idealize.ShloMosaic.TcCoe Idealize.SL.Sem Cert.Spec

set_option maxRecDepth 65536
set_option maxHeartbeats 2000000

noncomputable section

namespace Cert.Kernel4Ideal.Hand

open Cert.Kernel4Ideal Cert.Kernel4Ideal.Gen Cert.Kernel4Ideal.Value

variable (m : (ℓ : Loc nD τ sig) → Buf (Elt Ideal) ℓ) (c : Dev nD)

/-- The blocks that a point reads and writes. -/
theorem e0 : ∀ t : Fin cfg0.N, win0_0.index t = ![0, t.val % 4] := (by decide +kernel : ∀ t : Fin grid0.N, _)
theorem e1 : ∀ t : Fin cfg0.N, win0_1.index t = ![t.val % 4, t.val / 4] := (by decide +kernel : ∀ t : Fin grid0.N, _)
theorem e2 : ∀ t : Fin cfg0.N, win0_2.index t = ![3 + t.val / 4, 0] := (by decide +kernel : ∀ t : Fin grid0.N, _)

/-- The output's block is written back at the last point of a run. -/
theorem last : ∀ t : Fin cfg0.N, win0_2.flush t = true → t.val % 4 = 3 := (by decide +kernel : ∀ t : Fin grid0.N, _)

/-- The arguments and the blocks. -/
def a0 : (⟨S1024x8192, .bf16⟩ : BufTy).Contents (Elt Ideal) := m ((c : Thread nD τ).loc main_arg0)
def a1 : (⟨S8192x3072, .bf16⟩ : BufTy).Contents (Elt Ideal) := m ((c : Thread nD τ).loc main_arg1)
def a2 : (⟨S7680x1024, .bf16⟩ : BufTy).Contents (Elt Ideal) := m ((c : Thread nD τ).loc main_arg2)
def y0 (t : Fin cfg0.N) : Vec Ideal S1024x2048 .bf16 := iblk m c 0 t
def y1 (t : Fin cfg0.N) : Vec Ideal S2048x1536 .bf16 := iblk m c 1 t

/-- The tokens of block `s`. -/
def tokN (s : ℕ) (q : Fin 2048) : Fin 8192 := if h : s < 4 then ⟨s * 2048 + q.val, by omega⟩ else 0

/-- The gates of block `j`. -/
def colN (j : ℕ) (b : Fin 1536) : Fin 3072 := if h : j < 2 then ⟨j * 1536 + b.val, by omega⟩ else 0

/-- The number of a token. -/
theorem tokN_val (n : ℕ) (q : Fin 2048) : (tokN (n % 4) q).val = n % 4 * 2048 + q.val := by
  rw [tokN, dif_pos (by omega)]

/-- The number of a gate. -/
theorem colN_val (n : ℕ) (h : n < 8) (b : Fin 1536) : (colN (n / 4) b).val = n / 4 * 1536 + b.val := by
  rw [colN, dif_pos (by omega)]

/-- A block of the activations, at the point's tokens. -/
theorem b0 (t : Fin cfg0.N) (d : Fin 1024) (q : Fin 2048) : y0 m c t (ix2 d q) = a0 m c (ix2 d (tokN (t.val % 4) q)) := by
  unfold y0 a0
  blk_simp [iblk]
  rw [V_main_arg0]
  refine congrArg _ ?_
  blk_ext [e0, tokN_val]

/-- A block of the incoming gradient, at the point's tokens and gates. -/
theorem b1 (t : Fin cfg0.N) (q : Fin 2048) (b : Fin 1536) : y1 m c t (ix2 q b) = a1 m c (ix2 (tokN (t.val % 4) q) (colN (t.val / 4) b)) := by
  have hN := lt_of_lt_of_eq t.isLt N_0
  unfold y1 a1
  blk_simp [iblk]
  rw [V_main_arg1]
  refine congrArg _ ?_
  blk_ext [e1, tokN_val, colN_val t.val hN]

/-- What block `s` of the tokens adds to one entry. -/
def share (d : Fin 1024) (j : ℕ) (b : Fin 1536) (s : ℕ) : EReal := ∑ q : Fin 2048, a0 m c (ix2 d (tokN s q)) * a1 m c (ix2 (tokN s q) (colN j b))

/-- One point's product. -/
theorem share_blk (t : Fin cfg0.N) (acc : Vec Ideal S1024x1536 .f32) (d : Fin 1024) (b : Fin 1536) :
    k0_pay2 (F := Ideal) acc (y0 m c t) (y1 m c t) (ix2 d b) = acc (ix2 d b) + share m c d (t.val / 4) b (t.val % 4) :=
  (acc_apply acc (y0 m c t) (y1 m c t) d b).trans (congrArg (acc (ix2 d b) + ·) (Finset.sum_congr rfl fun q _ => by rw [b0, b1]))

/-- The accumulator at a run's first point. -/
theorem outs_A (t : Fin cfg0.N) (h0 : t.val % 4 = 0) : (outsAt0 m c t.val t.isLt).2 = k0_pay2 (k0_pay1 (F := Ideal)) (y0 m c t) (y1 m c t) := by
  rw [outsAt0_A m c t h0 (by omega)]
  dsimp only
  exact s_A c (grid0.coords t) _ _ _ _ _ _ _ _ _ _ _ (y0 m c t) (y1 m c t)

/-- The accumulator at a later point, from the point before. -/
theorem outs_BC (t : Fin cfg0.N) (h0 : ¬t.val % 4 = 0) (h : t.val - 1 < cfg0.N) :
    (outsAt0 m c t.val t.isLt).2 = k0_pay2 (outsAt0 m c (t.val - 1) h).2 (y0 m c t) (y1 m c t) := by
  by_cases h2 : t.val % 4 = 3
  · rw [outsAt0_C m c t h0 h2]
    dsimp only
    exact s_C c (grid0.coords t) _ _ _ _ _ _ _ _ _ _ _ (y0 m c t) (y1 m c t) _
  · rw [outsAt0_B m c t h0 h2]
    dsimp only
    exact s_B c (grid0.coords t) _ _ _ _ _ _ _ _ _ _ _ (y0 m c t) (y1 m c t) _

/-- The output's block at a run's last point is the accumulator transposed. -/
theorem outs_o (t : Fin cfg0.N) (h2 : t.val % 4 = 3) : (outsAt0 m c t.val t.isLt).1 = k0_pay3 (outsAt0 m c t.val t.isLt).2 := by
  have h0 : ¬t.val % 4 = 0 := by omega
  rw [outs_BC m c t h0 (by have := t.isLt; omega), outsAt0_C m c t h0 h2]
  dsimp only
  exact o_C c (grid0.coords t) _ _ _ _ _ _ _ _ _ _ _ (y0 m c t) (y1 m c t) _

/-- The accumulator after point `n`: the sum over the blocks of tokens up to it. -/
theorem acc_sum (d : Fin 1024) (b : Fin 1536) : ∀ (n : ℕ) (h : n < cfg0.N),
    (outsAt0 m c n h).2 (ix2 d b) = ∑ s ∈ Finset.range (n % 4 + 1), share m c d (n / 4) b s := by
  intro n
  induction n with
  | zero =>
    intro h
    refine (congrFun (outs_A m c ⟨0, h⟩ rfl) (ix2 d b)).trans ((share_blk m c ⟨0, h⟩ _ d b).trans ?_)
    rw [zero_apply, zero_add]
    exact (Finset.sum_range_one _).symm
  | succ n ih =>
    intro h
    by_cases h0 : (n + 1) % 4 = 0
    · refine (congrFun (outs_A m c ⟨n + 1, h⟩ h0) (ix2 d b)).trans ((share_blk m c ⟨n + 1, h⟩ _ d b).trans ?_)
      dsimp only
      rw [zero_apply, zero_add, h0]
      exact (Finset.sum_range_one _).symm
    · refine (congrFun (outs_BC m c ⟨n + 1, h⟩ h0 (by show n + 1 - 1 < cfg0.N; omega)) (ix2 d b)).trans ((share_blk m c ⟨n + 1, h⟩ _ d b).trans ?_)
      rw [Finset.sum_range_succ]
      refine congrArg₂ (· + ·) ((ih (by omega)).trans ?_) rfl
      rw [show n % 4 + 1 = (n + 1) % 4 by omega, show n / 4 = (n + 1) / 4 by omega]

/-- The sum over the blocks is the sum over the tokens. -/
theorem sum_tok (g : Fin 8192 → EReal) : ∑ s ∈ Finset.range 4, ∑ q, g (tokN s q) = ∑ t, g t := by
  rw [Finset.sum_range, ← Fintype.sum_prod_type' (fun (t : Fin 4) (q : Fin 2048) => g (tokN t.val q))]
  refine Fintype.sum_equiv (finProdFinEquiv (m := 4) (n := 2048)) _ _ fun p => congrArg g (Fin.ext ?_)
  rw [tokN, dif_pos p.1.isLt]
  show p.1.val * 2048 + p.2.val = p.2.val + 2048 * p.1.val
  omega

/-- The array's contents at the start: the buffer. -/
theorem V_out : (V m c main_v0 : S7680x1024.Idx → EReal) = m ((c : Thread nD τ).loc main_arg2) := by
  sl_kernel_rfl

/-- The weight gradient's array. -/
theorem arr_w : (dats m 0 c).arrAt 2 cfg0.N = Cert.Reference4Ideal.Read.val_main_v10 (F := Ideal) (a0 m c) (a1 m c) (a2 m c) := by
  refine (dats m 0 c).arrAt_eq_of_coversWhere_of_agree 2 _ (fun β => 3 ≤ β (0 : Fin 2)) (by decide +kernel) (fun t hf y => ?_) (fun j hj => ?_)
  · have h3 := last t hf
    have hN := lt_of_lt_of_eq t.isLt N_0
    blk_simp
    rw [after0_2, outs_o m c t h3]
    obtain ⟨b, d, rfl⟩ : ∃ (b : Fin 1536) (d : Fin 1024), y = ix2 b d := ⟨y 0, y 1, ValueIdx.eq_ix2 y⟩
    refine (out_apply _ b d).trans ((acc_sum m c d b t.val t.isLt).trans ?_)
    rw [h3]
    refine (sum_tok (fun k => a0 m c (ix2 d k) * a1 m c (ix2 k (colN (t.val / 4) b)))).trans ?_
    refine (Cert.Reference4Ideal.Hand.r_new (a0 m c) (a1 m c) (a2 m c) (colN (t.val / 4) b) d).symm.trans (congrArg _ ?_)
    blk_ext [e2, colN_val t.val hN]
    show 4608 + (t.val / 4 * 1536 + b.val) = (3 + t.val / 4) * 1536 + b.val
    omega
  · obtain ⟨r, d, rfl⟩ : ∃ (r : Fin 7680) (d : Fin 1024), j = ix2 r d := ⟨j 0, j 1, ValueIdx.eq_ix2 j⟩
    have hr : r.val < 4608 := by
      rw [Pipeline.Window.cell_apply] at hj
      have h : ¬3 ≤ r.val / 1536 := hj
      omega
    rw [A_eq]
    refine (congrFun (V_out m c) (ix2 r d)).trans ?_
    exact (Cert.Reference4Ideal.Hand.r_keep (a0 m c) (a1 m c) (a2 m c) ⟨r.val, hr⟩ d).symm

end Cert.Kernel4Ideal.Hand

end
-- ==== Proof.MoreW.lean ====
module

public import proofs.«01_k».proof.Defs
public import proofs.«01_k».proof.Proof.More
public import proofs.«01_k».proof.Proof.ArrW
public import proofs.«01_k».proof.Proof.Gen.Kernel4
public import proofs.«01_k».proof.Proof.Gen.Kernel4Ideal.Frame
public import proofs.«01_k».proof.Proof.Gen.Reference4Ideal.Run

@[expose] public section

/-! The claims of the input weight's gradient (merge gates' rows): the frames and the equation. The kernel and its idealization are the
    same program (nothing was rewritten), so one run serves both frames. -/

open Idealize.ShloMosaic Idealize.SL.Sem

set_option maxRecDepth 65536
set_option maxHeartbeats 2000000

noncomputable section

namespace Cert.Proof

/-- The kernel's frame, written out. -/
def Kernel4Frame : Prop := ∀ (m : (ℓ : Loc Cert.Kernel4.nD Cert.Kernel4.τ Cert.Kernel4.sig) → Buf (Elt Bits) ℓ) (g : Dev Cert.Kernel4.nD → PrngReg),
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

/-- The idealized kernel's frame at the machine's floats, written out. -/
def Kernel4IdealFrame : Prop := ∀ (m : (ℓ : Loc Cert.Kernel4Ideal.nD Cert.Kernel4Ideal.τ Cert.Kernel4Ideal.sig) → Buf (Elt Bits) ℓ) (g : Dev Cert.Kernel4Ideal.nD → PrngReg),
    θ_run (Cert.Kernel4Ideal.defs (F := Bits)) (onTc (τ := Cert.Kernel4Ideal.τ) (Cert.Kernel4Ideal.main (F := Bits))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

/-- The two programs being one text, the two statements are one. -/
theorem kernel4Frame_eq : Kernel4Frame = Kernel4IdealFrame := by sl_kernel_rfl

/-- The kernel's frame. -/
theorem frame_kernel4 : @Cert.quiescent_Kernel4 Cert.Kernel4.Gen.facts := fun m ρ _ => by
  have h : Kernel4IdealFrame := fun m ρ => Cert.Kernel4Ideal.Gen.frame m ρ
  rw [← kernel4Frame_eq] at h
  exact h m ρ

/-- The idealized kernel's frame. -/
theorem frame_kernel4Ideal : @Cert.quiescent_Kernel4Ideal Cert.Kernel4Ideal.Gen.facts :=
  fun m ρ _ => Cert.Kernel4Ideal.Gen.frame m ρ

/-- The reference's frame: it has no semaphores, and its run keeps its arguments. -/
theorem frame_reference4 : @Cert.quiescent_Reference4Ideal Cert.Reference4Ideal.Gen.facts := fun m ρ _ =>
  (θ_run Cert.Reference4Ideal.defs _ _).mono
    (fun r h => ⟨fun c => (h c).2, sem_eq_zero_of_no_sems (by decide) r.2⟩)
    (Cert.Reference4Ideal.Value.run (F := Ideal) m ρ)

section
open Cert.Kernel4Ideal Cert.Kernel4Ideal.Gen Cert.Kernel4Ideal.Hand

/-- The weight gradient's run: its result is the reference's value at its arguments, and its arguments are unchanged. -/
theorem kernel4_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = Cert.Reference4Ideal.Read.val_main_v10 (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (arr_w m c), (h c).2⟩)
    (Cert.Kernel4Ideal.Value.run_blocks m ρ)

end

/-- The weight gradient's result is the reference's, for all arguments. -/
theorem algebraic4 : @Cert.algebraic_Kernel4Ideal_Reference4Ideal Cert.Kernel4Ideal.Gen.facts Cert.Reference4Ideal.Gen.facts := by
  intro m g m' g' _ hagree
  refine ⟨fun c => Cert.Reference4Ideal.Read.val_main_v10 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))
    (m ((c.tc : Thread Cert.Kernel4Ideal.nD Cert.Kernel4Ideal.τ).loc Cert.Kernel4Ideal.main_arg2)), kernel4_run m g, ?_⟩
  refine (θ_run Cert.Reference4Ideal.defs _ _).mono (fun r h c => ?_) (Cert.Reference4Ideal.Value.run (F := Ideal) m' g')
  obtain ⟨a0, a1, a2⟩ := hagree c
  obtain ⟨r0, hargs⟩ := h c
  exact ⟨r0.trans ((Cert.Reference4Ideal.Read.val_main_v10_eq _ _ _).trans (cong3 (Cert.Reference4Ideal.Read.val_main_v10 (F := Ideal)) a0 a1 a2)), hargs⟩

end Cert.Proof

end
-- ==== Proof.ABlk.lean ====
module

public import proofs.«01_k».proof.Proof.Norm
public import proofs.«01_k».proof.Proof.WBlk
public import proofs.«01_k».proof.Proof.Gen.Kernel5Ideal.Value

@[expose] public section

/-! One grid point of the weight gradient's kernel (attention's rows), whichever of the four parts it reads: what its writes leave in the
    accumulator and in the output's block. -/

open Idealize.ShloMosaic hiding ix2
open Idealize.ShloMosaic.ValueIdx Idealize.ShloMosaic.TcCoe Idealize.SL.Sem Cert.Spec

set_option maxRecDepth 65536
set_option maxHeartbeats 2000000

noncomputable section

namespace Cert.Kernel5Ideal.Hand

open Cert.Kernel5Ideal Cert.Kernel5Ideal.Gen
open Cert.Kernel4Ideal.Hand (ld_read z2 ldw)

variable (pay : Vec Ideal S1024x512 .f32 → Vec Ideal S1024x2048 .bf16 → Vec Ideal S2048x512 .bf16 → Vec Ideal S1024x512 .f32)
  (arg2 : Memref sig .tc .vmem S1024x2048 .bf16) (h2 : arg2.IsWhole) (arg3 : Memref sig .tc .vmem S2048x512 .bf16) (h3 : arg3.IsWhole)
  (arg9 : Memref sig .tc .vmem S1024x512 .f32) (h9 : arg9.IsWhole)
  (x0 : Vec Ideal S1024x2048 .bf16) (x : Vec Ideal S2048x512 .bf16) (acc : Vec Ideal S1024x512 .f32)

/-- A step from the accumulator `a`, the two operands read from their windows. -/
def stepW (a : Vec Ideal S1024x512 .f32) : Vec Ideal S1024x512 .f32 :=
  pay a (View.readAt (Elt Ideal) arg2.view (Rect.unit (s := S1024x2048) ![0, 0] S1024x2048.size inb_S1024x2048_S1024x2048_0_0).toLoadRect (h2.unread x0))
    (View.readAt (Elt Ideal) arg3.view (Rect.unit (s := S2048x512) ![0, 0] S2048x512.size inb_S2048x512_S2048x512_0_0).toLoadRect (h3.unread x))

/-- A step reads its two operands whole. -/
theorem stepW_eq (a : Vec Ideal S1024x512 .f32) : stepW pay arg2 h2 arg3 h3 x0 x a = pay a x0 x := by
  unfold stepW
  refine congrArg₂ (pay a) ?_ ?_
  · exact (ld_read h2 x0 _).trans (ldw x0 _)
  · exact (ld_read h3 x _).trans (ldw x _)

/-- The accumulator as one whole block. -/
def whole (v : Vec Ideal S1024x512 .f32) : View.Piece (Elt Ideal) S1024x512 .f32 := ⟨Rect.unit (s := S1024x512) ![0, 0] S1024x512.size inb_S1024x512_S1024x512_0_0, v⟩

/-- The writes of a run's first point: the zero, then the zero read back and one step. -/
def firstL : List (View.Piece (Elt Ideal) S1024x512 .f32) :=
  [whole (stepW pay arg2 h2 arg3 h3 x0 x (arg9.view.readCov [whole (k0_pay3 (F := Ideal))] (Rect.unit (s := S1024x512) ![0, 0] S1024x512.size inb_S1024x512_S1024x512_0_0).toLoadRect)),
    whole (k0_pay3 (F := Ideal))]

/-- The writes of a later point: one step. -/
def nextL : List (View.Piece (Elt Ideal) S1024x512 .f32) :=
  [whole (stepW pay arg2 h2 arg3 h3 x0 x (View.readAt (Elt Ideal) arg9.view (Rect.unit (s := S1024x512) ![0, 0] S1024x512.size inb_S1024x512_S1024x512_0_0).toLoadRect (h9.unread acc)))]

/-- The output's write at a run's last point: the accumulator read back and transposed. -/
def outL : List (View.Piece (Elt Ideal) S512x1024 .bf16) :=
  [⟨Rect.unit (s := S512x1024) ![0, 0] S512x1024.size inb_S512x1024_S512x1024_0_0,
    k0_pay2 (F := Ideal) (arg9.view.readCov (nextL pay arg2 h2 arg3 h3 arg9 h9 x0 x acc) (Rect.unit (s := S1024x512) ![0, 0] S1024x512.size inb_S1024x512_S1024x512_0_0).toLoadRect)⟩]

/-- What the writes of a first point leave in the accumulator. -/
theorem first_read : VS0_0.read (Elt Ideal) (VS0_0.writes (Elt Ideal) VS0_0.junk (firstL pay arg2 h2 arg3 h3 arg9 x0 x)) = pay (k0_pay3 (F := Ideal)) x0 x := by
  rw [View.read_writes_junk_eq_canon]
  unfold firstL
  refine (View.canon_cons_unit_zero z2 _ _ _).trans ((stepW_eq pay arg2 h2 arg3 h3 x0 x _).trans ?_)
  exact congrArg (fun a => pay a x0 x) (View.readCov_cons_toLoadRect _ _ _ _)

/-- What the write of a later point leaves in the accumulator. -/
theorem next_read : VS0_0.read (Elt Ideal) (VS0_0.writes (Elt Ideal) VS0_0.junk (nextL pay arg2 h2 arg3 h3 arg9 h9 x0 x acc)) = pay acc x0 x := by
  rw [View.read_writes_junk_eq_canon]
  unfold nextL
  refine (View.canon_unit_zero z2 _ _).trans ((stepW_eq pay arg2 h2 arg3 h3 x0 x _).trans ?_)
  exact congrArg (fun a => pay a x0 x) ((ld_read h9 acc _).trans (ldw acc _))

/-- What the write of a last point leaves in the output's block. -/
theorem out_read : VO0_5.read (Elt Ideal) (VO0_5.writes (Elt Ideal) VO0_5.junk (outL pay arg2 h2 arg3 h3 arg9 h9 x0 x acc)) = k0_pay2 (F := Ideal) (pay acc x0 x) := by
  rw [View.read_writes_junk_eq_canon]
  unfold outL
  refine (View.canon_unit_zero z2 _ _).trans (congrArg (k0_pay2 (F := Ideal)) ?_)
  unfold nextL
  refine (View.readCov_cons_toLoadRect _ _ _ _).trans ((stepW_eq pay arg2 h2 arg3 h3 x0 x _).trans ?_)
  exact congrArg (fun a => pay a x0 x) ((ld_read h9 acc _).trans (ldw acc _))

/-- One step of the accumulation, at one index. -/
theorem acc_apply (d : Fin 1024) (b : Fin 512) :
    k0_pay1 (F := Ideal) acc x0 x (ix2 d b) = acc (ix2 d b) + ∑ q : Fin 2048, x0 (ix2 d q) * x (ix2 q b) := by
  unfold k0_pay1
  try dsimp only
  try rw [shapeCast_self]
  refine congrArg₂ (· + ·) rfl ((Ideal.matmul_plain_apply none x0 x (constant S1024x512 .f32 0x00000000#32) d b).trans ?_)
  rw [constant_apply, Ideal.ofBits_zero_f32, zero_add]

/-- The accumulator's start. -/
theorem zero_apply (d : Fin 1024) (b : Fin 512) : k0_pay3 (F := Ideal) (ix2 d b) = 0 := by
  unfold k0_pay3
  try dsimp only
  try rw [shapeCast_self]
  exact lit_0

/-- The output's block is the accumulator transposed. -/
theorem out_apply (b : Fin 512) (d : Fin 1024) : k0_pay2 (F := Ideal) acc (ix2 b d) = acc (ix2 d b) := by
  unfold k0_pay2
  exact transpose_apply [1, 0] acc transposes_S1024x512_p1_0_S512x1024 (ix2 b d) (ix2 d b) (fun b => by
    match b with
    | ⟨0, _⟩ => rfl
    | ⟨1, _⟩ => rfl)

/-! The twelve cases: a run's first, middle and last point, in each of the four parts. -/

section

variable (c : Dev nD) (i : grid0.Coords) (arg4 : Memref sig .tc .vmem S2048x512 .bf16) (h4 : arg4.IsWhole) (arg5 : Memref sig .tc .vmem S2048x512 .bf16) (h5 : arg5.IsWhole)
  (arg6 : Memref sig .tc .vmem S2048x512 .bf16) (h6 : arg6.IsWhole) (arg8 : Memref sig .tc .vmem S512x1024 .bf16) (h8 : arg8.IsWhole)
  (x1 x2 x3 x4 : Vec Ideal S2048x512 .bf16)

/-- Part 0, first point: the accumulator. -/
theorem s_A (hc0 : cond0_0 i) (hc1 : cond0_1 i) (hc2 : ¬cond0_2 i) (hc3 : ¬cond0_3 i) (hc4 : ¬cond0_4 i) (hc5 : ¬cond0_5 i) :
    sout0_A_0 c i arg2 h2 arg3 h3 arg4 h4 arg5 h5 arg6 h6 arg8 h8 arg9 h9 hc0 hc1 hc2 hc3 hc4 hc5 x0 x1 x2 x3 x4 = k0_pay4 (k0_pay3 (F := Ideal)) x0 x1 := by
  unfold sout0_A_0 kernelRun0_A
  try unfold kernelRun0_A.sl.r_2
  try unfold kernelRun0_A.sl.r_1
  try unfold kernelRun0_A.sl.r
  try dsimp only
  try unfold kernelRun0_A.sl.v86
  try unfold kernelRun0_A.sl.HS0_1
  exact first_read (k0_pay4 (F := Ideal)) arg2 h2 arg3 h3 arg9 x0 x1

/-- Part 0, middle point: the accumulator. -/
theorem s_B (hc0 : ¬cond0_0 i) (hc1 : cond0_1 i) (hc2 : ¬cond0_2 i) (hc3 : ¬cond0_3 i) (hc4 : ¬cond0_4 i) (hc5 : ¬cond0_5 i) :
    sout0_B_0 c i arg2 h2 arg3 h3 arg4 h4 arg5 h5 arg6 h6 arg8 h8 arg9 h9 hc0 hc1 hc2 hc3 hc4 hc5 x0 x1 x2 x3 x4 acc = k0_pay4 acc x0 x1 := by
  unfold sout0_B_0 kernelRun0_B
  try unfold kernelRun0_B.sl.r_2
  try unfold kernelRun0_B.sl.r_1
  try unfold kernelRun0_B.sl.r
  try dsimp only
  try unfold kernelRun0_B.sl.v86
  try unfold kernelRun0_B.sl.HS0_1
  exact next_read (k0_pay4 (F := Ideal)) arg2 h2 arg3 h3 arg9 h9 x0 x1 acc

/-- Part 0, last point: the accumulator. -/
theorem s_C (hc0 : ¬cond0_0 i) (hc1 : cond0_1 i) (hc2 : ¬cond0_2 i) (hc3 : ¬cond0_3 i) (hc4 : ¬cond0_4 i) (hc5 : cond0_5 i) :
    sout0_C_0 c i arg2 h2 arg3 h3 arg4 h4 arg5 h5 arg6 h6 arg8 h8 arg9 h9 hc0 hc1 hc2 hc3 hc4 hc5 x0 x1 x2 x3 x4 acc = k0_pay4 acc x0 x1 := by
  unfold sout0_C_0 kernelRun0_C
  try unfold kernelRun0_C.sl.r_2
  try unfold kernelRun0_C.sl.r_1
  try unfold kernelRun0_C.sl.r
  try dsimp only
  try unfold kernelRun0_C.sl.v86
  try unfold kernelRun0_C.sl.HS0_1
  exact next_read (k0_pay4 (F := Ideal)) arg2 h2 arg3 h3 arg9 h9 x0 x1 acc

/-- Part 0, last point: the output's block. -/
theorem o_C (hc0 : ¬cond0_0 i) (hc1 : cond0_1 i) (hc2 : ¬cond0_2 i) (hc3 : ¬cond0_3 i) (hc4 : ¬cond0_4 i) (hc5 : cond0_5 i) :
    out0_C_5 c i arg2 h2 arg3 h3 arg4 h4 arg5 h5 arg6 h6 arg8 h8 arg9 h9 hc0 hc1 hc2 hc3 hc4 hc5 x0 x1 x2 x3 x4 acc = k0_pay2 (F := Ideal) (k0_pay4 acc x0 x1) := by
  unfold out0_C_5 kernelRun0_C
  try unfold kernelRun0_C.sl.r_2
  try unfold kernelRun0_C.sl.r_1
  try unfold kernelRun0_C.sl.r
  try dsimp only
  try unfold kernelRun0_C.sl.v86
  try unfold kernelRun0_C.sl.HS0_1
  exact out_read (k0_pay4 (F := Ideal)) arg2 h2 arg3 h3 arg9 h9 x0 x1 acc

/-- Part 1, first point: the accumulator. -/
theorem s_D (hc0 : cond0_0 i) (hc1 : ¬cond0_1 i) (hc2 : cond0_2 i) (hc3 : ¬cond0_3 i) (hc4 : ¬cond0_4 i) (hc5 : ¬cond0_5 i) :
    sout0_D_0 c i arg2 h2 arg3 h3 arg4 h4 arg5 h5 arg6 h6 arg8 h8 arg9 h9 hc0 hc1 hc2 hc3 hc4 hc5 x0 x1 x2 x3 x4 = k0_pay5 (k0_pay3 (F := Ideal)) x0 x2 := by
  unfold sout0_D_0 kernelRun0_D
  try unfold kernelRun0_D.sl.r_2
  try unfold kernelRun0_D.sl.r_1
  try unfold kernelRun0_D.sl.r
  try dsimp only
  try unfold kernelRun0_D.sl.v86
  try unfold kernelRun0_D.sl.HS0_1
  exact first_read (k0_pay5 (F := Ideal)) arg2 h2 arg4 h4 arg9 x0 x2

/-- Part 1, middle point: the accumulator. -/
theorem s_E (hc0 : ¬cond0_0 i) (hc1 : ¬cond0_1 i) (hc2 : cond0_2 i) (hc3 : ¬cond0_3 i) (hc4 : ¬cond0_4 i) (hc5 : ¬cond0_5 i) :
    sout0_E_0 c i arg2 h2 arg3 h3 arg4 h4 arg5 h5 arg6 h6 arg8 h8 arg9 h9 hc0 hc1 hc2 hc3 hc4 hc5 x0 x1 x2 x3 x4 acc = k0_pay5 acc x0 x2 := by
  unfold sout0_E_0 kernelRun0_E
  try unfold kernelRun0_E.sl.r_2
  try unfold kernelRun0_E.sl.r_1
  try unfold kernelRun0_E.sl.r
  try dsimp only
  try unfold kernelRun0_E.sl.v86
  try unfold kernelRun0_E.sl.HS0_1
  exact next_read (k0_pay5 (F := Ideal)) arg2 h2 arg4 h4 arg9 h9 x0 x2 acc

/-- Part 1, last point: the accumulator. -/
theorem s_F (hc0 : ¬cond0_0 i) (hc1 : ¬cond0_1 i) (hc2 : cond0_2 i) (hc3 : ¬cond0_3 i) (hc4 : ¬cond0_4 i) (hc5 : cond0_5 i) :
    sout0_F_0 c i arg2 h2 arg3 h3 arg4 h4 arg5 h5 arg6 h6 arg8 h8 arg9 h9 hc0 hc1 hc2 hc3 hc4 hc5 x0 x1 x2 x3 x4 acc = k0_pay5 acc x0 x2 := by
  unfold sout0_F_0 kernelRun0_F
  try unfold kernelRun0_F.sl.r_2
  try unfold kernelRun0_F.sl.r_1
  try unfold kernelRun0_F.sl.r
  try dsimp only
  try unfold kernelRun0_F.sl.v86
  try unfold kernelRun0_F.sl.HS0_1
  exact next_read (k0_pay5 (F := Ideal)) arg2 h2 arg4 h4 arg9 h9 x0 x2 acc

/-- Part 1, last point: the output's block. -/
theorem o_F (hc0 : ¬cond0_0 i) (hc1 : ¬cond0_1 i) (hc2 : cond0_2 i) (hc3 : ¬cond0_3 i) (hc4 : ¬cond0_4 i) (hc5 : cond0_5 i) :
    out0_F_5 c i arg2 h2 arg3 h3 arg4 h4 arg5 h5 arg6 h6 arg8 h8 arg9 h9 hc0 hc1 hc2 hc3 hc4 hc5 x0 x1 x2 x3 x4 acc = k0_pay2 (F := Ideal) (k0_pay5 acc x0 x2) := by
  unfold out0_F_5 kernelRun0_F
  try unfold kernelRun0_F.sl.r_2
  try unfold kernelRun0_F.sl.r_1
  try unfold kernelRun0_F.sl.r
  try dsimp only
  try unfold kernelRun0_F.sl.v86
  try unfold kernelRun0_F.sl.HS0_1
  exact out_read (k0_pay5 (F := Ideal)) arg2 h2 arg4 h4 arg9 h9 x0 x2 acc

/-- Part 2, first point: the accumulator. -/
theorem s_G (hc0 : cond0_0 i) (hc1 : ¬cond0_1 i) (hc2 : ¬cond0_2 i) (hc3 : cond0_3 i) (hc4 : ¬cond0_4 i) (hc5 : ¬cond0_5 i) :
    sout0_G_0 c i arg2 h2 arg3 h3 arg4 h4 arg5 h5 arg6 h6 arg8 h8 arg9 h9 hc0 hc1 hc2 hc3 hc4 hc5 x0 x1 x2 x3 x4 = k0_pay6 (k0_pay3 (F := Ideal)) x0 x3 := by
  unfold sout0_G_0 kernelRun0_G
  try unfold kernelRun0_G.sl.r_2
  try unfold kernelRun0_G.sl.r_1
  try unfold kernelRun0_G.sl.r
  try dsimp only
  try unfold kernelRun0_G.sl.v86
  try unfold kernelRun0_G.sl.HS0_1
  exact first_read (k0_pay6 (F := Ideal)) arg2 h2 arg5 h5 arg9 x0 x3

/-- Part 2, middle point: the accumulator. -/
theorem s_H (hc0 : ¬cond0_0 i) (hc1 : ¬cond0_1 i) (hc2 : ¬cond0_2 i) (hc3 : cond0_3 i) (hc4 : ¬cond0_4 i) (hc5 : ¬cond0_5 i) :
    sout0_H_0 c i arg2 h2 arg3 h3 arg4 h4 arg5 h5 arg6 h6 arg8 h8 arg9 h9 hc0 hc1 hc2 hc3 hc4 hc5 x0 x1 x2 x3 x4 acc = k0_pay6 acc x0 x3 := by
  unfold sout0_H_0 kernelRun0_H
  try unfold kernelRun0_H.sl.r_2
  try unfold kernelRun0_H.sl.r_1
  try unfold kernelRun0_H.sl.r
  try dsimp only
  try unfold kernelRun0_H.sl.v86
  try unfold kernelRun0_H.sl.HS0_1
  exact next_read (k0_pay6 (F := Ideal)) arg2 h2 arg5 h5 arg9 h9 x0 x3 acc

/-- Part 2, last point: the accumulator. -/
theorem s_I (hc0 : ¬cond0_0 i) (hc1 : ¬cond0_1 i) (hc2 : ¬cond0_2 i) (hc3 : cond0_3 i) (hc4 : ¬cond0_4 i) (hc5 : cond0_5 i) :
    sout0_I_0 c i arg2 h2 arg3 h3 arg4 h4 arg5 h5 arg6 h6 arg8 h8 arg9 h9 hc0 hc1 hc2 hc3 hc4 hc5 x0 x1 x2 x3 x4 acc = k0_pay6 acc x0 x3 := by
  unfold sout0_I_0 kernelRun0_I
  try unfold kernelRun0_I.sl.r_2
  try unfold kernelRun0_I.sl.r_1
  try unfold kernelRun0_I.sl.r
  try dsimp only
  try unfold kernelRun0_I.sl.v86
  try unfold kernelRun0_I.sl.HS0_1
  exact next_read (k0_pay6 (F := Ideal)) arg2 h2 arg5 h5 arg9 h9 x0 x3 acc

/-- Part 2, last point: the output's block. -/
theorem o_I (hc0 : ¬cond0_0 i) (hc1 : ¬cond0_1 i) (hc2 : ¬cond0_2 i) (hc3 : cond0_3 i) (hc4 : ¬cond0_4 i) (hc5 : cond0_5 i) :
    out0_I_5 c i arg2 h2 arg3 h3 arg4 h4 arg5 h5 arg6 h6 arg8 h8 arg9 h9 hc0 hc1 hc2 hc3 hc4 hc5 x0 x1 x2 x3 x4 acc = k0_pay2 (F := Ideal) (k0_pay6 acc x0 x3) := by
  unfold out0_I_5 kernelRun0_I
  try unfold kernelRun0_I.sl.r_2
  try unfold kernelRun0_I.sl.r_1
  try unfold kernelRun0_I.sl.r
  try dsimp only
  try unfold kernelRun0_I.sl.v86
  try unfold kernelRun0_I.sl.HS0_1
  exact out_read (k0_pay6 (F := Ideal)) arg2 h2 arg5 h5 arg9 h9 x0 x3 acc

/-- Part 3, first point: the accumulator. -/
theorem s_J (hc0 : cond0_0 i) (hc1 : ¬cond0_1 i) (hc2 : ¬cond0_2 i) (hc3 : ¬cond0_3 i) (hc4 : cond0_4 i) (hc5 : ¬cond0_5 i) :
    sout0_J_0 c i arg2 h2 arg3 h3 arg4 h4 arg5 h5 arg6 h6 arg8 h8 arg9 h9 hc0 hc1 hc2 hc3 hc4 hc5 x0 x1 x2 x3 x4 = k0_pay1 (k0_pay3 (F := Ideal)) x0 x4 := by
  unfold sout0_J_0 kernelRun0_J
  try unfold kernelRun0_J.sl.r_2
  try unfold kernelRun0_J.sl.r_1
  try unfold kernelRun0_J.sl.r
  try dsimp only
  try unfold kernelRun0_J.sl.v86
  try unfold kernelRun0_J.sl.HS0_1
  exact first_read (k0_pay1 (F := Ideal)) arg2 h2 arg6 h6 arg9 x0 x4

/-- Part 3, middle point: the accumulator. -/
theorem s_K (hc0 : ¬cond0_0 i) (hc1 : ¬cond0_1 i) (hc2 : ¬cond0_2 i) (hc3 : ¬cond0_3 i) (hc4 : cond0_4 i) (hc5 : ¬cond0_5 i) :
    sout0_K_0 c i arg2 h2 arg3 h3 arg4 h4 arg5 h5 arg6 h6 arg8 h8 arg9 h9 hc0 hc1 hc2 hc3 hc4 hc5 x0 x1 x2 x3 x4 acc = k0_pay1 acc x0 x4 := by
  unfold sout0_K_0 kernelRun0_K
  try unfold kernelRun0_K.sl.r_2
  try unfold kernelRun0_K.sl.r_1
  try unfold kernelRun0_K.sl.r
  try dsimp only
  try unfold kernelRun0_K.sl.v86
  try unfold kernelRun0_K.sl.HS0_1
  exact next_read (k0_pay1 (F := Ideal)) arg2 h2 arg6 h6 arg9 h9 x0 x4 acc

/-- Part 3, last point: the accumulator. -/
theorem s_L (hc0 : ¬cond0_0 i) (hc1 : ¬cond0_1 i) (hc2 : ¬cond0_2 i) (hc3 : ¬cond0_3 i) (hc4 : cond0_4 i) (hc5 : cond0_5 i) :
    sout0_L_0 c i arg2 h2 arg3 h3 arg4 h4 arg5 h5 arg6 h6 arg8 h8 arg9 h9 hc0 hc1 hc2 hc3 hc4 hc5 x0 x1 x2 x3 x4 acc = k0_pay1 acc x0 x4 := by
  unfold sout0_L_0 kernelRun0_L
  try unfold kernelRun0_L.sl.r_2
  try unfold kernelRun0_L.sl.r_1
  try unfold kernelRun0_L.sl.r
  try dsimp only
  try unfold kernelRun0_L.sl.v86
  try unfold kernelRun0_L.sl.HS0_1
  exact next_read (k0_pay1 (F := Ideal)) arg2 h2 arg6 h6 arg9 h9 x0 x4 acc

/-- Part 3, last point: the output's block. -/
theorem o_L (hc0 : ¬cond0_0 i) (hc1 : ¬cond0_1 i) (hc2 : ¬cond0_2 i) (hc3 : ¬cond0_3 i) (hc4 : cond0_4 i) (hc5 : cond0_5 i) :
    out0_L_5 c i arg2 h2 arg3 h3 arg4 h4 arg5 h5 arg6 h6 arg8 h8 arg9 h9 hc0 hc1 hc2 hc3 hc4 hc5 x0 x1 x2 x3 x4 acc = k0_pay2 (F := Ideal) (k0_pay1 acc x0 x4) := by
  unfold out0_L_5 kernelRun0_L
  try unfold kernelRun0_L.sl.r_2
  try unfold kernelRun0_L.sl.r_1
  try unfold kernelRun0_L.sl.r
  try dsimp only
  try unfold kernelRun0_L.sl.v86
  try unfold kernelRun0_L.sl.HS0_1
  exact out_read (k0_pay1 (F := Ideal)) arg2 h2 arg6 h6 arg9 h9 x0 x4 acc

end

end Cert.Kernel5Ideal.Hand

end
-- ==== Proof.PtsA.lean ====
module

public import proofs.«01_k».proof.Proof.ABlk
public import proofs.«01_k».proof.Proof.Gen.Kernel5Ideal.Value
public import Idealize.ShloMosaic.Lib.Pipeline.ValueKit.Partial

@[expose] public section

/-! What a grid point of the weight gradient's kernel (attention's rows) leaves, in each of the four parts. -/

open Idealize.ShloMosaic hiding ix2
open Idealize.ShloMosaic.ValueIdx Idealize.ShloMosaic.TcCoe Idealize.SL.Sem Cert.Spec

set_option maxRecDepth 65536
set_option maxHeartbeats 2000000

noncomputable section

namespace Cert.Kernel5Ideal.Hand

open Cert.Kernel5Ideal Cert.Kernel5Ideal.Gen Cert.Kernel5Ideal.Value

variable (m : (ℓ : Loc nD τ sig) → Buf (Elt Ideal) ℓ) (c : Dev nD)

/-- The blocks that a point reads. -/
def y0 (t : Fin cfg0.N) : Vec Ideal S1024x2048 .bf16 := iblk m c 0 t
def y1 (t : Fin cfg0.N) : Vec Ideal S2048x512 .bf16 := iblk m c 1 t
def y2 (t : Fin cfg0.N) : Vec Ideal S2048x512 .bf16 := iblk m c 2 t
def y3 (t : Fin cfg0.N) : Vec Ideal S2048x512 .bf16 := iblk m c 3 t
def y4 (t : Fin cfg0.N) : Vec Ideal S2048x512 .bf16 := iblk m c 4 t

/-- The block of part `p` at a point. -/
def yp (t : Fin cfg0.N) : Fin 4 → Vec Ideal S2048x512 .bf16
  | 0 => y1 m c t
  | 1 => y2 m c t
  | 2 => y3 m c t
  | 3 => y4 m c t

/-- The step's arithmetic in part `p`, as the kernel writes it there. -/
def payP : Fin 4 → Vec Ideal S1024x512 .f32 → Vec Ideal S1024x2048 .bf16 → Vec Ideal S2048x512 .bf16 → Vec Ideal S1024x512 .f32
  | 0 => k0_pay4 (F := Ideal)
  | 1 => k0_pay5 (F := Ideal)
  | 2 => k0_pay6 (F := Ideal)
  | 3 => k0_pay1 (F := Ideal)

/-- It is the same in the four parts. -/
theorem payP_eq : ∀ p, payP p = k0_pay1 (F := Ideal)
  | 0 => rfl
  | 1 => rfl
  | 2 => rfl
  | 3 => rfl

/-- The accumulator at a run's first point. -/
theorem outs_first (t : Fin cfg0.N) (h0 : t.val % 4 = 0) : ∀ p : Fin 4, t.val / 4 = p.val →
    (outsAt0 m c t.val t.isLt).2 = payP p (k0_pay3 (F := Ideal)) (y0 m c t) (yp m c t p)
  | 0, hp => by
    have hp : t.val / 4 = 0 := hp
    rw [outsAt0_A m c t h0 (by omega) (by omega) (by omega) (by omega) (by omega)]
    dsimp only
    exact s_A _ _ _ _ _ _ (y0 m c t) c (grid0.coords t) _ _ _ _ _ _ _ _ (y1 m c t) (y2 m c t) (y3 m c t) (y4 m c t) _ _ _ _ _ _
  | 1, hp => by
    have hp : t.val / 4 = 1 := hp
    rw [outsAt0_D m c t h0 (by omega) (by omega) (by omega) (by omega) (by omega)]
    dsimp only
    exact s_D _ _ _ _ _ _ (y0 m c t) c (grid0.coords t) _ _ _ _ _ _ _ _ (y1 m c t) (y2 m c t) (y3 m c t) (y4 m c t) _ _ _ _ _ _
  | 2, hp => by
    have hp : t.val / 4 = 2 := hp
    rw [outsAt0_G m c t h0 (by omega) (by omega) (by omega) (by omega) (by omega)]
    dsimp only
    exact s_G _ _ _ _ _ _ (y0 m c t) c (grid0.coords t) _ _ _ _ _ _ _ _ (y1 m c t) (y2 m c t) (y3 m c t) (y4 m c t) _ _ _ _ _ _
  | 3, hp => by
    have hp : t.val / 4 = 3 := hp
    rw [outsAt0_J m c t h0 (by omega) (by omega) (by omega) (by omega) (by omega)]
    dsimp only
    exact s_J _ _ _ _ _ _ (y0 m c t) c (grid0.coords t) _ _ _ _ _ _ _ _ (y1 m c t) (y2 m c t) (y3 m c t) (y4 m c t) _ _ _ _ _ _

/-- The accumulator at a middle point, from the point before. -/
theorem outs_mid (t : Fin cfg0.N) (h0 : ¬t.val % 4 = 0) (h3 : ¬t.val % 4 = 3) (h : t.val - 1 < cfg0.N) : ∀ p : Fin 4, t.val / 4 = p.val →
    (outsAt0 m c t.val t.isLt).2 = payP p (outsAt0 m c (t.val - 1) h).2 (y0 m c t) (yp m c t p)
  | 0, hp => by
    have hp : t.val / 4 = 0 := hp
    rw [outsAt0_B m c t h0 (by omega) (by omega) (by omega) (by omega) h3]
    dsimp only
    exact s_B _ _ _ _ _ _ (y0 m c t) (outsAt0 m c (t.val - 1) h).2 c (grid0.coords t) _ _ _ _ _ _ _ _ (y1 m c t) (y2 m c t) (y3 m c t) (y4 m c t) _ _ _ _ _ _
  | 1, hp => by
    have hp : t.val / 4 = 1 := hp
    rw [outsAt0_E m c t h0 (by omega) (by omega) (by omega) (by omega) h3]
    dsimp only
    exact s_E _ _ _ _ _ _ (y0 m c t) (outsAt0 m c (t.val - 1) h).2 c (grid0.coords t) _ _ _ _ _ _ _ _ (y1 m c t) (y2 m c t) (y3 m c t) (y4 m c t) _ _ _ _ _ _
  | 2, hp => by
    have hp : t.val / 4 = 2 := hp
    rw [outsAt0_H m c t h0 (by omega) (by omega) (by omega) (by omega) h3]
    dsimp only
    exact s_H _ _ _ _ _ _ (y0 m c t) (outsAt0 m c (t.val - 1) h).2 c (grid0.coords t) _ _ _ _ _ _ _ _ (y1 m c t) (y2 m c t) (y3 m c t) (y4 m c t) _ _ _ _ _ _
  | 3, hp => by
    have hp : t.val / 4 = 3 := hp
    rw [outsAt0_K m c t h0 (by omega) (by omega) (by omega) (by omega) h3]
    dsimp only
    exact s_K _ _ _ _ _ _ (y0 m c t) (outsAt0 m c (t.val - 1) h).2 c (grid0.coords t) _ _ _ _ _ _ _ _ (y1 m c t) (y2 m c t) (y3 m c t) (y4 m c t) _ _ _ _ _ _

/-- The accumulator and the outputs block at a run's last point, from the point before. -/
theorem outs_last (t : Fin cfg0.N) (h3 : t.val % 4 = 3) (h : t.val - 1 < cfg0.N) : ∀ p : Fin 4, t.val / 4 = p.val →
    (outsAt0 m c t.val t.isLt).2 = payP p (outsAt0 m c (t.val - 1) h).2 (y0 m c t) (yp m c t p)
      ∧ (outsAt0 m c t.val t.isLt).1 = k0_pay2 (F := Ideal) (payP p (outsAt0 m c (t.val - 1) h).2 (y0 m c t) (yp m c t p))
  | 0, hp => by
    have hp : t.val / 4 = 0 := hp
    rw [outsAt0_C m c t (by omega) (by omega) (by omega) (by omega) (by omega) h3]
    dsimp only
    exact ⟨s_C _ _ _ _ _ _ (y0 m c t) (outsAt0 m c (t.val - 1) h).2 c (grid0.coords t) _ _ _ _ _ _ _ _ (y1 m c t) (y2 m c t) (y3 m c t) (y4 m c t) _ _ _ _ _ _,
      o_C _ _ _ _ _ _ (y0 m c t) (outsAt0 m c (t.val - 1) h).2 c (grid0.coords t) _ _ _ _ _ _ _ _ (y1 m c t) (y2 m c t) (y3 m c t) (y4 m c t) _ _ _ _ _ _⟩
  | 1, hp => by
    have hp : t.val / 4 = 1 := hp
    rw [outsAt0_F m c t (by omega) (by omega) (by omega) (by omega) (by omega) h3]
    dsimp only
    exact ⟨s_F _ _ _ _ _ _ (y0 m c t) (outsAt0 m c (t.val - 1) h).2 c (grid0.coords t) _ _ _ _ _ _ _ _ (y1 m c t) (y2 m c t) (y3 m c t) (y4 m c t) _ _ _ _ _ _,
      o_F _ _ _ _ _ _ (y0 m c t) (outsAt0 m c (t.val - 1) h).2 c (grid0.coords t) _ _ _ _ _ _ _ _ (y1 m c t) (y2 m c t) (y3 m c t) (y4 m c t) _ _ _ _ _ _⟩
  | 2, hp => by
    have hp : t.val / 4 = 2 := hp
    rw [outsAt0_I m c t (by omega) (by omega) (by omega) (by omega) (by omega) h3]
    dsimp only
    exact ⟨s_I _ _ _ _ _ _ (y0 m c t) (outsAt0 m c (t.val - 1) h).2 c (grid0.coords t) _ _ _ _ _ _ _ _ (y1 m c t) (y2 m c t) (y3 m c t) (y4 m c t) _ _ _ _ _ _,
      o_I _ _ _ _ _ _ (y0 m c t) (outsAt0 m c (t.val - 1) h).2 c (grid0.coords t) _ _ _ _ _ _ _ _ (y1 m c t) (y2 m c t) (y3 m c t) (y4 m c t) _ _ _ _ _ _⟩
  | 3, hp => by
    have hp : t.val / 4 = 3 := hp
    rw [outsAt0_L m c t (by omega) (by omega) (by omega) (by omega) (by omega) h3]
    dsimp only
    exact ⟨s_L _ _ _ _ _ _ (y0 m c t) (outsAt0 m c (t.val - 1) h).2 c (grid0.coords t) _ _ _ _ _ _ _ _ (y1 m c t) (y2 m c t) (y3 m c t) (y4 m c t) _ _ _ _ _ _,
      o_L _ _ _ _ _ _ (y0 m c t) (outsAt0 m c (t.val - 1) h).2 c (grid0.coords t) _ _ _ _ _ _ _ _ (y1 m c t) (y2 m c t) (y3 m c t) (y4 m c t) _ _ _ _ _ _⟩

end Cert.Kernel5Ideal.Hand

end
-- ==== Proof.RefA.lean ====
module

public import proofs.«01_k».proof.Proof.Norm
public import proofs.«01_k».proof.Proof.Gen.Reference5Ideal.Read
public import Idealize.ShloMosaic.Lib.ValueLayout
public import Idealize.ShloMosaic.Lib.Pipeline.ValueKit

@[expose] public section

/-! The reference of the attention's rows of the input weight's gradient, at one index. -/

open Idealize.ShloMosaic hiding ix2
open Idealize.ShloMosaic.ValueIdx Idealize.ShloMosaic.TcCoe Idealize.SL.Sem Cert.Spec

set_option maxRecDepth 8192
set_option maxHeartbeats 2000000

noncomputable section

namespace Cert.Reference5Ideal.Hand

open Cert.Reference5Ideal Cert.Reference5Ideal.Read

variable (x0 : (⟨S1024x8192, .bf16⟩ : BufTy).Contents (Elt Ideal)) (x1 x2 x3 x4 : (⟨S8192x512, .bf16⟩ : BufTy).Contents (Elt Ideal))
  (x5 : (⟨S7680x1024, .bf16⟩ : BufTy).Contents (Elt Ideal))

/-- Part `p` of the incoming gradient. -/
def part : Fin 4 → (⟨S8192x512, .bf16⟩ : BufTy).Contents (Elt Ideal)
  | 0 => x1
  | 1 => x2
  | 2 => x3
  | 3 => x4

/-- The four parts side by side: column `b` of part `p`. -/
theorem dz_apply (p : Fin 4) (t : Fin 8192) (b : Fin 512) : val_main_v4 (F := Ideal) x1 x2 x3 x4 (ix2 t ⟨p.val * 512 + b.val, by omega⟩) = part x1 x2 x3 x4 p (ix2 t b) := by
  unfold val_main_v4
  match p with
  | 0 =>
    refine (concatenate_apply_piece (t := S8192x2048) 1 _ _ (ix2 t _) 0 ?_ S8192x512 (val_main_v0 (F := Ideal) x1) ?_ rfl 0 ?_ (ix2 t b) (fun a ha => ?_) ?_).trans ?_
    · show 0 < 4; decide
    · rfl
    · rfl
    · match a, ha with
      | ⟨0, _⟩, _ => rfl
      | ⟨1, _⟩, h => exact absurd rfl h
    · show 0 + b.val = 0 * 512 + b.val; omega
    · rfl
  | 1 =>
    refine (concatenate_apply_piece (t := S8192x2048) 1 _ _ (ix2 t _) 1 ?_ S8192x512 (val_main_v1 (F := Ideal) x2) ?_ rfl 512 ?_ (ix2 t b) (fun a ha => ?_) ?_).trans ?_
    · show 1 < 4; decide
    · rfl
    · rfl
    · match a, ha with
      | ⟨0, _⟩, _ => rfl
      | ⟨1, _⟩, h => exact absurd rfl h
    · show 512 + b.val = 1 * 512 + b.val; omega
    · rfl
  | 2 =>
    refine (concatenate_apply_piece (t := S8192x2048) 1 _ _ (ix2 t _) 2 ?_ S8192x512 (val_main_v2 (F := Ideal) x3) ?_ rfl 1024 ?_ (ix2 t b) (fun a ha => ?_) ?_).trans ?_
    · show 2 < 4; decide
    · rfl
    · rfl
    · match a, ha with
      | ⟨0, _⟩, _ => rfl
      | ⟨1, _⟩, h => exact absurd rfl h
    · show 1024 + b.val = 2 * 512 + b.val; omega
    · rfl
  | 3 =>
    refine (concatenate_apply_piece (t := S8192x2048) 1 _ _ (ix2 t _) 3 ?_ S8192x512 (val_main_v3 (F := Ideal) x4) ?_ rfl 1536 ?_ (ix2 t b) (fun a ha => ?_) ?_).trans ?_
    · show 3 < 4; decide
    · rfl
    · rfl
    · match a, ha with
      | ⟨0, _⟩, _ => rfl
      | ⟨1, _⟩, h => exact absurd rfl h
    · show 1536 + b.val = 3 * 512 + b.val; omega
    · rfl

/-- A row before the attention's rows is the buffer's. -/
theorem r_before (r : Fin 1536) (d : Fin 1024) : val_main_v15 (F := Ideal) x0 x1 x2 x3 x4 x5 (ix2 ⟨r.val, by omega⟩ d) = x5 (ix2 ⟨r.val, by omega⟩ d) := by
  unfold val_main_v15
  refine (concatenate_apply_piece (t := S7680x1024) 0 _ _ (ix2 ⟨r.val, by omega⟩ d) 0 ?_ S1536x1024 (val_main_v11 (F := Ideal) x5) ?_ rfl 0 ?_ (ix2 r d) (fun b hb => ?_) ?_).trans ?_
  · show 0 < 3; decide
  · rfl
  · rfl
  · match b, hb with
    | ⟨0, _⟩, hb => exact absurd rfl hb
    | ⟨1, _⟩, _ => rfl
  · show 0 + r.val = r.val; omega
  · rw [val_main_v11_apply]
    exact congrArg x5 (idx2 rfl rfl)

/-- A row after the attention's rows is the buffer's. -/
theorem r_after (r : Fin 4096) (d : Fin 1024) : val_main_v15 (F := Ideal) x0 x1 x2 x3 x4 x5 (ix2 ⟨3584 + r.val, by omega⟩ d) = x5 (ix2 ⟨3584 + r.val, by omega⟩ d) := by
  unfold val_main_v15
  refine (concatenate_apply_piece (t := S7680x1024) 0 _ _ (ix2 ⟨3584 + r.val, by omega⟩ d) 2 ?_ S4096x1024 (val_main_v14 (F := Ideal) x5) ?_ rfl 3584 ?_ (ix2 r d) (fun b hb => ?_) ?_).trans ?_
  · show 2 < 3; decide
  · rfl
  · rfl
  · match b, hb with
    | ⟨0, _⟩, hb => exact absurd rfl hb
    | ⟨1, _⟩, _ => rfl
  · rfl
  · rw [val_main_v14_apply]
    exact congrArg x5 (idx2 rfl rfl)

/-- A row of the attention's is the sum over the tokens. -/
theorem r_new (p : Fin 4) (b : Fin 512) (d : Fin 1024) : val_main_v15 (F := Ideal) x0 x1 x2 x3 x4 x5 (ix2 ⟨1536 + (p.val * 512 + b.val), by omega⟩ d) = ∑ t, x0 (ix2 d t) * part x1 x2 x3 x4 p (ix2 t b) := by
  unfold val_main_v15
  refine (concatenate_apply_piece (t := S7680x1024) 0 _ _ (ix2 ⟨1536 + (p.val * 512 + b.val), by omega⟩ d) 1 ?_ S2048x1024 (val_main_v13 (F := Ideal) x0 x1 x2 x3 x4) ?_ rfl 1536 ?_ (ix2 ⟨p.val * 512 + b.val, by omega⟩ d) (fun b hb => ?_) ?_).trans ?_
  · show 1 < 3; decide
  · rfl
  · rfl
  · match b, hb with
    | ⟨0, _⟩, hb => exact absurd rfl hb
    | ⟨1, _⟩, _ => rfl
  · rfl
  · rw [val_main_v13_apply]
    refine (val_main_v12_apply x0 x1 x2 x3 x4 (ix2 _ d)).trans ?_
    rw [val_main_v10_apply]
    refine (val_main_v9_apply x0 x1 x2 x3 x4 _).trans (Finset.sum_congr rfl fun t _ => ?_)
    refine Eq.trans (congrArg₂ (· * ·) (?_ : _ = part x1 x2 x3 x4 p (ix2 t b)) (?_ : _ = x0 (ix2 d t))) (mul_comm _ _)
    · have e : lidx_main_v9 (idx_main_v10 (idx_main_v12 (ix2 (⟨p.val * 512 + b.val, by omega⟩ : Fin 2048) d))) t = ix2 t ⟨p.val * 512 + b.val, by omega⟩ := idx2 rfl rfl
      rw [e]
      exact dz_apply x1 x2 x3 x4 p t b
    · rw [val_main_v7_apply]
      exact congrArg x0 (idx2 rfl rfl)

end Cert.Reference5Ideal.Hand

end
-- ==== Proof.ArrA.lean ====
module

public import proofs.«01_k».proof.Proof.PtsA
public import proofs.«01_k».proof.Proof.ArrW
public import proofs.«01_k».proof.Proof.RefA
public import proofs.«01_k».proof.Proof.Gen.Kernel5Ideal.Value
public import Idealize.ShloMosaic.Lib.Pipeline.ValueKit.Partial

@[expose] public section

/-! What the weight gradient's kernel leaves in its array (attention's rows written, the others kept): the reference's value at the
    kernel's arguments. -/

open Idealize.ShloMosaic hiding ix2
open Idealize.ShloMosaic.ValueIdx Idealize.ShloMosaic.TcCoe Idealize.SL.Sem Cert.Spec

set_option maxRecDepth 65536
set_option maxHeartbeats 2000000

noncomputable section

namespace Cert.Kernel5Ideal.Hand

open Cert.Kernel5Ideal Cert.Kernel5Ideal.Gen Cert.Kernel5Ideal.Value
open Cert.Kernel4Ideal.Hand (tokN tokN_val sum_tok)
open Cert.Reference5Ideal.Hand (part)

variable (m : (ℓ : Loc nD τ sig) → Buf (Elt Ideal) ℓ) (c : Dev nD)

/-- The blocks that a point reads and writes. -/
theorem e0 : ∀ t : Fin cfg0.N, win0_0.index t = ![0, t.val % 4] := (by decide +kernel : ∀ t : Fin grid0.N, _)
theorem e1 : ∀ t : Fin cfg0.N, t.val / 4 = 0 → win0_1.index t = ![t.val % 4, 0] := (by decide +kernel : ∀ t : Fin grid0.N, _)
theorem e2 : ∀ t : Fin cfg0.N, t.val / 4 = 1 → win0_2.index t = ![t.val % 4, 0] := (by decide +kernel : ∀ t : Fin grid0.N, _)
theorem e3 : ∀ t : Fin cfg0.N, t.val / 4 = 2 → win0_3.index t = ![t.val % 4, 0] := (by decide +kernel : ∀ t : Fin grid0.N, _)
theorem e4 : ∀ t : Fin cfg0.N, t.val / 4 = 3 → win0_4.index t = ![t.val % 4, 0] := (by decide +kernel : ∀ t : Fin grid0.N, _)
theorem e5 : ∀ t : Fin cfg0.N, win0_5.index t = ![3 + t.val / 4, 0] := (by decide +kernel : ∀ t : Fin grid0.N, _)

/-- The output's block is written back at the last point of a run. -/
theorem last : ∀ t : Fin cfg0.N, win0_5.flush t = true → t.val % 4 = 3 := (by decide +kernel : ∀ t : Fin grid0.N, _)

/-- The arguments. -/
def a0 : (⟨S1024x8192, .bf16⟩ : BufTy).Contents (Elt Ideal) := m ((c : Thread nD τ).loc main_arg0)
def a1 : (⟨S8192x512, .bf16⟩ : BufTy).Contents (Elt Ideal) := m ((c : Thread nD τ).loc main_arg1)
def a2 : (⟨S8192x512, .bf16⟩ : BufTy).Contents (Elt Ideal) := m ((c : Thread nD τ).loc main_arg2)
def a3 : (⟨S8192x512, .bf16⟩ : BufTy).Contents (Elt Ideal) := m ((c : Thread nD τ).loc main_arg3)
def a4 : (⟨S8192x512, .bf16⟩ : BufTy).Contents (Elt Ideal) := m ((c : Thread nD τ).loc main_arg4)
def a5 : (⟨S7680x1024, .bf16⟩ : BufTy).Contents (Elt Ideal) := m ((c : Thread nD τ).loc main_arg5)
/-- Part `p` of the incoming gradient. -/
def ap (p : Fin 4) : (⟨S8192x512, .bf16⟩ : BufTy).Contents (Elt Ideal) := part (a1 m c) (a2 m c) (a3 m c) (a4 m c) p

/-- A block of the activations, at the point's tokens. -/
theorem b0 (t : Fin cfg0.N) (d : Fin 1024) (q : Fin 2048) : y0 m c t (ix2 d q) = a0 m c (ix2 d (tokN (t.val % 4) q)) := by
  unfold y0 a0
  blk_simp [iblk]
  rw [V_main_arg0]
  refine congrArg _ ?_
  blk_ext [e0, tokN_val]

/-- The part that a point reads, at the point's tokens. -/
theorem bp (t : Fin cfg0.N) (q : Fin 2048) (b : Fin 512) : ∀ p : Fin 4, t.val / 4 = p.val → yp m c t p (ix2 q b) = ap m c p (ix2 (tokN (t.val % 4) q) b)
  | 0, hp => by
    show y1 m c t (ix2 q b) = a1 m c _
    unfold y1 a1
    blk_simp [iblk]
    rw [V_main_arg1]
    refine congrArg _ ?_
    blk_ext [e1 t hp, tokN_val]
  | 1, hp => by
    show y2 m c t (ix2 q b) = a2 m c _
    unfold y2 a2
    blk_simp [iblk]
    rw [V_main_arg2]
    refine congrArg _ ?_
    blk_ext [e2 t hp, tokN_val]
  | 2, hp => by
    show y3 m c t (ix2 q b) = a3 m c _
    unfold y3 a3
    blk_simp [iblk]
    rw [V_main_arg3]
    refine congrArg _ ?_
    blk_ext [e3 t hp, tokN_val]
  | 3, hp => by
    show y4 m c t (ix2 q b) = a4 m c _
    unfold y4 a4
    blk_simp [iblk]
    rw [V_main_arg4]
    refine congrArg _ ?_
    blk_ext [e4 t hp, tokN_val]

/-- What block `s` of the tokens adds to one entry. -/
def share (d : Fin 1024) (p : Fin 4) (b : Fin 512) (s : ℕ) : EReal := ∑ q : Fin 2048, a0 m c (ix2 d (tokN s q)) * ap m c p (ix2 (tokN s q) b)

/-- One point's product. -/
theorem share_blk (t : Fin cfg0.N) (p : Fin 4) (hp : t.val / 4 = p.val) (acc : Vec Ideal S1024x512 .f32) (d : Fin 1024) (b : Fin 512) :
    payP p acc (y0 m c t) (yp m c t p) (ix2 d b) = acc (ix2 d b) + share m c d p b (t.val % 4) :=
  (congrFun (congrFun (congrFun (congrFun (payP_eq p) acc) (y0 m c t)) (yp m c t p)) (ix2 d b)).trans <| (acc_apply (y0 m c t) (yp m c t p) acc d b).trans (congrArg (acc (ix2 d b) + ·) (Finset.sum_congr rfl fun q _ => by rw [b0, bp m c t q b p hp]))

/-- The accumulator at a point that is not a run's first, from the point before. -/
theorem outs_next (t : Fin cfg0.N) (h0 : ¬t.val % 4 = 0) (h : t.val - 1 < cfg0.N) (p : Fin 4) (hp : t.val / 4 = p.val) :
    (outsAt0 m c t.val t.isLt).2 = payP p (outsAt0 m c (t.val - 1) h).2 (y0 m c t) (yp m c t p) := by
  by_cases h3 : t.val % 4 = 3
  · exact (outs_last m c t h3 h p hp).1
  · exact outs_mid m c t h0 h3 h p hp

/-- The output's block at a run's last point is the accumulator transposed. -/
theorem outs_o (t : Fin cfg0.N) (h3 : t.val % 4 = 3) (p : Fin 4) (hp : t.val / 4 = p.val) :
    (outsAt0 m c t.val t.isLt).1 = k0_pay2 (F := Ideal) (outsAt0 m c t.val t.isLt).2 := by
  have h := outs_last m c t h3 (by have := t.isLt; omega) p hp
  exact h.2.trans (congrArg (k0_pay2 (F := Ideal)) h.1.symm)

/-- The accumulator after point `n` of part `p`: the sum over the blocks of tokens up to it. -/
theorem acc_sum (d : Fin 1024) (b : Fin 512) (p : Fin 4) : ∀ (n : ℕ) (h : n < cfg0.N), n / 4 = p.val →
    (outsAt0 m c n h).2 (ix2 d b) = ∑ s ∈ Finset.range (n % 4 + 1), share m c d p b s := by
  intro n
  induction n with
  | zero =>
    intro h hp
    refine (congrFun (outs_first m c ⟨0, h⟩ rfl p hp) (ix2 d b)).trans ((share_blk m c ⟨0, h⟩ p hp _ d b).trans ?_)
    rw [zero_apply, zero_add]
    exact (Finset.sum_range_one _).symm
  | succ n ih =>
    intro h hp
    by_cases h0 : (n + 1) % 4 = 0
    · refine (congrFun (outs_first m c ⟨n + 1, h⟩ h0 p hp) (ix2 d b)).trans ((share_blk m c ⟨n + 1, h⟩ p hp _ d b).trans ?_)
      dsimp only
      rw [zero_apply, zero_add, h0]
      exact (Finset.sum_range_one _).symm
    · refine (congrFun (outs_next m c ⟨n + 1, h⟩ h0 (by show n + 1 - 1 < cfg0.N; omega) p hp) (ix2 d b)).trans ((share_blk m c ⟨n + 1, h⟩ p hp _ d b).trans ?_)
      rw [Finset.sum_range_succ]
      refine congrArg₂ (· + ·) ((ih (by omega) (by omega)).trans ?_) rfl
      rw [show n % 4 + 1 = (n + 1) % 4 by omega]

/-- The array's contents at the start: the buffer. -/
theorem V_out : (V m c main_v0 : S7680x1024.Idx → EReal) = m ((c : Thread nD τ).loc main_arg5) := by
  sl_kernel_rfl

/-- The weight gradient's array. -/
theorem arr_w : (dats m 0 c).arrAt 5 cfg0.N = Cert.Reference5Ideal.Read.val_main_v15 (F := Ideal) (a0 m c) (a1 m c) (a2 m c) (a3 m c) (a4 m c) (a5 m c) := by
  refine (dats m 0 c).arrAt_eq_of_coversWhere_of_agree 5 _ (fun β => 3 ≤ β (0 : Fin 2) ∧ β (0 : Fin 2) < 7) (by decide +kernel) (fun t hf y => ?_) (fun j hj => ?_)
  · have h3 := last t hf
    have hN := lt_of_lt_of_eq t.isLt N_0
    obtain ⟨p, hp⟩ : ∃ p : Fin 4, t.val / 4 = p.val := ⟨⟨t.val / 4, by omega⟩, rfl⟩
    blk_simp
    rw [after0_5, outs_o m c t h3 p hp]
    obtain ⟨b, d, rfl⟩ : ∃ (b : Fin 512) (d : Fin 1024), y = ix2 b d := ⟨y 0, y 1, ValueIdx.eq_ix2 y⟩
    refine (out_apply _ b d).trans ((acc_sum m c d b p t.val t.isLt hp).trans ?_)
    rw [h3]
    refine (sum_tok (fun k => a0 m c (ix2 d k) * ap m c p (ix2 k b))).trans ?_
    refine (Cert.Reference5Ideal.Hand.r_new (a0 m c) (a1 m c) (a2 m c) (a3 m c) (a4 m c) (a5 m c) p b d).symm.trans (congrArg _ ?_)
    blk_ext [e5, hp]
    show 1536 + (p.val * 512 + b.val) = (3 + p.val) * 512 + b.val
    omega
  · obtain ⟨r, d, rfl⟩ : ∃ (r : Fin 7680) (d : Fin 1024), j = ix2 r d := ⟨j 0, j 1, ValueIdx.eq_ix2 j⟩
    rw [A_eq]
    refine (congrFun (V_out m c) (ix2 r d)).trans ?_
    by_cases hr : r.val < 1536
    · exact (Cert.Reference5Ideal.Hand.r_before (a0 m c) (a1 m c) (a2 m c) (a3 m c) (a4 m c) (a5 m c) ⟨r.val, hr⟩ d).symm
    · have h7 : 3584 ≤ r.val := by
        rw [Pipeline.Window.cell_apply] at hj
        have h : ¬(3 ≤ r.val / 512 ∧ r.val / 512 < 7) := hj
        omega
      have e : r = ⟨3584 + (r.val - 3584), by omega⟩ := Fin.ext (by show r.val = 3584 + (r.val - 3584); omega)
      have h := (Cert.Reference5Ideal.Hand.r_after (a0 m c) (a1 m c) (a2 m c) (a3 m c) (a4 m c) (a5 m c) ⟨r.val - 3584, by omega⟩ d).symm
      rw [e]
      exact h

end Cert.Kernel5Ideal.Hand

end
-- ==== Proof.MoreA.lean ====
module

public import proofs.«01_k».proof.Defs
public import proofs.«01_k».proof.Proof.MoreW
public import proofs.«01_k».proof.Proof.ArrA
public import proofs.«01_k».proof.Proof.Gen.Kernel5
public import proofs.«01_k».proof.Proof.Gen.Kernel5Ideal.Frame
public import proofs.«01_k».proof.Proof.Gen.Reference5Ideal.Run

@[expose] public section

/-! The claims of the input weight's gradient (attention's rows): the frames and the equation. The kernel and its idealization are the
    same program (nothing was rewritten), so one run serves both frames. -/

open Idealize.ShloMosaic Idealize.SL.Sem

set_option maxRecDepth 65536
set_option maxHeartbeats 2000000

noncomputable section

namespace Cert.Proof

/-- The kernel's frame, written out. -/
def Kernel5Frame : Prop := ∀ (m : (ℓ : Loc Cert.Kernel5.nD Cert.Kernel5.τ Cert.Kernel5.sig) → Buf (Elt Bits) ℓ) (g : Dev Cert.Kernel5.nD → PrngReg),
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

/-- The idealized kernel's frame at the machine's floats, written out. -/
def Kernel5IdealFrame : Prop := ∀ (m : (ℓ : Loc Cert.Kernel5Ideal.nD Cert.Kernel5Ideal.τ Cert.Kernel5Ideal.sig) → Buf (Elt Bits) ℓ) (g : Dev Cert.Kernel5Ideal.nD → PrngReg),
    θ_run (Cert.Kernel5Ideal.defs (F := Bits)) (onTc (τ := Cert.Kernel5Ideal.τ) (Cert.Kernel5Ideal.main (F := Bits))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

/-- The two programs being one text, the two statements are one. -/
theorem kernel5Frame_eq : Kernel5Frame = Kernel5IdealFrame := by sl_kernel_rfl

/-- The kernel's frame. -/
theorem frame_kernel5 : @Cert.quiescent_Kernel5 Cert.Kernel5.Gen.facts := fun m ρ _ => by
  have h : Kernel5IdealFrame := fun m ρ => Cert.Kernel5Ideal.Gen.frame m ρ
  rw [← kernel5Frame_eq] at h
  exact h m ρ

/-- The idealized kernel's frame. -/
theorem frame_kernel5Ideal : @Cert.quiescent_Kernel5Ideal Cert.Kernel5Ideal.Gen.facts :=
  fun m ρ _ => Cert.Kernel5Ideal.Gen.frame m ρ

/-- The reference's frame: it has no semaphores, and its run keeps its arguments. -/
theorem frame_reference5 : @Cert.quiescent_Reference5Ideal Cert.Reference5Ideal.Gen.facts := fun m ρ _ =>
  (θ_run Cert.Reference5Ideal.defs _ _).mono
    (fun r h => ⟨fun c => (h c).2, sem_eq_zero_of_no_sems (by decide) r.2⟩)
    (Cert.Reference5Ideal.Value.run (F := Ideal) m ρ)

section
open Cert.Kernel5Ideal Cert.Kernel5Ideal.Gen Cert.Kernel5Ideal.Hand

/-- The weight gradient's run: its result is the reference's value at its arguments, and its arguments are unchanged. -/
theorem kernel5_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0) = Cert.Reference5Ideal.Read.val_main_v15 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (arr_w m c), (h c).2⟩)
    (Cert.Kernel5Ideal.Value.run_blocks m ρ)

end

/-- Arguments replaced by equal ones. -/
theorem cong6 {A0 A1 A2 A3 A4 A5 B : Type} (f : A0 → A1 → A2 → A3 → A4 → A5 → B) {a0 b0 : A0} {a1 b1 : A1} {a2 b2 : A2} {a3 b3 : A3} {a4 b4 : A4} {a5 b5 : A5}
    (h0 : a0 = b0) (h1 : a1 = b1) (h2 : a2 = b2) (h3 : a3 = b3) (h4 : a4 = b4) (h5 : a5 = b5) : f a0 a1 a2 a3 a4 a5 = f b0 b1 b2 b3 b4 b5 := by
  subst h0 h1 h2 h3 h4 h5; rfl

/-- The weight gradient's result is the reference's, for all arguments. -/
theorem algebraic5 : @Cert.algebraic_Kernel5Ideal_Reference5Ideal Cert.Kernel5Ideal.Gen.facts Cert.Reference5Ideal.Gen.facts := by
  intro m g m' g' _ hagree
  refine ⟨fun c => Cert.Reference5Ideal.Read.val_main_v15 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1))
    (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)), kernel5_run m g, ?_⟩
  refine (θ_run Cert.Reference5Ideal.defs _ _).mono (fun r h c => ?_) (Cert.Reference5Ideal.Value.run (F := Ideal) m' g')
  obtain ⟨a0, a1, a2, a3, a4, a5⟩ := hagree c
  obtain ⟨r0, hargs⟩ := h c
  exact ⟨r0.trans ((Cert.Reference5Ideal.Read.val_main_v15_eq _ _ _ _ _ _).trans (cong6 (Cert.Reference5Ideal.Read.val_main_v15 (F := Ideal)) a0 a1 a2 a3 a4 a5)), hargs⟩

end Cert.Proof

end
-- ==== Proof.lean ====
module

public import proofs.«01_k».proof.Defs
public import proofs.«01_k».proof.Proof.Frames
public import proofs.«01_k».proof.Proof.Equation
public import proofs.«01_k».proof.Proof.More
public import proofs.«01_k».proof.Proof.MoreW
public import proofs.«01_k».proof.Proof.MoreA
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel5
public import proofs.«01_k».proof.Proof.Gen.Kernel5Ideal
public import proofs.«01_k».proof.Proof.Gen.Reference5Ideal
public import proofs.«01_k».proof.Proof.Gen.Kernel4
public import proofs.«01_k».proof.Proof.Gen.Kernel4Ideal
public import proofs.«01_k».proof.Proof.Gen.Reference4Ideal

@[expose] public section

noncomputable section

namespace Cert.Proof

open Idealize.ShloMosaic

/-- Everything the certificate claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_finite.facts,
    frame_kernel, frame_kernelIdeal, fun m ρ _ => Cert.KernelIdeal.Hand.frame m ρ, frame_reference,
    fun m ρ _ => frame_reference m ρ trivial,
    frame_kernel2, frame_kernel2Ideal, frame_reference2, frame_kernel3, frame_kernel3Ideal, frame_reference3,
    frame_kernel4, frame_kernel4Ideal, frame_reference4,
    frame_kernel5, frame_kernel5Ideal, frame_reference5,
    trivial, algebraic, trivial, algebraic2, trivial, algebraic3, trivial, algebraic4, trivial, algebraic5⟩

end Cert.Proof

end
